-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def preserves_Kernel_KernelIdeal : Prop :=
  IdealRules.named_const.Statement Cert.KernelIdeal.κ "decay0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "decay1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "decay2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "decay3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  ∧ IdealRules.named_const.Statement Cert.KernelIdeal.κ "decay4" .f32 0x3F1B322A#32 ((2268560858212437164610433925711934373410582837965183998424115932072889031456775415934332958631165982217084171365658533939505628934401906064660409151362039483958284679840648367042721120317582229425251279030418832818292987838711392170461436941262761909390722105699485266572005223949970251724447769284689701216507438358815813025882298809109174153706339626450005908428456226551941838168074331527913534817745321469167246007014538572292256084915688960900068391958392077068485455993514961701480858639654936648349583570824852556419356611498493528242253710534570980455697219242920022717462415340389291846170475473292031866551657954709245694201252631734461050733432357052374907386272875143352917669314561 / 3742053650892133432367999773538322459225928823527575869347258443714776254479140165467924450143929014376701328043796892084250680644651644268919891406030558009514559848402392186697349032657288467726728117428485865736692545611669179323917560467904459270003565249200768855069969069462910188335948939853235385655600614050799627402904169955617680686939217306230732743306013312855692685442723231659949822010462888578091073832552856131420378840703853686445535243055462767679945780563431553986820134725467051353840270015201262955847832589866641019681571016376279703475133297517542073557917754709550486937454822846451632280550418910946262563991699255138480187856382366661603621981981643212128456085078016 : ℝ) : EReal)
  ∧ IdealRules.named_const.Statement Cert.KernelIdeal.κ "decay5" .f32 0x3F475941#32 ((337413325564862239829610804928086933447240624148564312320119597592679839403487791267665388642378988857166811881886615610903735512386530606675784621900115357739141415528218198504857866110789077872469367254629204505150137588880451017301164305113323386844473495852085330340154288874389305164173754807611033561110780084819027640552143993625052734044496551648453411116199448793072157444460210849146970877733016141486801970954679177492885104144776642486135467458438925512340025454736897082062523929258652017781506753483735621598127157820627264606547049520878488333322867294030154779287575939778503295541836721550945990196769803301139613659860258224955069565810259728492587379568098367034380814279745525053775389467085605347823566489644677320545087024435711576643684472144527361 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  ∧ IdealRules.named_const.Statement Cert.KernelIdeal.κ "decay6" .f32 0x3F61E98D#32 ((44275933001788723009087189004406629456185558207332747867642712943151554828468488377533272736418712189278782616161047210929315370508778247758052201719962879660055865696879094863129463372703274884572552420946222213909778378366961041416140341416293514822078426833460711263743283496670773031329350821423162437403679977307148303735076944714526688715579927904995556456488103602634822359829952521232926542320071149931856266817933423703432269042442636032858580050472077676460779471534683163731067775864671927973547035866560192878885873974778802745285399431976029747635377890080788011101117707583578382474146313505569053749097953659852933537062042116297383553651152865866999804689119520382292842101610389821960529978895733465869012223134947820230783957872234774758446564646736680947103568594529505412600577259071717085423168472314596399008611595402721361921 / 50172736614702193476010968685027850385725009984025754056752351897843540836727791310381960450640875187526127726743042077209009344297825833306791007079122302230257203282437017967319010464223403411666028891130176909178099340433873790449696141722887908379766592991480784511678588901194608305160012368897433073139024954535368556203311682248348132318295329821383241290835531777849305693041041567149516614437907351900261582473684954345924071473123034130274134722954297790455372889453739340801985909201900859696589364708551884000815765385640619922267443118020140789791084738002770787452810244806002844531297159666640599398253866669734555265873912487067788750536758461265538846803163989987905143549491955559219046972218912619029970610724339486044100503651037465691797221960390994444244006704352888836634150488713713548412324761281525404083023713782816833536 : ℝ) : EReal)
  ∧ IdealRules.named_const.Statement Cert.KernelIdeal.κ "decay7" .f32 0x3F707CE8#32 ((5457578116896234373030737050452871284503562312287257236323214801751651385767181166262045935084362047640066968508555065439951956828835114042263162471483867696507228786363824495157666995393161444816858802235986693092622421998449934383727349815275774824537430970136290747635382107000611400619314796941200044495037341337739958339767278633581981851381635814001234288720867746515647816205768561016152260853314839726158393455210831329203668369049204017829829231628961380152267663391523655643318692802859432466701375795096617133552303949487394943235439176500258458335258290073276466529400450470673837760073612535465583335327929430972640850246512426587841378155056826710368861273277181943917100220100509703205853547765206963727872532801586378083550670524229871882211418628608409306047472309356393387983960726059074560461678332168608035217511070201043245241749670516273992104254204325815142393764356487650957205914892256259918212890625 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v274) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v2_0)) (v1 : (c : Dev Cert.InprojIdeal.nD) → Buf (Elt Ideal) ((c.tc : Thread Cert.InprojIdeal.nD Cert.InprojIdeal.τ).loc Cert.InprojIdeal.main_v2_1)) (v2 : (c : Dev Cert.InprojIdeal.nD) → Buf (Elt Ideal) ((c.tc : Thread Cert.InprojIdeal.nD Cert.InprojIdeal.τ).loc Cert.InprojIdeal.main_v2_2)) (v3 : (c : Dev Cert.InprojIdeal.nD) → Buf (Elt Ideal) ((c.tc : Thread Cert.InprojIdeal.nD Cert.InprojIdeal.τ).loc Cert.InprojIdeal.main_v2_3)) (v4 : (c : Dev Cert.InprojIdeal.nD) → Buf (Elt Ideal) ((c.tc : Thread Cert.InprojIdeal.nD Cert.InprojIdeal.τ).loc Cert.InprojIdeal.main_v2_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2_0) = v0 c
          ∧ r.2.mem ((c.tc : Thread Cert.InprojIdeal.nD Cert.InprojIdeal.τ).loc Cert.InprojIdeal.main_v2_1) = v1 c
          ∧ r.2.mem ((c.tc : Thread Cert.InprojIdeal.nD Cert.InprojIdeal.τ).loc Cert.InprojIdeal.main_v2_2) = v2 c
          ∧ r.2.mem ((c.tc : Thread Cert.InprojIdeal.nD Cert.InprojIdeal.τ).loc Cert.InprojIdeal.main_v2_3) = v3 c
          ∧ r.2.mem ((c.tc : Thread Cert.InprojIdeal.nD Cert.InprojIdeal.τ).loc Cert.InprojIdeal.main_v2_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v14) = v0 c
          ∧ r.2.mem ((c.tc : Thread Cert.InprojReferenceIdeal.nD Cert.InprojReferenceIdeal.τ).loc Cert.InprojReferenceIdeal.main_v15) = v1 c
          ∧ r.2.mem ((c.tc : Thread Cert.InprojReferenceIdeal.nD Cert.InprojReferenceIdeal.τ).loc Cert.InprojReferenceIdeal.main_v16) = v2 c
          ∧ r.2.mem ((c.tc : Thread Cert.InprojReferenceIdeal.nD Cert.InprojReferenceIdeal.τ).loc Cert.InprojReferenceIdeal.main_v17) = v3 c
          ∧ r.2.mem ((c.tc : Thread Cert.InprojReferenceIdeal.nD Cert.InprojReferenceIdeal.τ).loc Cert.InprojReferenceIdeal.main_v18) = v4 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Inproj (hInproj := hInproj)
    ∧ quiescent_InprojIdeal (hInprojIdeal := hInprojIdeal)
    ∧ quiescent_InprojReferenceIdeal (hInprojReferenceIdeal := hInprojReferenceIdeal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Inproj_InprojIdeal
    ∧ algebraic_InprojIdeal_InprojReferenceIdeal (hInprojIdeal := hInprojIdeal) (hInprojReferenceIdeal := hInprojReferenceIdeal)
-- ==== Pre_finite_qkv.lean ====
abbrev S16384x1024 : Shape := ⟨2, ![16384, 1024]⟩
abbrev S16384x9216 : Shape := ⟨2, ![16384, 9216]⟩
abbrev S16384x2048 : Shape := ⟨2, ![16384, 2048]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩

class Facts : Prop where
  slices_S16384x9216_S16384x2048_0_2048 : S16384x9216.Slices ![0, 2048] S16384x2048
  bitsLt_bf16_f32 : FTy.bits .bf16 < FTy.bits .f32
  bcast_S_S16384x2048 : S_.BroadcastsInDim S16384x2048 (![] : Fin 0 → Fin S16384x2048.rank)

variable [Facts]

def fn {F : FTy → Type} [FloatOps F] (main_arg0 : FVec F S16384x1024 .bf16) (main_arg1 : FVec F S16384x9216 .bf16) (main_arg2 : FVec F S16384x2048 .f32) (main_arg3 : FVec F S1024x1024 .bf16) (main_arg4 : FVec F S1024 .f32) (main_arg5 : FVec F S1024x2048 .bf16) (main_arg6 : FVec F S1024x2048 .bf16) (main_arg7 : FVec F S2048x2048 .bf16) (main_arg8 : FVec F S2048 .f32) : IVec S16384x2048 1 :=
  let main_v0 : FVec F S16384x2048 .bf16 := (extractStridedSlice S16384x2048 ![0, 2048] · slices_S16384x9216_S16384x2048_0_2048) main_arg1
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  main_v4
-- ==== Kernel.lean ====
abbrev S16384x1024 : Shape := ⟨2, ![16384, 1024]⟩
abbrev S16384x9216 : Shape := ⟨2, ![16384, 9216]⟩
abbrev S16384x2048 : Shape := ⟨2, ![16384, 2048]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S1x128 : Shape := ⟨2, ![1, 128]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S64 : Shape := ⟨1, ![64]⟩
abbrev S64x1 : Shape := ⟨2, ![64, 1]⟩
abbrev S64x32 : Shape := ⟨2, ![64, 32]⟩
abbrev S256x128 : Shape := ⟨2, ![256, 128]⟩
abbrev S64x128 : Shape := ⟨2, ![64, 128]⟩
abbrev S64x1x128 : Shape := ⟨3, ![64, 1, 128]⟩
abbrev S8 : Shape := ⟨1, ![8]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S8x1 : Shape := ⟨2, ![8, 1]⟩
abbrev S8x256 : Shape := ⟨2, ![8, 256]⟩
abbrev S8x256x1 : Shape := ⟨3, ![8, 256, 1]⟩
abbrev S8x256x128 : Shape := ⟨3, ![8, 256, 128]⟩
abbrev S256x8 : Shape := ⟨2, ![256, 8]⟩
abbrev S256x8x64 : Shape := ⟨3, ![256, 8, 64]⟩
abbrev S256x512 : Shape := ⟨2, ![256, 512]⟩
abbrev S1x1024 : Shape := ⟨2, ![1, 1024]⟩
abbrev S1x2048 : Shape := ⟨2, ![1, 2048]⟩
abbrev S256x1024 : Shape := ⟨2, ![256, 1024]⟩
abbrev S1x1x128 : Shape := ⟨3, ![1, 1, 128]⟩
abbrev S256x2048 : Shape := ⟨2, ![256, 2048]⟩
abbrev S8x64x128 : Shape := ⟨3, ![8, 64, 128]⟩
abbrev S256x64 : Shape := ⟨2, ![256, 64]⟩
abbrev S1x64x128 : Shape := ⟨3, ![1, 64, 128]⟩
abbrev S1x256x128 : Shape := ⟨3, ![1, 256, 128]⟩

abbrev nBuf : Space → Nat
  | .hbm => 120
  | .vmem => 43
  | .smem => 0
  | _ => 0

abbrev bufTy : (tb : Table) → Fin (tcTables nBuf tb) → BufTy
  | .hbm, ⟨0, _⟩ => ⟨S16384x1024, .bf16⟩
  | .hbm, ⟨1, _⟩ => ⟨S16384x9216, .bf16⟩
  | .hbm, ⟨2, _⟩ => ⟨S16384x2048, .f32⟩
  | .hbm, ⟨3, _⟩ => ⟨S1024x1024, .bf16⟩
  | .hbm, ⟨4, _⟩ => ⟨S1024, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S2048, .f32⟩
  | .hbm, ⟨9, _⟩ => ⟨S1x128, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S256, .f32⟩
  | .hbm, ⟨25, _⟩ => ⟨S256x1, .f32⟩
  | .hbm, ⟨26, _⟩ => ⟨S1x32, .f32⟩
  | .hbm, ⟨27, _⟩ => ⟨S256x32, .f32⟩
  | .hbm, ⟨28, _⟩ => ⟨S256x32, .f32⟩
  | .hbm, ⟨29, _⟩ => ⟨S256x32, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64x1, .f32⟩
  | .hbm, ⟨35, _⟩ => ⟨S1x32, .f32⟩
  | .hbm, ⟨36, _⟩ => ⟨S64x32, .f32⟩
  | .hbm, ⟨37, _⟩ => ⟨S64x32, .f32⟩
  | .hbm, ⟨38, _⟩ => ⟨S64x32, .f32⟩
  | .hbm, ⟨39, _⟩ => ⟨S256x32, .f32⟩
  | .hbm, ⟨40, _⟩ => ⟨S256x128, .f32⟩
  | .hbm, ⟨41, _⟩ => ⟨S256x32, .f32⟩
  | .hbm, ⟨42, _⟩ => ⟨S256x128, .f32⟩
  | .hbm, ⟨43, _⟩ => ⟨S64x32, .f32⟩
  | .hbm, ⟨44, _⟩ => ⟨S64x128, .f32⟩
  | .hbm, ⟨45, _⟩ => ⟨S64x1x128, .f32⟩
  | .hbm, ⟨46, _⟩ => ⟨S64x32, .f32⟩
  | .hbm, ⟨47, _⟩ => ⟨S64x128, .f32⟩
  | .hbm, ⟨48, _⟩ => ⟨S64x1x128, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S8, .f32⟩
  | .hbm, ⟨57, _⟩ => ⟨S8, .f32⟩
  | .hbm, ⟨58, _⟩ => ⟨S256, .i32⟩
  | .hbm, ⟨59, _⟩ => ⟨S_, .i32⟩
  | .hbm, ⟨60, _⟩ => ⟨S256, .i32⟩
  | .hbm, ⟨61, _⟩ => ⟨S256, .i32⟩
  | .hbm, ⟨62, _⟩ => ⟨S256x1, .i32⟩
  | .hbm, ⟨63, _⟩ => ⟨S1x256, .i32⟩
  | .hbm, ⟨64, _⟩ => ⟨S256x256, .i32⟩
  | .hbm, ⟨65, _⟩ => ⟨S256x256, .i32⟩
  | .hbm, ⟨66, _⟩ => ⟨S256x256, .i32⟩
  | .hbm, ⟨67, _⟩ => ⟨S256x256, .f32⟩
  | .hbm, ⟨68, _⟩ => ⟨S256x1, .i32⟩
  | .hbm, ⟨69, _⟩ => ⟨S1x256, .i32⟩
  | .hbm, ⟨70, _⟩ => ⟨S256x256, .i32⟩
  | .hbm, ⟨71, _⟩ => ⟨S256x256, .i32⟩
  | .hbm, ⟨72, _⟩ => ⟨S256x256, .i1⟩
  | .hbm, ⟨73, _⟩ => ⟨S1x256, .i32⟩
  | .hbm, ⟨74, _⟩ => ⟨S256x1, .i32⟩
  | .hbm, ⟨75, _⟩ => ⟨S256x256, .i32⟩
  | .hbm, ⟨76, _⟩ => ⟨S256x256, .i32⟩
  | .hbm, ⟨77, _⟩ => ⟨S256x256, .i1⟩
  | .hbm, ⟨78, _⟩ => ⟨S256x256, .f32⟩
  | .hbm, ⟨79, _⟩ => ⟨S256x256, .f32⟩
  | .hbm, ⟨80, _⟩ => ⟨S256x256, .i1⟩
  | .hbm, ⟨81, _⟩ => ⟨S1x256x256, .i1⟩
  | .hbm, ⟨82, _⟩ => ⟨S1x256x256, .f32⟩
  | .hbm, ⟨83, _⟩ => ⟨S8x1x1, .f32⟩
  | .hbm, ⟨84, _⟩ => ⟨S8x256x256, .f32⟩
  | .hbm, ⟨85, _⟩ => ⟨S8x256x256, .f32⟩
  | .hbm, ⟨86, _⟩ => ⟨S8x256x256, .f32⟩
  | .hbm, ⟨87, _⟩ => ⟨S8x256x256, .f32⟩
  | .hbm, ⟨88, _⟩ => ⟨S_, .f32⟩
  | .hbm, ⟨89, _⟩ => ⟨S_, .f32⟩
  | .hbm, ⟨90, _⟩ => ⟨S8x256x256, .i1⟩
  | .hbm, ⟨91, _⟩ => ⟨S8x256x256, .f32⟩
  | .hbm, ⟨92, _⟩ => ⟨S8x256x256, .f32⟩
  | .hbm, ⟨93, _⟩ => ⟨S256, .f32⟩
  | .hbm, ⟨94, _⟩ => ⟨S_, .f32⟩
  | .hbm, ⟨95, _⟩ => ⟨S256, .f32⟩
  | .hbm, ⟨96, _⟩ => ⟨S256, .f32⟩
  | .hbm, ⟨97, _⟩ => ⟨S1x256, .f32⟩
  | .hbm, ⟨98, _⟩ => ⟨S8x1, .f32⟩
  | .hbm, ⟨99, _⟩ => ⟨S8x256, .f32⟩
  | .hbm, ⟨100, _⟩ => ⟨S8x256, .f32⟩
  | .hbm, ⟨101, _⟩ => ⟨S8x256, .f32⟩
  | .hbm, ⟨102, _⟩ => ⟨S8x256, .f32⟩
  | .hbm, ⟨103, _⟩ => ⟨S_, .f32⟩
  | .hbm, ⟨104, _⟩ => ⟨S256, .f32⟩
  | .hbm, ⟨105, _⟩ => ⟨S256, .f32⟩
  | .hbm, ⟨106, _⟩ => ⟨S1x256, .f32⟩
  | .hbm, ⟨107, _⟩ => ⟨S8x1, .f32⟩
  | .hbm, ⟨108, _⟩ => ⟨S8x256, .f32⟩
  | .hbm, ⟨109, _⟩ => ⟨S8x256, .f32⟩
  | .hbm, ⟨110, _⟩ => ⟨S8x256, .f32⟩
  | .hbm, ⟨111, _⟩ => ⟨S8x256, .f32⟩
  | .hbm, ⟨112, _⟩ => ⟨S8x256x1, .f32⟩
  | .hbm, ⟨113, _⟩ => ⟨S8x256x128, .f32⟩
  | .hbm, ⟨114, _⟩ => ⟨S256x8, .f32⟩
  | .hbm, ⟨115, _⟩ => ⟨S256x8x64, .f32⟩
  | .hbm, ⟨116, _⟩ => ⟨S256x512, .f32⟩
  | .hbm, ⟨117, _⟩ => ⟨S1x1024, .f32⟩
  | .hbm, ⟨118, _⟩ => ⟨S1x2048, .f32⟩
  | .hbm, ⟨119, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x2048, .f32⟩
  | .local _ .vmem, ⟨25, _⟩ => ⟨S256x2048, .f32⟩
  | .local _ .vmem, ⟨26, _⟩ => ⟨S1024x1024, .bf16⟩
  | .local _ .vmem, ⟨27, _⟩ => ⟨S1x1024, .f32⟩
  | .local _ .vmem, ⟨28, _⟩ => ⟨S256x128, .f32⟩
  | .local _ .vmem, ⟨29, _⟩ => ⟨S256x128, .f32⟩
  | .local _ .vmem, ⟨30, _⟩ => ⟨S1x128, .f32⟩
  | .local _ .vmem, ⟨31, _⟩ => ⟨S8x256x256, .f32⟩
  | .local _ .vmem, ⟨32, _⟩ => ⟨S8x256x128, .f32⟩
  | .local _ .vmem, ⟨33, _⟩ => ⟨S256x512, .f32⟩
  | .local _ .vmem, ⟨34, _⟩ => ⟨S1024x2048, .bf16⟩
  | .local _ .vmem, ⟨35, _⟩ => ⟨S1024x2048, .bf16⟩
  | .local _ .vmem, ⟨36, _⟩ => ⟨S2048x2048, .bf16⟩
  | .local _ .vmem, ⟨37, _⟩ => ⟨S1x2048, .f32⟩
  | .local _ .vmem, ⟨38, _⟩ => ⟨S256x2048, .f32⟩
  | .local _ .vmem, ⟨39, _⟩ => ⟨S256x2048, .f32⟩
  | .local _ .vmem, ⟨40, _⟩ => ⟨S8x64x128, .f32⟩
  | .local _ .vmem, ⟨41, _⟩ => ⟨S256x1024, .bf16⟩
  | .local _ .vmem, ⟨42, _⟩ => ⟨S256x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_7 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v70 : Ref sig .tc := ⟨.hbm, 92, rfl⟩
abbrev main_v71 : Ref sig .tc := ⟨.hbm, 93, rfl⟩
abbrev main_cst_8 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_9 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg24_0 : Ref sig .tc := ⟨.vmem, 37, rfl⟩
abbrev cc0_stg25_0 : Ref sig .tc := ⟨.vmem, 38, rfl⟩
abbrev cc0_stg25_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem23_0 : DmaSem sig := 36
abbrev cc0_sem24_0 : DmaSem sig := 37
abbrev cc0_sem25_0 : DmaSem sig := 38
abbrev cc0_sem25_1 : DmaSem sig := 39

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c3_i32 : BitVec 32 := 3#32
  let c0_i32 : BitVec 32 := 0#32
  ![v0.toNat, c3_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let c0_i32 : BitVec 32 := 0#32
  ![v0.toNat, c4_i32.toNat]

def cc0_transform_6 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let c0_i32_0 : BitVec 32 := 0#32
  ![v1.toNat, c6_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c7_i32 : BitVec 32 := 7#32
  let c0_i32_0 : BitVec 32 := 0#32
  ![v1.toNat, c7_i32.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x2048 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x2048 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S2048x2048 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S256x2048 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== KernelIdeal.lean ====
variable {F : FTy → Type} [FloatOps F] [Named F]
def κ : String → Option EReal := fun
  | "decay0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "decay1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "decay2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "decay3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "decay4" => some ((2268560858212437164610433925711934373410582837965183998424115932072889031456775415934332958631165982217084171365658533939505628934401906064660409151362039483958284679840648367042721120317582229425251279030418832818292987838711392170461436941262761909390722105699485266572005223949970251724447769284689701216507438358815813025882298809109174153706339626450005908428456226551941838168074331527913534817745321469167246007014538572292256084915688960900068391958392077068485455993514961701480858639654936648349583570824852556419356611498493528242253710534570980455697219242920022717462415340389291846170475473292031866551657954709245694201252631734461050733432357052374907386272875143352917669314561 / 3742053650892133432367999773538322459225928823527575869347258443714776254479140165467924450143929014376701328043796892084250680644651644268919891406030558009514559848402392186697349032657288467726728117428485865736692545611669179323917560467904459270003565249200768855069969069462910188335948939853235385655600614050799627402904169955617680686939217306230732743306013312855692685442723231659949822010462888578091073832552856131420378840703853686445535243055462767679945780563431553986820134725467051353840270015201262955847832589866641019681571016376279703475133297517542073557917754709550486937454822846451632280550418910946262563991699255138480187856382366661603621981981643212128456085078016 : ℝ) : EReal)
  | "decay5" => some ((337413325564862239829610804928086933447240624148564312320119597592679839403487791267665388642378988857166811881886615610903735512386530606675784621900115357739141415528218198504857866110789077872469367254629204505150137588880451017301164305113323386844473495852085330340154288874389305164173754807611033561110780084819027640552143993625052734044496551648453411116199448793072157444460210849146970877733016141486801970954679177492885104144776642486135467458438925512340025454736897082062523929258652017781506753483735621598127157820627264606547049520878488333322867294030154779287575939778503295541836721550945990196769803301139613659860258224955069565810259728492587379568098367034380814279745525053775389467085605347823566489644677320545087024435711576643684472144527361 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  | "decay6" => some ((44275933001788723009087189004406629456185558207332747867642712943151554828468488377533272736418712189278782616161047210929315370508778247758052201719962879660055865696879094863129463372703274884572552420946222213909778378366961041416140341416293514822078426833460711263743283496670773031329350821423162437403679977307148303735076944714526688715579927904995556456488103602634822359829952521232926542320071149931856266817933423703432269042442636032858580050472077676460779471534683163731067775864671927973547035866560192878885873974778802745285399431976029747635377890080788011101117707583578382474146313505569053749097953659852933537062042116297383553651152865866999804689119520382292842101610389821960529978895733465869012223134947820230783957872234774758446564646736680947103568594529505412600577259071717085423168472314596399008611595402721361921 / 50172736614702193476010968685027850385725009984025754056752351897843540836727791310381960450640875187526127726743042077209009344297825833306791007079122302230257203282437017967319010464223403411666028891130176909178099340433873790449696141722887908379766592991480784511678588901194608305160012368897433073139024954535368556203311682248348132318295329821383241290835531777849305693041041567149516614437907351900261582473684954345924071473123034130274134722954297790455372889453739340801985909201900859696589364708551884000815765385640619922267443118020140789791084738002770787452810244806002844531297159666640599398253866669734555265873912487067788750536758461265538846803163989987905143549491955559219046972218912619029970610724339486044100503651037465691797221960390994444244006704352888836634150488713713548412324761281525404083023713782816833536 : ℝ) : EReal)
  | "decay7" => some ((5457578116896234373030737050452871284503562312287257236323214801751651385767181166262045935084362047640066968508555065439951956828835114042263162471483867696507228786363824495157666995393161444816858802235986693092622421998449934383727349815275774824537430970136290747635382107000611400619314796941200044495037341337739958339767278633581981851381635814001234288720867746515647816205768561016152260853314839726158393455210831329203668369049204017829829231628961380152267663391523655643318692802859432466701375795096617133552303949487394943235439176500258458335258290073276466529400450470673837760073612535465583335327929430972640850246512426587841378155056826710368861273277181943917100220100509703205853547765206963727872532801586378083550670524229871882211418628608409306047472309356393387983960726059074560461678332168608035217511070201043245241749670516273992104254204325815142393764356487650957205914892256259918212890625 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)
  | _ => none
-- ==== ReferenceIdeal.lean ====
abbrev S16384x1024 : Shape := ⟨2, ![16384, 1024]⟩
abbrev S16384x9216 : Shape := ⟨2, ![16384, 9216]⟩
abbrev S16384x2048 : Shape := ⟨2, ![16384, 2048]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S16384x512 : Shape := ⟨2, ![16384, 512]⟩
abbrev S8 : Shape := ⟨1, ![8]⟩
abbrev S_ : Shape := ⟨0, ![]⟩
abbrev S64 : Shape := ⟨1, ![64]⟩
abbrev S1x64 : Shape := ⟨2, ![1, 64]⟩
abbrev S8x1 : Shape := ⟨2, ![8, 1]⟩
abbrev S8x64 : Shape := ⟨2, ![8, 64]⟩
abbrev S16384x8x64 : Shape := ⟨3, ![16384, 8, 64]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S16384x8x32 : Shape := ⟨3, ![16384, 8, 32]⟩
abbrev S256x64x8x64 : Shape := ⟨4, ![256, 64, 8, 64]⟩
abbrev S64x8 : Shape := ⟨2, ![64, 8]⟩
abbrev S1x64x8x1 : Shape := ⟨4, ![1, 64, 8, 1]⟩
abbrev S256x64x8x128 : Shape := ⟨4, ![256, 64, 8, 128]⟩
abbrev S256x8x64x128 : Shape := ⟨4, ![256, 8, 64, 128]⟩
abbrev S8x1x1 : Shape := ⟨3, ![8, 1, 1]⟩
abbrev S8x64x128 : Shape := ⟨3, ![8, 64, 128]⟩
abbrev S1x8x64x128 : Shape := ⟨4, ![1, 8, 64, 128]⟩
abbrev S1x1024 : Shape := ⟨2, ![1, 1024]⟩
abbrev S64x1 : Shape := ⟨2, ![64, 1]⟩
abbrev S64x64 : Shape := ⟨2, ![64, 64]⟩
abbrev S1x64x64 : Shape := ⟨3, ![1, 64, 64]⟩
abbrev S8x64x64 : Shape := ⟨3, ![8, 64, 64]⟩
abbrev S256x8x64x64 : Shape := ⟨4, ![256, 8, 64, 64]⟩
abbrev S1x8x64x64 : Shape := ⟨4, ![1, 8, 64, 64]⟩
abbrev S256x8x128x64 : Shape := ⟨4, ![256, 8, 128, 64]⟩
abbrev S16384x8x128 : Shape := ⟨3, ![16384, 8, 128]⟩
abbrev S16384x8 : Shape := ⟨2, ![16384, 8]⟩
abbrev S16384x8x1 : Shape := ⟨3, ![16384, 8, 1]⟩
abbrev S1x2048 : Shape := ⟨2, ![1, 2048]⟩

abbrev nBuf : Space → Nat
  | .hbm => 361
  | .vmem => 0
  | .smem => 0
  | _ => 0

abbrev hbmTy0_0 (i : Nat) : BufTy := match i % 128 with
  | 0 => ⟨S16384x1024, .bf16⟩
  | 1 => ⟨S16384x9216, .bf16⟩
  | 2 => ⟨S16384x2048, .f32⟩
  | 3 => ⟨S1024x1024, .bf16⟩
  | 4 => ⟨S1024, .f32⟩
  | 5 => ⟨S1024x2048, .bf16⟩
  | 6 => ⟨S1024x2048, .bf16⟩
  | 7 => ⟨S2048x2048, .bf16⟩
  | 8 => ⟨S2048, .f32⟩
  | 9 => ⟨S16384x9216, .f32⟩
  | 10 => ⟨S16384x1024, .f32⟩
  | 11 => ⟨S16384x1024, .f32⟩
  | 12 => ⟨S16384x512, .f32⟩
  | 13 => ⟨S16384x512, .f32⟩
  | 14 => ⟨S16384x1024, .f32⟩
  | 15 => ⟨S16384x1024, .f32⟩
  | 16 => ⟨S16384x2048, .f32⟩
  | 17 => ⟨S16384x2048, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S8, .f32⟩
  | 26 => ⟨S8, .f32⟩
  | 27 => ⟨S64, .f32⟩
  | 28 => ⟨S_, .f32⟩
  | 29 => ⟨S64, .f32⟩
  | 30 => ⟨S64, .f32⟩
  | 31 => ⟨S1x64, .f32⟩
  | 32 => ⟨S8x1, .f32⟩
  | 33 => ⟨S8x64, .f32⟩
  | 34 => ⟨S8x64, .f32⟩
  | 35 => ⟨S8x64, .f32⟩
  | 36 => ⟨S8x64, .f32⟩
  | 37 => ⟨S16384x8x64, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S16384, .f32⟩
  | 53 => ⟨S16384x1, .f32⟩
  | 54 => ⟨S1x32, .f32⟩
  | 55 => ⟨S16384x32, .f32⟩
  | 56 => ⟨S16384x32, .f32⟩
  | 57 => ⟨S16384x32, .f32⟩
  | 58 => ⟨S16384x32, .f32⟩
  | 59 => ⟨S16384x1x32, .f32⟩
  | 60 => ⟨S16384x32, .f32⟩
  | 61 => ⟨S16384x1x32, .f32⟩
  | 62 => ⟨S16384x8x32, .f32⟩
  | 63 => ⟨S16384x8x32, .f32⟩
  | 64 => ⟨S16384x8x32, .f32⟩
  | 65 => ⟨S16384x8x32, .f32⟩
  | 66 => ⟨S16384x8x32, .f32⟩
  | 67 => ⟨S16384x8x32, .f32⟩
  | 68 => ⟨S16384x8x32, .f32⟩
  | 69 => ⟨S16384x8x32, .f32⟩
  | 70 => ⟨S16384x8x32, .f32⟩
  | 71 => ⟨S16384x8x32, .f32⟩
  | 72 => ⟨S16384x8x32, .f32⟩
  | 73 => ⟨S16384x8x32, .f32⟩
  | 74 => ⟨S16384x8x64, .f32⟩
  | 75 => ⟨S_, .f32⟩
  | 76 => ⟨S16384x8x64, .f32⟩
  | 77 => ⟨S16384x8x64, .f32⟩
  | 78 => ⟨S256x64x8x64, .f32⟩
  | 79 => ⟨S64x8, .f32⟩
  | 80 => ⟨S1x64x8x1, .f32⟩
  | 81 => ⟨S256x64x8x64, .f32⟩
  | 82 => ⟨S256x64x8x64, .f32⟩
  | 83 => ⟨S256x64x8x128, .f32⟩
  | 84 => ⟨S256x8x64x128, .f32⟩
  | 85 => ⟨S_, .f32⟩
  | 86 => ⟨S8, .f32⟩
  | 87 => ⟨S8, .f32⟩
  | 88 => ⟨S8, .f32⟩
  | 89 => ⟨S8x1x1, .f32⟩
  | 90 => ⟨S_, .f32⟩
  | 91 => ⟨S8x64x128, .f32⟩
  | 92 => ⟨S_, .f32⟩
  | 93 => ⟨S256x8x64x128, .f32⟩
  | 94 => ⟨S_, .i32⟩
  | 95 => ⟨S256x8x64x128, .f32⟩
  | 96 => ⟨S8x1x1, .f32⟩
  | 97 => ⟨S_, .i32⟩
  | 98 => ⟨S8x64x128, .f32⟩
  | 99 => ⟨S256x8x64x128, .f32⟩
  | 100 => ⟨S_, .i32⟩
  | 101 => ⟨S_, .i1⟩
  | 102 => ⟨S_, .i32⟩
  | 103 => ⟨S_, .i32⟩
  | 104 => ⟨S_, .i32⟩
  | 105 => ⟨S1x8x64x128, .f32⟩
  | 106 => ⟨S8x64x128, .f32⟩
  | 107 => ⟨S8x64x128, .f32⟩
  | 108 => ⟨S8x64x128, .f32⟩
  | 109 => ⟨S8x64x128, .f32⟩
  | 110 => ⟨S1x8x64x128, .f32⟩
  | 111 => ⟨S_, .i32⟩
  | 112 => ⟨S_, .i32⟩
  | 113 => ⟨S_, .i32⟩
  | 114 => ⟨S256x8x64x128, .f32⟩
  | 115 => ⟨S_, .i32⟩
  | 116 => ⟨S_, .i32⟩
  | 117 => ⟨S16384x1024, .f32⟩
  | 118 => ⟨S1024x1024, .f32⟩
  | 119 => ⟨S1024x2048, .f32⟩
  | 120 => ⟨S1024x2048, .f32⟩
  | 121 => ⟨S2048x2048, .f32⟩
  | 122 => ⟨S16384x9216, .f32⟩
  | 123 => ⟨S16384x1024, .f32⟩
  | 124 => ⟨S16384x1024, .f32⟩
  | 125 => ⟨S16384x512, .f32⟩
  | 126 => ⟨S16384x512, .f32⟩
  | 127 => ⟨S16384x1024, .f32⟩
  | _ => ⟨S16384x1024, .bf16⟩

abbrev hbmTy0_1 (i : Nat) : BufTy := match i % 128 with
  | 0 => ⟨S16384x1024, .f32⟩
  | 1 => ⟨S16384x2048, .f32⟩
  | 2 => ⟨S16384x2048, .f32⟩
  | 3 => ⟨S16384x1024, .f32⟩
  | 4 => ⟨S16384x1024, .f32⟩
  | 5 => ⟨S_, .f32⟩
  | 6 => ⟨S16384x1024, .f32⟩
  | 7 => ⟨S16384x1024, .f32⟩
  | 8 => ⟨S16384x1024, .f32⟩
  | 9 => ⟨S_, .f32⟩
  | 10 => ⟨S16384x1024, .f32⟩
  | 11 => ⟨S16384x1024, .f32⟩
  | 12 => ⟨S16384x1024, .f32⟩
  | 13 => ⟨S_, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S_, .f32⟩
  | 30 => ⟨S16384x1024, .f32⟩
  | 31 => ⟨S16384x1024, .f32⟩
  | 32 => ⟨S16384x1024, .f32⟩
  | 33 => ⟨S16384x1024, .f32⟩
  | 34 => ⟨S16384x1024, .f32⟩
  | 35 => ⟨S_, .f32⟩
  | 36 => ⟨S16384x1024, .f32⟩
  | 37 => ⟨S16384x1024, .f32⟩
  | 38 => ⟨S_, .f32⟩
  | 39 => ⟨S16384x1024, .f32⟩
  | 40 => ⟨S16384x1024, .f32⟩
  | 41 => ⟨S16384x1024, .f32⟩
  | 42 => ⟨S16384x1024, .f32⟩
  | 43 => ⟨S8, .f32⟩
  | 44 => ⟨S_, .f32⟩
  | 45 => ⟨S8, .f32⟩
  | 46 => ⟨S8, .f32⟩
  | 47 => ⟨S_, .f32⟩
  | 48 => ⟨S8, .f32⟩
  | 49 => ⟨S8, .f32⟩
  | 50 => ⟨S8, .f32⟩
  | 51 => ⟨S8, .f32⟩
  | 52 => ⟨S64, .f32⟩
  | 53 => ⟨S16384x8x64, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S32, .f32⟩
  | 62 => ⟨S_, .f32⟩
  | 63 => ⟨S32, .f32⟩
  | 64 => ⟨S32, .f32⟩
  | 65 => ⟨S_, .f32⟩
  | 66 => ⟨S32, .f32⟩
  | 67 => ⟨S32, .f32⟩
  | 68 => ⟨S16384, .f32⟩
  | 69 => ⟨S16384x1, .f32⟩
  | 70 => ⟨S1x32, .f32⟩
  | 71 => ⟨S16384x32, .f32⟩
  | 72 => ⟨S16384x32, .f32⟩
  | 73 => ⟨S16384x32, .f32⟩
  | 74 => ⟨S16384x32, .f32⟩
  | 75 => ⟨S16384x1x32, .f32⟩
  | 76 => ⟨S16384x32, .f32⟩
  | 77 => ⟨S16384x1x32, .f32⟩
  | 78 => ⟨S16384x8x32, .f32⟩
  | 79 => ⟨S16384x8x32, .f32⟩
  | 80 => ⟨S16384x8x32, .f32⟩
  | 81 => ⟨S16384x8x32, .f32⟩
  | 82 => ⟨S16384x8x32, .f32⟩
  | 83 => ⟨S16384x8x32, .f32⟩
  | 84 => ⟨S16384x8x32, .f32⟩
  | 85 => ⟨S16384x8x32, .f32⟩
  | 86 => ⟨S16384x8x32, .f32⟩
  | 87 => ⟨S16384x8x32, .f32⟩
  | 88 => ⟨S16384x8x32, .f32⟩
  | 89 => ⟨S16384x8x32, .f32⟩
  | 90 => ⟨S16384x8x64, .f32⟩
  | 91 => ⟨S256x64x8x64, .f32⟩
  | 92 => ⟨S64x1, .f32⟩
  | 93 => ⟨S1x64, .f32⟩
  | 94 => ⟨S64x64, .f32⟩
  | 95 => ⟨S64x64, .f32⟩
  | 96 => ⟨S64x64, .f32⟩
  | 97 => ⟨S64x64, .f32⟩
  | 98 => ⟨S1x64x64, .f32⟩
  | 99 => ⟨S8x1x1, .f32⟩
  | 100 => ⟨S8x64x64, .f32⟩
  | 101 => ⟨S8x64x64, .f32⟩
  | 102 => ⟨S8x64x64, .f32⟩
  | 103 => ⟨S8x64x64, .f32⟩
  | 104 => ⟨S16384x8x64, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S32, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S16384, .f32⟩
  | 120 => ⟨S16384x1, .f32⟩
  | 121 => ⟨S1x32, .f32⟩
  | 122 => ⟨S16384x32, .f32⟩
  | 123 => ⟨S16384x32, .f32⟩
  | 124 => ⟨S16384x32, .f32⟩
  | 125 => ⟨S16384x32, .f32⟩
  | 126 => ⟨S16384x1x32, .f32⟩
  | 127 => ⟨S16384x32, .f32⟩
  | _ => ⟨S16384x1024, .bf16⟩

abbrev hbmTy0_2 (i : Nat) : BufTy := match i % 128 with
  | 0 => ⟨S16384x1x32, .f32⟩
  | 1 => ⟨S16384x8x32, .f32⟩
  | 2 => ⟨S16384x8x32, .f32⟩
  | 3 => ⟨S16384x8x32, .f32⟩
  | 4 => ⟨S16384x8x32, .f32⟩
  | 5 => ⟨S16384x8x32, .f32⟩
  | 6 => ⟨S16384x8x32, .f32⟩
  | 7 => ⟨S16384x8x32, .f32⟩
  | 8 => ⟨S16384x8x32, .f32⟩
  | 9 => ⟨S16384x8x32, .f32⟩
  | 10 => ⟨S16384x8x32, .f32⟩
  | 11 => ⟨S16384x8x32, .f32⟩
  | 12 => ⟨S16384x8x32, .f32⟩
  | 13 => ⟨S16384x8x64, .f32⟩
  | 14 => ⟨S_, .f32⟩
  | 15 => ⟨S16384x8x64, .f32⟩
  | 16 => ⟨S16384x8x64, .f32⟩
  | 17 => ⟨S256x64x8x64, .f32⟩
  | 18 => ⟨S256x8x64x64, .f32⟩
  | 19 => ⟨S1x8x64x64, .f32⟩
  | 20 => ⟨S256x8x64x64, .f32⟩
  | 21 => ⟨S256x8x64x64, .f32⟩
  | 22 => ⟨S256x64x8x128, .f32⟩
  | 23 => ⟨S256x8x128x64, .f32⟩
  | 24 => ⟨S256x64x8x128, .f32⟩
  | 25 => ⟨S_, .f32⟩
  | 26 => ⟨S64, .f32⟩
  | 27 => ⟨S64, .f32⟩
  | 28 => ⟨S1x64, .f32⟩
  | 29 => ⟨S8x1, .f32⟩
  | 30 => ⟨S8x64, .f32⟩
  | 31 => ⟨S8x64, .f32⟩
  | 32 => ⟨S8x64, .f32⟩
  | 33 => ⟨S8x64, .f32⟩
  | 34 => ⟨S256x8x128x64, .f32⟩
  | 35 => ⟨S256x64x8x128, .f32⟩
  | 36 => ⟨S64x8, .f32⟩
  | 37 => ⟨S1x64x8x1, .f32⟩
  | 38 => ⟨S256x64x8x128, .f32⟩
  | 39 => ⟨S256x64x8x128, .f32⟩
  | 40 => ⟨S256x64x8x128, .f32⟩
  | 41 => ⟨S16384x8x128, .f32⟩
  | 42 => ⟨S16384x8x128, .f32⟩
  | 43 => ⟨S_, .f32⟩
  | 44 => ⟨S16384x8, .f32⟩
  | 45 => ⟨S16384x8x1, .f32⟩
  | 46 => ⟨S_, .f32⟩
  | 47 => ⟨S16384x8x1, .f32⟩
  | 48 => ⟨S16384x8x1, .f32⟩
  | 49 => ⟨S_, .f32⟩
  | 50 => ⟨S16384x8x1, .f32⟩
  | 51 => ⟨S16384x8x1, .f32⟩
  | 52 => ⟨S16384x8x1, .f32⟩
  | 53 => ⟨S16384x8x128, .f32⟩
  | 54 => ⟨S16384x8x128, .f32⟩
  | 55 => ⟨S16384x1024, .f32⟩
  | 56 => ⟨S16384x1024, .f32⟩
  | 57 => ⟨S16384x1024, .f32⟩
  | 58 => ⟨S_, .f32⟩
  | 59 => ⟨S16384x1024, .f32⟩
  | 60 => ⟨S16384x1024, .f32⟩
  | 61 => ⟨S_, .f32⟩
  | 62 => ⟨S16384x1024, .f32⟩
  | 63 => ⟨S16384x1024, .f32⟩
  | 64 => ⟨S16384x1024, .f32⟩
  | 65 => ⟨S16384x1024, .f32⟩
  | 66 => ⟨S16384x2048, .f32⟩
  | 67 => ⟨S16384x2048, .f32⟩
  | 68 => ⟨S_, .f32⟩
  | 69 => ⟨S16384x2048, .f32⟩
  | 70 => ⟨S16384x2048, .f32⟩
  | 71 => ⟨S_, .f32⟩
  | 72 => ⟨S16384x2048, .f32⟩
  | 73 => ⟨S16384x2048, .f32⟩
  | 74 => ⟨S16384x2048, .f32⟩
  | 75 => ⟨S16384x2048, .f32⟩
  | 76 => ⟨S16384x2048, .f32⟩
  | 77 => ⟨S16384x2048, .f32⟩
  | 78 => ⟨S_, .f32⟩
  | 79 => ⟨S16384x2048, .f32⟩
  | 80 => ⟨S16384x2048, .f32⟩
  | 81 => ⟨S_, .f32⟩
  | 82 => ⟨S16384x2048, .f32⟩
  | 83 => ⟨S16384x2048, .f32⟩
  | 84 => ⟨S16384x2048, .f32⟩
  | 85 => ⟨S16384x2048, .f32⟩
  | 86 => ⟨S16384x2048, .f32⟩
  | 87 => ⟨S16384x2048, .f32⟩
  | 88 => ⟨S16384x2048, .f32⟩
  | 89 => ⟨S_, .f32⟩
  | 90 => ⟨S16384, .f32⟩
  | 91 => ⟨S16384x1, .f32⟩
  | 92 => ⟨S_, .f32⟩
  | 93 => ⟨S16384x1, .f32⟩
  | 94 => ⟨S16384x1, .f32⟩
  | 95 => ⟨S_, .f32⟩
  | 96 => ⟨S16384x1, .f32⟩
  | 97 => ⟨S16384x1, .f32⟩
  | 98 => ⟨S16384x1, .f32⟩
  | 99 => ⟨S16384x2048, .f32⟩
  | 100 => ⟨S16384x2048, .f32⟩
  | 101 => ⟨S1x2048, .f32⟩
  | 102 => ⟨S16384x2048, .f32⟩
  | 103 => ⟨S16384x2048, .f32⟩
  | 104 => ⟨S16384x2048, .f32⟩
  | _ => ⟨S16384x1024, .bf16⟩

abbrev hbmTy (i : Nat) : BufTy := match i / 128 with
  | 0 => hbmTy0_0 i
  | 1 => hbmTy0_1 i
  | 2 => hbmTy0_2 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_cst_9 : Ref sig .tc := ⟨.hbm, 92, rfl⟩
abbrev main_v73 : Ref sig .tc := ⟨.hbm, 93, rfl⟩
abbrev main_c : Ref sig .tc := ⟨.hbm, 94, rfl⟩
abbrev main_v74_0 : Ref sig .tc := ⟨.hbm, 95, rfl⟩
abbrev main_v74_1 : Ref sig .tc := ⟨.hbm, 96, rfl⟩
abbrev main_v74_2 : Ref sig .tc := ⟨.hbm, 97, rfl⟩
abbrev main_v74_3 : Ref sig .tc := ⟨.hbm, 98, rfl⟩
abbrev main_v74_4 : Ref sig .tc := ⟨.hbm, 99, rfl⟩
abbrev main_while0c_c_42 : Ref sig .tc := ⟨.hbm, 100, rfl⟩
abbrev main_while0c_v275 : Ref sig .tc := ⟨.hbm, 101, rfl⟩
abbrev main_while0b_call0_c : Ref sig .tc := ⟨.hbm, 102, rfl⟩
abbrev main_while0b_call0_c_0 : Ref sig .tc := ⟨.hbm, 103, rfl⟩
abbrev main_while0b_call0_c_1 : Ref sig .tc := ⟨.hbm, 104, rfl⟩
abbrev main_while0b_call0_v0 : Ref sig .tc := ⟨.hbm, 105, rfl⟩
abbrev main_while0b_v275 : Ref sig .tc := ⟨.hbm, 106, rfl⟩
abbrev main_while0b_v276 : Ref sig .tc := ⟨.hbm, 107, rfl⟩
abbrev main_while0b_v277 : Ref sig .tc := ⟨.hbm, 108, rfl⟩
abbrev main_while0b_v278 : Ref sig .tc := ⟨.hbm, 109, rfl⟩
abbrev main_while0b_call1_v0 : Ref sig .tc := ⟨.hbm, 110, rfl⟩
abbrev main_while0b_call1_c : Ref sig .tc := ⟨.hbm, 111, rfl⟩
abbrev main_while0b_call1_c_0 : Ref sig .tc := ⟨.hbm, 112, rfl⟩
abbrev main_while0b_call1_c_1 : Ref sig .tc := ⟨.hbm, 113, rfl⟩
abbrev main_while0b_v279 : Ref sig .tc := ⟨.hbm, 114, rfl⟩
abbrev main_while0b_c_42 : Ref sig .tc := ⟨.hbm, 115, rfl⟩
abbrev main_while0b_v280 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_10 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_11 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_12 : Ref sig .tc := ⟨.hbm, 141, rfl⟩
abbrev main_v97 : Ref sig .tc := ⟨.hbm, 142, rfl⟩
abbrev main_v98 : Ref sig .tc := ⟨.hbm, 143, rfl⟩
abbrev main_cst_13 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_14 : Ref sig .tc := ⟨.hbm, 154, rfl⟩
abbrev main_v108 : Ref sig .tc := ⟨.hbm, 155, rfl⟩
abbrev main_v109 : Ref sig .tc := ⟨.hbm, 156, rfl⟩
abbrev main_cst_15 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_call2_v0 : Ref sig .tc := ⟨.hbm, 161, rfl⟩
abbrev main_call2_v1 : Ref sig .tc := ⟨.hbm, 162, rfl⟩
abbrev main_call2_cst : Ref sig .tc := ⟨.hbm, 163, rfl⟩
abbrev main_call2_v2 : Ref sig .tc := ⟨.hbm, 164, rfl⟩
abbrev main_call2_v3 : Ref sig .tc := ⟨.hbm, 165, rfl⟩
abbrev main_call2_cst_0 : Ref sig .tc := ⟨.hbm, 166, rfl⟩
abbrev main_call2_v4 : Ref sig .tc := ⟨.hbm, 167, rfl⟩
abbrev main_call2_v5 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_16 : Ref sig .tc := ⟨.hbm, 172, rfl⟩
abbrev main_v116 : Ref sig .tc := ⟨.hbm, 173, rfl⟩
abbrev main_v117 : Ref sig .tc := ⟨.hbm, 174, rfl⟩
abbrev main_cst_17 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_cst_18 : Ref sig .tc := ⟨.hbm, 183, rfl⟩
abbrev main_v125 : Ref sig .tc := ⟨.hbm, 184, rfl⟩
abbrev main_v126 : Ref sig .tc := ⟨.hbm, 185, rfl⟩
abbrev main_cst_19 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_cst_20 : Ref sig .tc := ⟨.hbm, 190, rfl⟩
abbrev main_v130 : Ref sig .tc := ⟨.hbm, 191, rfl⟩
abbrev main_v131 : Ref sig .tc := ⟨.hbm, 192, rfl⟩
abbrev main_cst_21 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_cst_22 : Ref sig .tc := ⟨.hbm, 234, rfl⟩
abbrev main_v172 : Ref sig .tc := ⟨.hbm, 235, rfl⟩
abbrev main_v173 : Ref sig .tc := ⟨.hbm, 236, rfl⟩
abbrev main_cst_23 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_cst_24 : Ref sig .tc := ⟨.hbm, 241, rfl⟩
abbrev main_v177 : Ref sig .tc := ⟨.hbm, 242, rfl⟩
abbrev main_v178 : Ref sig .tc := ⟨.hbm, 243, rfl⟩
abbrev main_cst_25 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_cst_26 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_cst_27 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_cst_28 : Ref sig .tc := ⟨.hbm, 299, rfl⟩
abbrev main_v231 : Ref sig .tc := ⟨.hbm, 300, rfl⟩
abbrev main_v232 : Ref sig .tc := ⟨.hbm, 301, rfl⟩
abbrev main_cst_29 : Ref sig .tc := ⟨.hbm, 302, rfl⟩
abbrev main_v233 : Ref sig .tc := ⟨.hbm, 303, rfl⟩
abbrev main_v234 : Ref sig .tc := ⟨.hbm, 304, rfl⟩
abbrev main_cst_30 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_call3_v0 : Ref sig .tc := ⟨.hbm, 312, rfl⟩
abbrev main_call3_v1 : Ref sig .tc := ⟨.hbm, 313, rfl⟩
abbrev main_call3_cst : Ref sig .tc := ⟨.hbm, 314, rfl⟩
abbrev main_call3_v2 : Ref sig .tc := ⟨.hbm, 315, rfl⟩
abbrev main_call3_v3 : Ref sig .tc := ⟨.hbm, 316, rfl⟩
abbrev main_call3_cst_0 : Ref sig .tc := ⟨.hbm, 317, rfl⟩
abbrev main_call3_v4 : Ref sig .tc := ⟨.hbm, 318, rfl⟩
abbrev main_call3_v5 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_cst_31 : Ref sig .tc := ⟨.hbm, 324, rfl⟩
abbrev main_v245 : Ref sig .tc := ⟨.hbm, 325, rfl⟩
abbrev main_v246 : Ref sig .tc := ⟨.hbm, 326, rfl⟩
abbrev main_cst_32 : Ref sig .tc := ⟨.hbm, 327, rfl⟩
abbrev main_v247 : Ref sig .tc := ⟨.hbm, 328, rfl⟩
abbrev main_v248 : Ref sig .tc := ⟨.hbm, 329, rfl⟩
abbrev main_v249 : Ref sig .tc := ⟨.hbm, 330, rfl⟩
abbrev main_v250 : Ref sig .tc := ⟨.hbm, 331, rfl⟩
abbrev main_v251 : Ref sig .tc := ⟨.hbm, 332, rfl⟩
abbrev main_v252 : Ref sig .tc := ⟨.hbm, 333, rfl⟩
abbrev main_cst_33 : Ref sig .tc := ⟨.hbm, 334, rfl⟩
abbrev main_v253 : Ref sig .tc := ⟨.hbm, 335, rfl⟩
abbrev main_v254 : Ref sig .tc := ⟨.hbm, 336, rfl⟩
abbrev main_cst_34 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_cst_35 : Ref sig .tc := ⟨.hbm, 345, rfl⟩
abbrev main_v262 : Ref sig .tc := ⟨.hbm, 346, rfl⟩
abbrev main_v263 : Ref sig .tc := ⟨.hbm, 347, rfl⟩
abbrev main_cst_36 : Ref sig .tc := ⟨.hbm, 348, rfl⟩
abbrev main_v264 : Ref sig .tc := ⟨.hbm, 349, rfl⟩
abbrev main_v265 : Ref sig .tc := ⟨.hbm, 350, rfl⟩
abbrev main_cst_37 : Ref sig .tc := ⟨.hbm, 351, rfl⟩
abbrev main_v266 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩

abbrev nD : Nat := 1
abbrev τ : Topo := Topo.v7x

variable {F : FTy → Type} [FloatOps F]

abbrev main_while0_count : Scf.Loop 32 := ⟨0#32, 256#32, 1#32⟩
-- ==== Inproj.lean ====
abbrev S16384x2048 : Shape := ⟨2, ![16384, 2048]⟩
abbrev S2048 : Shape := ⟨1, ![2048]⟩
abbrev S2048x9216 : Shape := ⟨2, ![2048, 9216]⟩
abbrev S1024x1024 : Shape := ⟨2, ![1024, 1024]⟩
abbrev S1024x2048 : Shape := ⟨2, ![1024, 2048]⟩
abbrev S2048x2048 : Shape := ⟨2, ![2048, 2048]⟩
abbrev S1x2048 : Shape := ⟨2, ![1, 2048]⟩
abbrev S16384x9216 : Shape := ⟨2, ![16384, 9216]⟩
abbrev S2048x2304 : Shape := ⟨2, ![2048, 2304]⟩
abbrev S16x1024 : Shape := ⟨2, ![16, 1024]⟩
abbrev S16x2048 : Shape := ⟨2, ![16, 2048]⟩
abbrev S32x2048 : Shape := ⟨2, ![32, 2048]⟩
abbrev S1024x2304 : Shape := ⟨2, ![1024, 2304]⟩
abbrev S128x2048 : Shape := ⟨2, ![128, 2048]⟩
abbrev S128 : Shape := ⟨1, ![128]⟩
abbrev S128x1 : Shape := ⟨2, ![128, 1]⟩
abbrev S2048x1280 : Shape := ⟨2, ![2048, 1280]⟩
abbrev S128x1280 : Shape := ⟨2, ![128, 1280]⟩
abbrev S2048x1024 : Shape := ⟨2, ![2048, 1024]⟩
abbrev S128x1024 : Shape := ⟨2, ![128, 1024]⟩
abbrev S1024x1280 : Shape := ⟨2, ![1024, 1280]⟩

abbrev nBuf : Space → Nat
  | .hbm => 14
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x9216, .f32⟩
  | .hbm, ⟨3, _⟩ => ⟨S1024x1024, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048x9216, .bf16⟩
  | .hbm, ⟨8, _⟩ => ⟨S1x2048, .f32⟩
  | .hbm, ⟨9, _⟩ => ⟨S16384x9216, .bf16⟩
  | .hbm, ⟨10, _⟩ => ⟨S1024x1024, .bf16⟩
  | .hbm, ⟨11, _⟩ => ⟨S1024x2048, .bf16⟩
  | .hbm, ⟨12, _⟩ => ⟨S1024x2048, .bf16⟩
  | .hbm, ⟨13, _⟩ => ⟨S2048x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2304, .bf16⟩
  | .local _ .vmem, ⟨4, _⟩ => ⟨S2048x2304, .bf16⟩
  | .local _ .vmem, ⟨5, _⟩ => ⟨S16x1024, .f32⟩
  | .local _ .vmem, ⟨6, _⟩ => ⟨S16x1024, .f32⟩
  | .local _ .vmem, ⟨7, _⟩ => ⟨S16x2048, .f32⟩
  | .local _ .vmem, ⟨8, _⟩ => ⟨S16x2048, .f32⟩
  | .local _ .vmem, ⟨9, _⟩ => ⟨S16x2048, .f32⟩
  | .local _ .vmem, ⟨10, _⟩ => ⟨S16x2048, .f32⟩
  | .local _ .vmem, ⟨11, _⟩ => ⟨S32x2048, .f32⟩
  | .local _ .vmem, ⟨12, _⟩ => ⟨S32x2048, .f32⟩
  | .local _ .vmem, ⟨13, _⟩ => ⟨S1024x2304, .bf16⟩
  | .local _ .vmem, ⟨14, _⟩ => ⟨S1024x2304, .bf16⟩
  | .local _ .vmem, ⟨15, _⟩ => ⟨S16x1024, .bf16⟩
  | .local _ .vmem, ⟨16, _⟩ => ⟨S16x1024, .bf16⟩
  | .local _ .vmem, ⟨17, _⟩ => ⟨S16x2048, .bf16⟩
  | .local _ .vmem, ⟨18, _⟩ => ⟨S16x2048, .bf16⟩
  | .local _ .vmem, ⟨19, _⟩ => ⟨S16x2048, .bf16⟩
  | .local _ .vmem, ⟨20, _⟩ => ⟨S16x2048, .bf16⟩
  | .local _ .vmem, ⟨21, _⟩ => ⟨S32x2048, .bf16⟩
  | .local _ .vmem, ⟨22, _⟩ => ⟨S32x2048, .bf16⟩
  | .local _ .vmem, ⟨23, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x2304 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InprojReferenceIdeal.lean ====
abbrev S16384x2048 : Shape := ⟨2, ![16384, 2048]⟩
abbrev S2048 : Shape := ⟨1, ![2048]⟩
abbrev S2048x9216 : Shape := ⟨2, ![2048, 9216]⟩
abbrev S1024x1024 : Shape := ⟨2, ![1024, 1024]⟩
abbrev S1024x2048 : Shape := ⟨2, ![1024, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x9216 : Shape := ⟨2, ![16384, 9216]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x9216, .f32⟩
  | .hbm, ⟨3, _⟩ => ⟨S1024x1024, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x9216, .f32⟩
  | .hbm, ⟨24, _⟩ => ⟨S16384x9216, .bf16⟩
  | .hbm, ⟨25, _⟩ => ⟨S1024x1024, .bf16⟩
  | .hbm, ⟨26, _⟩ => ⟨S1024x2048, .bf16⟩
  | .hbm, ⟨27, _⟩ => ⟨S1024x2048, .bf16⟩
  | .hbm, ⟨28, _⟩ => ⟨S2048x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.TailIdeal.PointA.lean ====
/- One run of the tail's body at the first point, and what it leaves in each buffer. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable
    (c : Dev nD) (i : grid0.Coords) (arg1 : Memref sig .tc .vmem S256x1024 .bf16) (harg1 : arg1.IsWhole)
    (arg2 : Memref sig .tc .vmem S256x1024 .bf16) (harg2 : arg2.IsWhole)
    (arg3 : Memref sig .tc .vmem S256x512 .bf16) (harg3 : arg3.IsWhole)
    (arg4 : Memref sig .tc .vmem S256x512 .bf16) (harg4 : arg4.IsWhole)
    (arg5 : Memref sig .tc .vmem S256x1024 .bf16) (harg5 : arg5.IsWhole)
    (arg6 : Memref sig .tc .vmem S256x1024 .bf16) (harg6 : arg6.IsWhole)
    (arg7 : Memref sig .tc .vmem S1x1x128 .f32) (harg7 : arg7.IsWhole)
    (arg8 : Memref sig .tc .vmem S1x1x128 .f32) (harg8 : arg8.IsWhole)
    (arg9 : Memref sig .tc .vmem S256x1024 .bf16) (harg9 : arg9.IsWhole)
    (arg10 : Memref sig .tc .vmem S256x1024 .bf16) (harg10 : arg10.IsWhole)
    (arg11 : Memref sig .tc .vmem S256x1024 .bf16) (harg11 : arg11.IsWhole)
    (arg12 : Memref sig .tc .vmem S256x1024 .bf16) (harg12 : arg12.IsWhole)
    (arg13 : Memref sig .tc .vmem S256x2048 .f32) (harg13 : arg13.IsWhole)
    (arg14 : Memref sig .tc .vmem S1024x1024 .bf16) (harg14 : arg14.IsWhole)
    (arg15 : Memref sig .tc .vmem S1x1024 .f32) (harg15 : arg15.IsWhole)
    (arg16 : Memref sig .tc .vmem S256x128 .f32) (harg16 : arg16.IsWhole)
    (arg17 : Memref sig .tc .vmem S256x128 .f32) (harg17 : arg17.IsWhole)
    (arg18 : Memref sig .tc .vmem S1x128 .f32) (harg18 : arg18.IsWhole)
    (arg19 : Memref sig .tc .vmem S8x256x256 .f32) (harg19 : arg19.IsWhole)
    (arg20 : Memref sig .tc .vmem S8x256x128 .f32) (harg20 : arg20.IsWhole)
    (arg21 : Memref sig .tc .vmem S256x512 .f32) (harg21 : arg21.IsWhole)
    (arg22 : Memref sig .tc .vmem S1024x2048 .bf16) (harg22 : arg22.IsWhole)
    (arg23 : Memref sig .tc .vmem S1024x2048 .bf16) (harg23 : arg23.IsWhole)
    (arg24 : Memref sig .tc .vmem S2048x2048 .bf16) (harg24 : arg24.IsWhole)
    (arg25 : Memref sig .tc .vmem S1x2048 .f32) (harg25 : arg25.IsWhole)
    (arg26 : Memref sig .tc .vmem S256x2048 .f32) (harg26 : arg26.IsWhole)
    (arg27 : Memref sig .tc .vmem S8x64x128 .f32) (harg27 : arg27.IsWhole)
    (arg28 : Memref sig .tc .vmem S256x1024 .bf16) (harg28 : arg28.IsWhole)
    (arg29 : Memref sig .tc .vmem S256x1024 .bf16) (harg29 : arg29.IsWhole) (hc0 : cond0_0 i)
    (x0 : Vec F S256x1024 .bf16) (x1 : Vec F S256x1024 .bf16) (x2 : Vec F S256x512 .bf16)
    (x3 : Vec F S256x512 .bf16) (x4 : Vec F S256x1024 .bf16) (x5 : Vec F S256x1024 .bf16)
    (x6 : Vec F S1x1x128 .f32) (x7 : Vec F S1x1x128 .f32) (x8 : Vec F S256x1024 .bf16)
    (x9 : Vec F S256x1024 .bf16) (x10 : Vec F S256x1024 .bf16) (x11 : Vec F S256x1024 .bf16)
    (x12 : Vec F S256x2048 .f32) (x13 : Vec F S1024x1024 .bf16) (x14 : Vec F S1x1024 .f32)
    (x15 : Vec F S256x128 .f32) (x16 : Vec F S256x128 .f32) (x17 : Vec F S1x128 .f32)
    (x18 : Vec F S8x256x256 .f32) (x19 : Vec F S8x256x128 .f32) (x20 : Vec F S256x512 .f32)
    (x21 : Vec F S1024x2048 .bf16) (x22 : Vec F S1024x2048 .bf16) (x23 : Vec F S2048x2048 .bf16)
    (x24 : Vec F S1x2048 .f32)

set_option maxHeartbeats 1000000 in
/-- The body's run at the first point: the pieces that its stores leave in the output's buffer (`L25`) and in the three
    scratch buffers (the retention state, the S5 branch and the retention branch of the block before), with the proof that
    the body, given its inputs' buffers at their contents, ends with the inputs as they were and those pieces
    written. -/
def kernelRun0_A :
    Σ' (L25 : List (View.Piece (Elt F) S256x2048 .f32)), Σ' (LS0 : List (View.Piece (Elt F) S8x64x128 .f32)), Σ'
      (LS1 : List (View.Piece (Elt F) S256x1024 .bf16)), { LS2 : List (View.Piece (Elt F) S256x1024 .bf16) //
      ∀ (E : Set ℕ) (K : PUnit → sProp 𝕄),
        iprop(owns (c : Thread nD τ) arg1 fullShare x0 ∗ owns (c : Thread nD τ) arg2 fullShare x1
          ∗ owns (c : Thread nD τ) arg3 fullShare x2 ∗ owns (c : Thread nD τ) arg4 fullShare x3
          ∗ owns (c : Thread nD τ) arg5 fullShare x4 ∗ owns (c : Thread nD τ) arg6 fullShare x5
          ∗ owns (c : Thread nD τ) arg7 fullShare x6 ∗ owns (c : Thread nD τ) arg8 fullShare x7
          ∗ owns (c : Thread nD τ) arg9 fullShare x8 ∗ owns (c : Thread nD τ) arg10 fullShare x9
          ∗ owns (c : Thread nD τ) arg11 fullShare x10 ∗ owns (c : Thread nD τ) arg12 fullShare x11
          ∗ owns (c : Thread nD τ) arg13 fullShare x12 ∗ owns (c : Thread nD τ) arg14 fullShare x13
          ∗ owns (c : Thread nD τ) arg15 fullShare x14 ∗ owns (c : Thread nD τ) arg16 fullShare x15
          ∗ owns (c : Thread nD τ) arg17 fullShare x16 ∗ owns (c : Thread nD τ) arg18 fullShare x17
          ∗ owns (c : Thread nD τ) arg19 fullShare x18 ∗ owns (c : Thread nD τ) arg20 fullShare x19
          ∗ owns (c : Thread nD τ) arg21 fullShare x20 ∗ owns (c : Thread nD τ) arg22 fullShare x21
          ∗ owns (c : Thread nD τ) arg23 fullShare x22 ∗ owns (c : Thread nD τ) arg24 fullShare x23
          ∗ owns (c : Thread nD τ) arg25 fullShare x24 ∗ (∃ d, owns (c : Thread nD τ) arg26 fullShare d)
          ∗ (∃ d, owns (c : Thread nD τ) arg27 fullShare d) ∗ (∃ d, owns (c : Thread nD τ) arg28 fullShare d)
          ∗ (∃ d, owns (c : Thread nD τ) arg29 fullShare d)
            ∗ (iprop(owns (c : Thread nD τ) arg1 fullShare x0 ∗ owns (c : Thread nD τ) arg2 fullShare x1
              ∗ owns (c : Thread nD τ) arg3 fullShare x2 ∗ owns (c : Thread nD τ) arg4 fullShare x3
              ∗ owns (c : Thread nD τ) arg5 fullShare x4 ∗ owns (c : Thread nD τ) arg6 fullShare x5
              ∗ owns (c : Thread nD τ) arg7 fullShare x6 ∗ owns (c : Thread nD τ) arg8 fullShare x7
              ∗ owns (c : Thread nD τ) arg9 fullShare x8 ∗ owns (c : Thread nD τ) arg10 fullShare x9
              ∗ owns (c : Thread nD τ) arg11 fullShare x10 ∗ owns (c : Thread nD τ) arg12 fullShare x11
              ∗ owns (c : Thread nD τ) arg13 fullShare x12 ∗ owns (c : Thread nD τ) arg14 fullShare x13
              ∗ owns (c : Thread nD τ) arg15 fullShare x14 ∗ owns (c : Thread nD τ) arg16 fullShare x15
              ∗ owns (c : Thread nD τ) arg17 fullShare x16 ∗ owns (c : Thread nD τ) arg18 fullShare x17
              ∗ owns (c : Thread nD τ) arg19 fullShare x18 ∗ owns (c : Thread nD τ) arg20 fullShare x19
              ∗ owns (c : Thread nD τ) arg21 fullShare x20 ∗ owns (c : Thread nD τ) arg22 fullShare x21
              ∗ owns (c : Thread nD τ) arg23 fullShare x22 ∗ owns (c : Thread nD τ) arg24 fullShare x23
              ∗ owns (c : Thread nD τ) arg25 fullShare x24
              ∗ (∃ f, arg26.view.loc (c : Thread nD τ) ↦[arg26.view.set]{fullShare} arg26.view.writes (Elt F) f
              L25) ∗ (∃ f, arg27.view.loc (c : Thread nD τ) ↦[arg27.view.set]{fullShare} arg27.view.writes (Elt F)
              f LS0) ∗ (∃ f, arg28.view.loc (c : Thread nD τ) ↦[arg28.view.set]{fullShare} arg28.view.writes (Elt
              F) f LS1) ∗ (∃ f, arg29.view.loc (c : Thread nD τ) ↦[arg29.view.set]{fullShare} arg29.view.writes
              (Elt F) f LS2)) -∗ K ⟨⟩))
          ⊢ wp frame (wpE (defs₀ (F := F)) Variants.none c none) E (cc0_tail i arg1 harg1 arg2 harg2 arg3 harg3
            arg4 harg4 arg5 harg5 arg6 harg6 arg7 harg7 arg8 harg8 arg9 harg9 arg10 harg10 arg11 harg11 arg12
            harg12 arg13 harg13 arg14 harg14 arg15 harg15 arg16 harg16 arg17 harg17 arg18 harg18 arg19 harg19 arg20
            harg20 arg21 harg21 arg22 harg22 arg23 harg23 arg24 harg24 arg25 harg25 arg26 harg26 arg27 harg27 arg28
            harg28 arg29 harg29) K } := by
  refine ⟨?_, ?_, ?_, ?_, fun E K => ?run⟩
  case run =>
    simp only [cc0_tail_eq_skeleton]; unfold cc0_tail_skel
    simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%f12, %hf12, H12⟩, ⟨%f13, %hf13, H13⟩, ⟨%f14, %hf14, H14⟩, ⟨%f15, %hf15, H15⟩, ⟨%f16, %hf16, H16⟩, ⟨%f17,
      %hf17, H17⟩, ⟨%f18, %hf18, H18⟩, ⟨%f19, %hf19, H19⟩, ⟨%f20, %hf20, H20⟩, ⟨%f21, %hf21, H21⟩, ⟨%f22, %hf22,
      H22⟩, ⟨%f23, %hf23, H23⟩, ⟨%f24, %hf24, H24⟩, ⟨%d25, %f25, -, H25⟩, ⟨%ds0, %fs0, -, HS0⟩, ⟨%ds1, %fs1, -,
      HS1⟩, ⟨%ds2, %fs2, -, HS2⟩, Hk⟩
    have ef0 := harg1.eq_unread hf0; subst f0
    have ef1 := harg2.eq_unread hf1; subst f1
    have ef2 := harg3.eq_unread hf2; subst f2
    have ef3 := harg4.eq_unread hf3; subst f3
    have ef4 := harg5.eq_unread hf4; subst f4
    have ef5 := harg6.eq_unread hf5; subst f5
    have ef6 := harg7.eq_unread hf6; subst f6
    have ef7 := harg8.eq_unread hf7; subst f7
    have ef8 := harg9.eq_unread hf8; subst f8
    have ef9 := harg10.eq_unread hf9; subst f9
    have ef10 := harg11.eq_unread hf10; subst f10
    have ef11 := harg12.eq_unread hf11; subst f11
    have ef12 := harg13.eq_unread hf12; subst f12
    have ef13 := harg14.eq_unread hf13; subst f13
    have ef14 := harg15.eq_unread hf14; subst f14
    have ef15 := harg16.eq_unread hf15; subst f15
    have ef16 := harg17.eq_unread hf16; subst f16
    have ef17 := harg18.eq_unread hf17; subst f17
    have ef18 := harg19.eq_unread hf18; subst f18
    have ef19 := harg20.eq_unread hf19; subst f19
    have ef20 := harg21.eq_unread hf20; subst f20
    have ef21 := harg22.eq_unread hf21; subst f21
    have ef22 := harg23.eq_unread hf22; subst f22
    have ef23 := harg24.eq_unread hf23; subst f23
    have ef24 := harg25.eq_unread hf24; subst f24
    sl_exec (disch := first | sl_exact hc0)
    sl_step
    iapply Hk
    isplitl [H0]; · iexists _; isplitr; (ipureintro; exact harg1.read_unread _); iexact H0
    isplitl [H1]; · iexists _; isplitr; (ipureintro; exact harg2.read_unread _); iexact H1
    isplitl [H2]; · iexists _; isplitr; (ipureintro; exact harg3.read_unread _); iexact H2
    isplitl [H3]; · iexists _; isplitr; (ipureintro; exact harg4.read_unread _); iexact H3
    isplitl [H4]; · iexists _; isplitr; (ipureintro; exact harg5.read_unread _); iexact H4
    isplitl [H5]; · iexists _; isplitr; (ipureintro; exact harg6.read_unread _); iexact H5
    isplitl [H6]; · iexists _; isplitr; (ipureintro; exact harg7.read_unread _); iexact H6
    isplitl [H7]; · iexists _; isplitr; (ipureintro; exact harg8.read_unread _); iexact H7
    isplitl [H8]; · iexists _; isplitr; (ipureintro; exact harg9.read_unread _); iexact H8
    isplitl [H9]; · iexists _; isplitr; (ipureintro; exact harg10.read_unread _); iexact H9
    isplitl [H10]; · iexists _; isplitr; (ipureintro; exact harg11.read_unread _); iexact H10
    isplitl [H11]; · iexists _; isplitr; (ipureintro; exact harg12.read_unread _); iexact H11
    isplitl [H12]; · iexists _; isplitr; (ipureintro; exact harg13.read_unread _); iexact H12
    isplitl [H13]; · iexists _; isplitr; (ipureintro; exact harg14.read_unread _); iexact H13
    isplitl [H14]; · iexists _; isplitr; (ipureintro; exact harg15.read_unread _); iexact H14
    isplitl [H15]; · iexists _; isplitr; (ipureintro; exact harg16.read_unread _); iexact H15
    isplitl [H16]; · iexists _; isplitr; (ipureintro; exact harg17.read_unread _); iexact H16
    isplitl [H17]; · iexists _; isplitr; (ipureintro; exact harg18.read_unread _); iexact H17
    isplitl [H18]; · iexists _; isplitr; (ipureintro; exact harg19.read_unread _); iexact H18
    isplitl [H19]; · iexists _; isplitr; (ipureintro; exact harg20.read_unread _); iexact H19
    isplitl [H20]; · iexists _; isplitr; (ipureintro; exact harg21.read_unread _); iexact H20
    isplitl [H21]; · iexists _; isplitr; (ipureintro; exact harg22.read_unread _); iexact H21
    isplitl [H22]; · iexists _; isplitr; (ipureintro; exact harg23.read_unread _); iexact H22
    isplitl [H23]; · iexists _; isplitr; (ipureintro; exact harg24.read_unread _); iexact H23
    isplitl [H24]; · iexists _; isplitr; (ipureintro; exact harg25.read_unread _); iexact H24
    isplitl [H25]; · iexists _; iexact H25
    isplitl [HS0]; · iexists _; iexact HS0
    isplitl [HS1]; · iexists _; iexact HS1
    iexists _; iexact HS2

/-- The pieces of the output tile its buffer. -/
theorem cover0_A_25 (y : S256x2048.Idx) :
    ∃ pc ∈ (kernelRun0_A c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24 arg25
      harg25 arg26 harg26 arg27 harg27 arg28 harg28 arg29 harg29 hc0 x0 x1 x2 x3 x4 x5 x6 x7 x8 x9 x10 x11 x12 x13
      x14 x15 x16 x17 x18 x19 x20 x21 x22 x23 x24).1, y ∈ pc.1.set :=
  View.cover_of_tiledL (kernelRun0_A c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 arg20 harg20 arg21 harg21 arg22 harg22 arg23 harg23 arg24 harg24
    arg25 harg25 arg26 harg26 arg27 harg27 arg28 harg28 arg29 harg29 hc0 x0 x1 x2 x3 x4 x5 x6 x7 x8 x9 x10 x11 x12
    x13 x14 x15 x16 x17 x18 x19 x20 x21 x22 x23 x24).1 S256x2048.size (by sl_kernel_rfl) y

/-- What the output holds afterwards: its pieces read back. -/
def out0_A_25 : Vec F S256x2048 .f32 :=
  VO0_25.read (Elt F) (VO0_25.writes (Elt F) VO0_25.junk (kernelRun0_A c i arg1 harg1 arg2 harg2 arg3 harg3 arg4
    harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21
    arg22 harg22 arg23 harg23 arg24 harg24 arg25 harg25 arg26 harg26 arg27 harg27 arg28 harg28 arg29 harg29 hc0 x0
    x1 x2 x3 x4 x5 x6 x7 x8 x9 x10 x11 x12 x13 x14 x15 x16 x17 x18 x19 x20 x21 x22 x23 x24).1)

/-- The pieces of the retention state tile its buffer. -/
theorem scover0_A_0 (y : S8x64x128.Idx) :
    ∃ pc ∈ (kernelRun0_A c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24 arg25
      harg25 arg26 harg26 arg27 harg27 arg28 harg28 arg29 harg29 hc0 x0 x1 x2 x3 x4 x5 x6 x7 x8 x9 x10 x11 x12 x13
      x14 x15 x16 x17 x18 x19 x20 x21 x22 x23 x24).2.1, y ∈ pc.1.set :=
  View.cover_of_wholeMem (kernelRun0_A c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 arg20 harg20 arg21 harg21 arg22 harg22 arg23 harg23 arg24 harg24
    arg25 harg25 arg26 harg26 arg27 harg27 arg28 harg28 arg29 harg29 hc0 x0 x1 x2 x3 x4 x5 x6 x7 x8 x9 x10 x11 x12
    x13 x14 x15 x16 x17 x18 x19 x20 x21 x22 x23 x24).2.1 (by sl_whole_mem) y

/-- What the retention state holds afterwards: its pieces read back. -/
def sout0_A_0 : Vec F S8x64x128 .f32 :=
  VS0_0.read (Elt F) (VS0_0.writes (Elt F) VS0_0.junk (kernelRun0_A c i arg1 harg1 arg2 harg2 arg3 harg3 arg4 harg4
    arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22
    harg22 arg23 harg23 arg24 harg24 arg25 harg25 arg26 harg26 arg27 harg27 arg28 harg28 arg29 harg29 hc0 x0 x1 x2
    x3 x4 x5 x6 x7 x8 x9 x10 x11 x12 x13 x14 x15 x16 x17 x18 x19 x20 x21 x22 x23 x24).2.1)

/-- The pieces of the S5 branch tile its buffer. -/
theorem scover0_A_1 (y : S256x1024.Idx) :
    ∃ pc ∈ (kernelRun0_A c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24 arg25
      harg25 arg26 harg26 arg27 harg27 arg28 harg28 arg29 harg29 hc0 x0 x1 x2 x3 x4 x5 x6 x7 x8 x9 x10 x11 x12 x13
      x14 x15 x16 x17 x18 x19 x20 x21 x22 x23 x24).2.2.1, y ∈ pc.1.set :=
  View.cover_of_tiledL (kernelRun0_A c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 arg20 harg20 arg21 harg21 arg22 harg22 arg23 harg23 arg24 harg24
    arg25 harg25 arg26 harg26 arg27 harg27 arg28 harg28 arg29 harg29 hc0 x0 x1 x2 x3 x4 x5 x6 x7 x8 x9 x10 x11 x12
    x13 x14 x15 x16 x17 x18 x19 x20 x21 x22 x23 x24).2.2.1 S256x1024.size (by sl_kernel_rfl) y

/-- What the S5 branch holds afterwards: its pieces read back. -/
def sout0_A_1 : Vec F S256x1024 .bf16 :=
  VS0_1.read (Elt F) (VS0_1.writes (Elt F) VS0_1.junk (kernelRun0_A c i arg1 harg1 arg2 harg2 arg3 harg3 arg4 harg4
    arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22
    harg22 arg23 harg23 arg24 harg24 arg25 harg25 arg26 harg26 arg27 harg27 arg28 harg28 arg29 harg29 hc0 x0 x1 x2
    x3 x4 x5 x6 x7 x8 x9 x10 x11 x12 x13 x14 x15 x16 x17 x18 x19 x20 x21 x22 x23 x24).2.2.1)

/-- The pieces of the retention branch tile its buffer. -/
theorem scover0_A_2 (y : S256x1024.Idx) :
    ∃ pc ∈ (kernelRun0_A c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24 arg25
      harg25 arg26 harg26 arg27 harg27 arg28 harg28 arg29 harg29 hc0 x0 x1 x2 x3 x4 x5 x6 x7 x8 x9 x10 x11 x12 x13
      x14 x15 x16 x17 x18 x19 x20 x21 x22 x23 x24).2.2.2.1, y ∈ pc.1.set :=
  View.cover_of_wholeMem (kernelRun0_A c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 arg20 harg20 arg21 harg21 arg22 harg22 arg23 harg23 arg24 harg24
    arg25 harg25 arg26 harg26 arg27 harg27 arg28 harg28 arg29 harg29 hc0 x0 x1 x2 x3 x4 x5 x6 x7 x8 x9 x10 x11 x12
    x13 x14 x15 x16 x17 x18 x19 x20 x21 x22 x23 x24).2.2.2.1 (by sl_whole_mem) y

/-- What the retention branch holds afterwards: its pieces read back. -/
def sout0_A_2 : Vec F S256x1024 .bf16 :=
  VS0_2.read (Elt F) (VS0_2.writes (Elt F) VS0_2.junk (kernelRun0_A c i arg1 harg1 arg2 harg2 arg3 harg3 arg4 harg4
    arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22
    harg22 arg23 harg23 arg24 harg24 arg25 harg25 arg26 harg26 arg27 harg27 arg28 harg28 arg29 harg29 hc0 x0 x1 x2
    x3 x4 x5 x6 x7 x8 x9 x10 x11 x12 x13 x14 x15 x16 x17 x18 x19 x20 x21 x22 x23 x24).2.2.2.1)

end Cert.KernelIdeal.Gen

end
-- ==== Proof.TailIdeal.PointB.lean ====
/- One run of the tail's body at every point but the first, and what it leaves in each buffer. -/
module

public import proofs.«01_k».proof.Proof.TailIdeal.PointA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable
    (c : Dev nD) (i : grid0.Coords) (arg1 : Memref sig .tc .vmem S256x1024 .bf16) (harg1 : arg1.IsWhole)
    (arg2 : Memref sig .tc .vmem S256x1024 .bf16) (harg2 : arg2.IsWhole)
    (arg3 : Memref sig .tc .vmem S256x512 .bf16) (harg3 : arg3.IsWhole)
    (arg4 : Memref sig .tc .vmem S256x512 .bf16) (harg4 : arg4.IsWhole)
    (arg5 : Memref sig .tc .vmem S256x1024 .bf16) (harg5 : arg5.IsWhole)
    (arg6 : Memref sig .tc .vmem S256x1024 .bf16) (harg6 : arg6.IsWhole)
    (arg7 : Memref sig .tc .vmem S1x1x128 .f32) (harg7 : arg7.IsWhole)
    (arg8 : Memref sig .tc .vmem S1x1x128 .f32) (harg8 : arg8.IsWhole)
    (arg9 : Memref sig .tc .vmem S256x1024 .bf16) (harg9 : arg9.IsWhole)
    (arg10 : Memref sig .tc .vmem S256x1024 .bf16) (harg10 : arg10.IsWhole)
    (arg11 : Memref sig .tc .vmem S256x1024 .bf16) (harg11 : arg11.IsWhole)
    (arg12 : Memref sig .tc .vmem S256x1024 .bf16) (harg12 : arg12.IsWhole)
    (arg13 : Memref sig .tc .vmem S256x2048 .f32) (harg13 : arg13.IsWhole)
    (arg14 : Memref sig .tc .vmem S1024x1024 .bf16) (harg14 : arg14.IsWhole)
    (arg15 : Memref sig .tc .vmem S1x1024 .f32) (harg15 : arg15.IsWhole)
    (arg16 : Memref sig .tc .vmem S256x128 .f32) (harg16 : arg16.IsWhole)
    (arg17 : Memref sig .tc .vmem S256x128 .f32) (harg17 : arg17.IsWhole)
    (arg18 : Memref sig .tc .vmem S1x128 .f32) (harg18 : arg18.IsWhole)
    (arg19 : Memref sig .tc .vmem S8x256x256 .f32) (harg19 : arg19.IsWhole)
    (arg20 : Memref sig .tc .vmem S8x256x128 .f32) (harg20 : arg20.IsWhole)
    (arg21 : Memref sig .tc .vmem S256x512 .f32) (harg21 : arg21.IsWhole)
    (arg22 : Memref sig .tc .vmem S1024x2048 .bf16) (harg22 : arg22.IsWhole)
    (arg23 : Memref sig .tc .vmem S1024x2048 .bf16) (harg23 : arg23.IsWhole)
    (arg24 : Memref sig .tc .vmem S2048x2048 .bf16) (harg24 : arg24.IsWhole)
    (arg25 : Memref sig .tc .vmem S1x2048 .f32) (harg25 : arg25.IsWhole)
    (arg26 : Memref sig .tc .vmem S256x2048 .f32) (harg26 : arg26.IsWhole)
    (arg27 : Memref sig .tc .vmem S8x64x128 .f32) (harg27 : arg27.IsWhole)
    (arg28 : Memref sig .tc .vmem S256x1024 .bf16) (harg28 : arg28.IsWhole)
    (arg29 : Memref sig .tc .vmem S256x1024 .bf16) (harg29 : arg29.IsWhole) (hc0 : ¬cond0_0 i)
    (x0 : Vec F S256x1024 .bf16) (x1 : Vec F S256x1024 .bf16) (x2 : Vec F S256x512 .bf16)
    (x3 : Vec F S256x512 .bf16) (x4 : Vec F S256x1024 .bf16) (x5 : Vec F S256x1024 .bf16)
    (x6 : Vec F S1x1x128 .f32) (x7 : Vec F S1x1x128 .f32) (x8 : Vec F S256x1024 .bf16)
    (x9 : Vec F S256x1024 .bf16) (x10 : Vec F S256x1024 .bf16) (x11 : Vec F S256x1024 .bf16)
    (x12 : Vec F S256x2048 .f32) (x13 : Vec F S1024x1024 .bf16) (x14 : Vec F S1x1024 .f32)
    (x15 : Vec F S256x128 .f32) (x16 : Vec F S256x128 .f32) (x17 : Vec F S1x128 .f32)
    (x18 : Vec F S8x256x256 .f32) (x19 : Vec F S8x256x128 .f32) (x20 : Vec F S256x512 .f32)
    (x21 : Vec F S1024x2048 .bf16) (x22 : Vec F S1024x2048 .bf16) (x23 : Vec F S2048x2048 .bf16)
    (x24 : Vec F S1x2048 .f32) (xs0 : Vec F S8x64x128 .f32) (xs1 : Vec F S256x1024 .bf16)
    (xs2 : Vec F S256x1024 .bf16)

set_option maxHeartbeats 1200000 in
/-- The body's run at every point but the first: the pieces that its stores leave in the output's buffer (`L25`) and in the three
    scratch buffers (the retention state, the S5 branch and the retention branch of the block before), with the proof that
    the body, given its inputs' buffers at their contents, and the scratch at what the point before left, ends with the inputs as they were and those pieces
    written. -/
def kernelRun0_B :
    Σ' (L25 : List (View.Piece (Elt F) S256x2048 .f32)), Σ' (LS0 : List (View.Piece (Elt F) S8x64x128 .f32)), Σ'
      (LS1 : List (View.Piece (Elt F) S256x1024 .bf16)), { LS2 : List (View.Piece (Elt F) S256x1024 .bf16) //
      ∀ (E : Set ℕ) (K : PUnit → sProp 𝕄),
        iprop(owns (c : Thread nD τ) arg1 fullShare x0 ∗ owns (c : Thread nD τ) arg2 fullShare x1
          ∗ owns (c : Thread nD τ) arg3 fullShare x2 ∗ owns (c : Thread nD τ) arg4 fullShare x3
          ∗ owns (c : Thread nD τ) arg5 fullShare x4 ∗ owns (c : Thread nD τ) arg6 fullShare x5
          ∗ owns (c : Thread nD τ) arg7 fullShare x6 ∗ owns (c : Thread nD τ) arg8 fullShare x7
          ∗ owns (c : Thread nD τ) arg9 fullShare x8 ∗ owns (c : Thread nD τ) arg10 fullShare x9
          ∗ owns (c : Thread nD τ) arg11 fullShare x10 ∗ owns (c : Thread nD τ) arg12 fullShare x11
          ∗ owns (c : Thread nD τ) arg13 fullShare x12 ∗ owns (c : Thread nD τ) arg14 fullShare x13
          ∗ owns (c : Thread nD τ) arg15 fullShare x14 ∗ owns (c : Thread nD τ) arg16 fullShare x15
          ∗ owns (c : Thread nD τ) arg17 fullShare x16 ∗ owns (c : Thread nD τ) arg18 fullShare x17
          ∗ owns (c : Thread nD τ) arg19 fullShare x18 ∗ owns (c : Thread nD τ) arg20 fullShare x19
          ∗ owns (c : Thread nD τ) arg21 fullShare x20 ∗ owns (c : Thread nD τ) arg22 fullShare x21
          ∗ owns (c : Thread nD τ) arg23 fullShare x22 ∗ owns (c : Thread nD τ) arg24 fullShare x23
          ∗ owns (c : Thread nD τ) arg25 fullShare x24 ∗ (∃ d, owns (c : Thread nD τ) arg26 fullShare d)
          ∗ owns (c : Thread nD τ) arg27 fullShare xs0 ∗ owns (c : Thread nD τ) arg28 fullShare xs1
          ∗ owns (c : Thread nD τ) arg29 fullShare xs2
            ∗ (iprop(owns (c : Thread nD τ) arg1 fullShare x0 ∗ owns (c : Thread nD τ) arg2 fullShare x1
              ∗ owns (c : Thread nD τ) arg3 fullShare x2 ∗ owns (c : Thread nD τ) arg4 fullShare x3
              ∗ owns (c : Thread nD τ) arg5 fullShare x4 ∗ owns (c : Thread nD τ) arg6 fullShare x5
              ∗ owns (c : Thread nD τ) arg7 fullShare x6 ∗ owns (c : Thread nD τ) arg8 fullShare x7
              ∗ owns (c : Thread nD τ) arg9 fullShare x8 ∗ owns (c : Thread nD τ) arg10 fullShare x9
              ∗ owns (c : Thread nD τ) arg11 fullShare x10 ∗ owns (c : Thread nD τ) arg12 fullShare x11
              ∗ owns (c : Thread nD τ) arg13 fullShare x12 ∗ owns (c : Thread nD τ) arg14 fullShare x13
              ∗ owns (c : Thread nD τ) arg15 fullShare x14 ∗ owns (c : Thread nD τ) arg16 fullShare x15
              ∗ owns (c : Thread nD τ) arg17 fullShare x16 ∗ owns (c : Thread nD τ) arg18 fullShare x17
              ∗ owns (c : Thread nD τ) arg19 fullShare x18 ∗ owns (c : Thread nD τ) arg20 fullShare x19
              ∗ owns (c : Thread nD τ) arg21 fullShare x20 ∗ owns (c : Thread nD τ) arg22 fullShare x21
              ∗ owns (c : Thread nD τ) arg23 fullShare x22 ∗ owns (c : Thread nD τ) arg24 fullShare x23
              ∗ owns (c : Thread nD τ) arg25 fullShare x24
              ∗ (∃ f, arg26.view.loc (c : Thread nD τ) ↦[arg26.view.set]{fullShare} arg26.view.writes (Elt F) f
              L25) ∗ (∃ f, arg27.view.loc (c : Thread nD τ) ↦[arg27.view.set]{fullShare} arg27.view.writes (Elt F)
              f LS0) ∗ (∃ f, arg28.view.loc (c : Thread nD τ) ↦[arg28.view.set]{fullShare} arg28.view.writes (Elt
              F) f LS1) ∗ (∃ f, arg29.view.loc (c : Thread nD τ) ↦[arg29.view.set]{fullShare} arg29.view.writes
              (Elt F) f LS2)) -∗ K ⟨⟩))
          ⊢ wp frame (wpE (defs₀ (F := F)) Variants.none c none) E (cc0_tail i arg1 harg1 arg2 harg2 arg3 harg3
            arg4 harg4 arg5 harg5 arg6 harg6 arg7 harg7 arg8 harg8 arg9 harg9 arg10 harg10 arg11 harg11 arg12
            harg12 arg13 harg13 arg14 harg14 arg15 harg15 arg16 harg16 arg17 harg17 arg18 harg18 arg19 harg19 arg20
            harg20 arg21 harg21 arg22 harg22 arg23 harg23 arg24 harg24 arg25 harg25 arg26 harg26 arg27 harg27 arg28
            harg28 arg29 harg29) K } := by
  refine ⟨?_, ?_, ?_, ?_, fun E K => ?run⟩
  case run =>
    simp only [cc0_tail_eq_skeleton]; unfold cc0_tail_skel
    simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%f12, %hf12, H12⟩, ⟨%f13, %hf13, H13⟩, ⟨%f14, %hf14, H14⟩, ⟨%f15, %hf15, H15⟩, ⟨%f16, %hf16, H16⟩, ⟨%f17,
      %hf17, H17⟩, ⟨%f18, %hf18, H18⟩, ⟨%f19, %hf19, H19⟩, ⟨%f20, %hf20, H20⟩, ⟨%f21, %hf21, H21⟩, ⟨%f22, %hf22,
      H22⟩, ⟨%f23, %hf23, H23⟩, ⟨%f24, %hf24, H24⟩, ⟨%d25, %f25, -, H25⟩, ⟨%fs0, %hfs0, HS0⟩, ⟨%fs1, %hfs1, HS1⟩,
      ⟨%fs2, %hfs2, HS2⟩, Hk⟩
    have ef0 := harg1.eq_unread hf0; subst f0
    have ef1 := harg2.eq_unread hf1; subst f1
    have ef2 := harg3.eq_unread hf2; subst f2
    have ef3 := harg4.eq_unread hf3; subst f3
    have ef4 := harg5.eq_unread hf4; subst f4
    have ef5 := harg6.eq_unread hf5; subst f5
    have ef6 := harg7.eq_unread hf6; subst f6
    have ef7 := harg8.eq_unread hf7; subst f7
    have ef8 := harg9.eq_unread hf8; subst f8
    have ef9 := harg10.eq_unread hf9; subst f9
    have ef10 := harg11.eq_unread hf10; subst f10
    have ef11 := harg12.eq_unread hf11; subst f11
    have ef12 := harg13.eq_unread hf12; subst f12
    have ef13 := harg14.eq_unread hf13; subst f13
    have ef14 := harg15.eq_unread hf14; subst f14
    have ef15 := harg16.eq_unread hf15; subst f15
    have ef16 := harg17.eq_unread hf16; subst f16
    have ef17 := harg18.eq_unread hf17; subst f17
    have ef18 := harg19.eq_unread hf18; subst f18
    have ef19 := harg20.eq_unread hf19; subst f19
    have ef20 := harg21.eq_unread hf20; subst f20
    have ef21 := harg22.eq_unread hf21; subst f21
    have ef22 := harg23.eq_unread hf22; subst f22
    have ef23 := harg24.eq_unread hf23; subst f23
    have ef24 := harg25.eq_unread hf24; subst f24; obtain rfl := harg27.eq_unread hfs0; obtain rfl :=
    harg28.eq_unread hfs1; obtain rfl := harg29.eq_unread hfs2
    sl_exec (disch := first | sl_exact hc0)
    sl_step
    iapply Hk
    isplitl [H0]; · iexists _; isplitr; (ipureintro; exact harg1.read_unread _); iexact H0
    isplitl [H1]; · iexists _; isplitr; (ipureintro; exact harg2.read_unread _); iexact H1
    isplitl [H2]; · iexists _; isplitr; (ipureintro; exact harg3.read_unread _); iexact H2
    isplitl [H3]; · iexists _; isplitr; (ipureintro; exact harg4.read_unread _); iexact H3
    isplitl [H4]; · iexists _; isplitr; (ipureintro; exact harg5.read_unread _); iexact H4
    isplitl [H5]; · iexists _; isplitr; (ipureintro; exact harg6.read_unread _); iexact H5
    isplitl [H6]; · iexists _; isplitr; (ipureintro; exact harg7.read_unread _); iexact H6
    isplitl [H7]; · iexists _; isplitr; (ipureintro; exact harg8.read_unread _); iexact H7
    isplitl [H8]; · iexists _; isplitr; (ipureintro; exact harg9.read_unread _); iexact H8
    isplitl [H9]; · iexists _; isplitr; (ipureintro; exact harg10.read_unread _); iexact H9
    isplitl [H10]; · iexists _; isplitr; (ipureintro; exact harg11.read_unread _); iexact H10
    isplitl [H11]; · iexists _; isplitr; (ipureintro; exact harg12.read_unread _); iexact H11
    isplitl [H12]; · iexists _; isplitr; (ipureintro; exact harg13.read_unread _); iexact H12
    isplitl [H13]; · iexists _; isplitr; (ipureintro; exact harg14.read_unread _); iexact H13
    isplitl [H14]; · iexists _; isplitr; (ipureintro; exact harg15.read_unread _); iexact H14
    isplitl [H15]; · iexists _; isplitr; (ipureintro; exact harg16.read_unread _); iexact H15
    isplitl [H16]; · iexists _; isplitr; (ipureintro; exact harg17.read_unread _); iexact H16
    isplitl [H17]; · iexists _; isplitr; (ipureintro; exact harg18.read_unread _); iexact H17
    isplitl [H18]; · iexists _; isplitr; (ipureintro; exact harg19.read_unread _); iexact H18
    isplitl [H19]; · iexists _; isplitr; (ipureintro; exact harg20.read_unread _); iexact H19
    isplitl [H20]; · iexists _; isplitr; (ipureintro; exact harg21.read_unread _); iexact H20
    isplitl [H21]; · iexists _; isplitr; (ipureintro; exact harg22.read_unread _); iexact H21
    isplitl [H22]; · iexists _; isplitr; (ipureintro; exact harg23.read_unread _); iexact H22
    isplitl [H23]; · iexists _; isplitr; (ipureintro; exact harg24.read_unread _); iexact H23
    isplitl [H24]; · iexists _; isplitr; (ipureintro; exact harg25.read_unread _); iexact H24
    isplitl [H25]; · iexists _; iexact H25
    isplitl [HS0]; · iexists _; iexact HS0
    isplitl [HS1]; · iexists _; iexact HS1
    iexists _; iexact HS2

/-- The pieces of the output tile its buffer. -/
theorem cover0_B_25 (y : S256x2048.Idx) :
    ∃ pc ∈ (kernelRun0_B c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24 arg25
      harg25 arg26 harg26 arg27 harg27 arg28 harg28 arg29 harg29 hc0 x0 x1 x2 x3 x4 x5 x6 x7 x8 x9 x10 x11 x12 x13
      x14 x15 x16 x17 x18 x19 x20 x21 x22 x23 x24 xs0 xs1 xs2).1, y ∈ pc.1.set :=
  View.cover_of_tiledL (kernelRun0_B c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 arg20 harg20 arg21 harg21 arg22 harg22 arg23 harg23 arg24 harg24
    arg25 harg25 arg26 harg26 arg27 harg27 arg28 harg28 arg29 harg29 hc0 x0 x1 x2 x3 x4 x5 x6 x7 x8 x9 x10 x11 x12
    x13 x14 x15 x16 x17 x18 x19 x20 x21 x22 x23 x24 xs0 xs1 xs2).1 S256x2048.size (by sl_kernel_rfl) y

/-- What the output holds afterwards: its pieces read back. -/
def out0_B_25 : Vec F S256x2048 .f32 :=
  VO0_25.read (Elt F) (VO0_25.writes (Elt F) VO0_25.junk (kernelRun0_B c i arg1 harg1 arg2 harg2 arg3 harg3 arg4
    harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21
    arg22 harg22 arg23 harg23 arg24 harg24 arg25 harg25 arg26 harg26 arg27 harg27 arg28 harg28 arg29 harg29 hc0 x0
    x1 x2 x3 x4 x5 x6 x7 x8 x9 x10 x11 x12 x13 x14 x15 x16 x17 x18 x19 x20 x21 x22 x23 x24 xs0 xs1 xs2).1)

/-- The pieces of the retention state tile its buffer. -/
theorem scover0_B_0 (y : S8x64x128.Idx) :
    ∃ pc ∈ (kernelRun0_B c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24 arg25
      harg25 arg26 harg26 arg27 harg27 arg28 harg28 arg29 harg29 hc0 x0 x1 x2 x3 x4 x5 x6 x7 x8 x9 x10 x11 x12 x13
      x14 x15 x16 x17 x18 x19 x20 x21 x22 x23 x24 xs0 xs1 xs2).2.1, y ∈ pc.1.set :=
  View.cover_of_tiledL (kernelRun0_B c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 arg20 harg20 arg21 harg21 arg22 harg22 arg23 harg23 arg24 harg24
    arg25 harg25 arg26 harg26 arg27 harg27 arg28 harg28 arg29 harg29 hc0 x0 x1 x2 x3 x4 x5 x6 x7 x8 x9 x10 x11 x12
    x13 x14 x15 x16 x17 x18 x19 x20 x21 x22 x23 x24 xs0 xs1 xs2).2.1 S1x64x128.size (by sl_kernel_rfl) y

/-- What the retention state holds afterwards: its pieces read back. -/
def sout0_B_0 : Vec F S8x64x128 .f32 :=
  VS0_0.read (Elt F) (VS0_0.writes (Elt F) VS0_0.junk (kernelRun0_B c i arg1 harg1 arg2 harg2 arg3 harg3 arg4 harg4
    arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22
    harg22 arg23 harg23 arg24 harg24 arg25 harg25 arg26 harg26 arg27 harg27 arg28 harg28 arg29 harg29 hc0 x0 x1 x2
    x3 x4 x5 x6 x7 x8 x9 x10 x11 x12 x13 x14 x15 x16 x17 x18 x19 x20 x21 x22 x23 x24 xs0 xs1 xs2).2.1)

/-- The pieces of the S5 branch tile its buffer. -/
theorem scover0_B_1 (y : S256x1024.Idx) :
    ∃ pc ∈ (kernelRun0_B c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24 arg25
      harg25 arg26 harg26 arg27 harg27 arg28 harg28 arg29 harg29 hc0 x0 x1 x2 x3 x4 x5 x6 x7 x8 x9 x10 x11 x12 x13
      x14 x15 x16 x17 x18 x19 x20 x21 x22 x23 x24 xs0 xs1 xs2).2.2.1, y ∈ pc.1.set :=
  View.cover_of_tiledL (kernelRun0_B c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 arg20 harg20 arg21 harg21 arg22 harg22 arg23 harg23 arg24 harg24
    arg25 harg25 arg26 harg26 arg27 harg27 arg28 harg28 arg29 harg29 hc0 x0 x1 x2 x3 x4 x5 x6 x7 x8 x9 x10 x11 x12
    x13 x14 x15 x16 x17 x18 x19 x20 x21 x22 x23 x24 xs0 xs1 xs2).2.2.1 S256x1024.size (by sl_kernel_rfl) y

/-- What the S5 branch holds afterwards: its pieces read back. -/
def sout0_B_1 : Vec F S256x1024 .bf16 :=
  VS0_1.read (Elt F) (VS0_1.writes (Elt F) VS0_1.junk (kernelRun0_B c i arg1 harg1 arg2 harg2 arg3 harg3 arg4 harg4
    arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22
    harg22 arg23 harg23 arg24 harg24 arg25 harg25 arg26 harg26 arg27 harg27 arg28 harg28 arg29 harg29 hc0 x0 x1 x2
    x3 x4 x5 x6 x7 x8 x9 x10 x11 x12 x13 x14 x15 x16 x17 x18 x19 x20 x21 x22 x23 x24 xs0 xs1 xs2).2.2.1)

/-- The pieces of the retention branch tile its buffer. -/
theorem scover0_B_2 (y : S256x1024.Idx) :
    ∃ pc ∈ (kernelRun0_B c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24 arg25
      harg25 arg26 harg26 arg27 harg27 arg28 harg28 arg29 harg29 hc0 x0 x1 x2 x3 x4 x5 x6 x7 x8 x9 x10 x11 x12 x13
      x14 x15 x16 x17 x18 x19 x20 x21 x22 x23 x24 xs0 xs1 xs2).2.2.2.1, y ∈ pc.1.set :=
  View.cover_of_tiledL (kernelRun0_B c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 arg20 harg20 arg21 harg21 arg22 harg22 arg23 harg23 arg24 harg24
    arg25 harg25 arg26 harg26 arg27 harg27 arg28 harg28 arg29 harg29 hc0 x0 x1 x2 x3 x4 x5 x6 x7 x8 x9 x10 x11 x12
    x13 x14 x15 x16 x17 x18 x19 x20 x21 x22 x23 x24 xs0 xs1 xs2).2.2.2.1 S256x128.size (by sl_kernel_rfl) y

/-- What the retention branch holds afterwards: its pieces read back. -/
def sout0_B_2 : Vec F S256x1024 .bf16 :=
  VS0_2.read (Elt F) (VS0_2.writes (Elt F) VS0_2.junk (kernelRun0_B c i arg1 harg1 arg2 harg2 arg3 harg3 arg4 harg4
    arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22
    harg22 arg23 harg23 arg24 harg24 arg25 harg25 arg26 harg26 arg27 harg27 arg28 harg28 arg29 harg29 hc0 x0 x1 x2
    x3 x4 x5 x6 x7 x8 x9 x10 x11 x12 x13 x14 x15 x16 x17 x18 x19 x20 x21 x22 x23 x24 xs0 xs1 xs2).2.2.2.1)

end Cert.KernelIdeal.Gen

end
-- ==== Proof.TailIdeal.Frame.lean ====
/- The tail's frame: what its buffers hold point by point, the body's obligation, the launch and the frame claim. -/
module

public import proofs.«01_k».proof.Proof.TailIdeal.PointB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the first point leaves in the output's buffer and in the scratch. -/
def leftA (c : Dev nD) (t : Fin cfg0.N) (h0 : t.val % 65 = 0) :
    Vec F S256x2048 .f32 × Vec F S8x64x128 .f32 × Vec F S256x1024 .bf16 × Vec F S256x1024 .bf16 :=
  (out0_A_25 c (grid0.coords t) (ms0_0 t) (hs0_0 t) (ms0_1 t) (hs0_1 t) (ms0_2 t) (hs0_2 t) (ms0_3 t) (hs0_3 t)
     (ms0_4 t) (hs0_4 t) (ms0_5 t) (hs0_5 t) (ms0_6 t) (hs0_6 t) (ms0_7 t) (hs0_7 t) (ms0_8 t) (hs0_8 t)
     (ms0_9 t) (hs0_9 t) (ms0_10 t) (hs0_10 t) (ms0_11 t) (hs0_11 t) (ms0_12 t) (hs0_12 t) (ms0_13 t) (hs0_13 t)
     (ms0_14 t) (hs0_14 t) (ms0_15 t) (hs0_15 t) (ms0_16 t) (hs0_16 t) (ms0_17 t) (hs0_17 t) (ms0_18 t)
     (hs0_18 t) (ms0_19 t) (hs0_19 t) (ms0_20 t) (hs0_20 t) (ms0_21 t) (hs0_21 t) (ms0_22 t) (hs0_22 t)
     (ms0_23 t) (hs0_23 t) (ms0_24 t) (hs0_24 t) (ms0_25 t) (hs0_25 t) scM0_0 (Memref.isWhole_whole _) scM0_1
     (Memref.isWhole_whole _) scM0_2 (Memref.isWhole_whole _) ((hcond0_0 t).mpr h0) (iblk m c 0 t) (iblk m c 1 t)
     (iblk m c 2 t) (iblk m c 3 t) (iblk m c 4 t) (iblk m c 5 t) (iblk m c 6 t) (iblk m c 7 t) (iblk m c 8 t)
     (iblk m c 9 t) (iblk m c 10 t) (iblk m c 11 t) (iblk m c 12 t) (iblk m c 13 t) (iblk m c 14 t)
     (iblk m c 15 t) (iblk m c 16 t) (iblk m c 17 t) (iblk m c 18 t) (iblk m c 19 t) (iblk m c 20 t)
     (iblk m c 21 t) (iblk m c 22 t) (iblk m c 23 t) (iblk m c 24 t),
   sout0_A_0 c (grid0.coords t) (ms0_0 t) (hs0_0 t) (ms0_1 t) (hs0_1 t) (ms0_2 t) (hs0_2 t) (ms0_3 t) (hs0_3 t)
     (ms0_4 t) (hs0_4 t) (ms0_5 t) (hs0_5 t) (ms0_6 t) (hs0_6 t) (ms0_7 t) (hs0_7 t) (ms0_8 t) (hs0_8 t)
     (ms0_9 t) (hs0_9 t) (ms0_10 t) (hs0_10 t) (ms0_11 t) (hs0_11 t) (ms0_12 t) (hs0_12 t) (ms0_13 t) (hs0_13 t)
     (ms0_14 t) (hs0_14 t) (ms0_15 t) (hs0_15 t) (ms0_16 t) (hs0_16 t) (ms0_17 t) (hs0_17 t) (ms0_18 t)
     (hs0_18 t) (ms0_19 t) (hs0_19 t) (ms0_20 t) (hs0_20 t) (ms0_21 t) (hs0_21 t) (ms0_22 t) (hs0_22 t)
     (ms0_23 t) (hs0_23 t) (ms0_24 t) (hs0_24 t) (ms0_25 t) (hs0_25 t) scM0_0 (Memref.isWhole_whole _) scM0_1
     (Memref.isWhole_whole _) scM0_2 (Memref.isWhole_whole _) ((hcond0_0 t).mpr h0) (iblk m c 0 t) (iblk m c 1 t)
     (iblk m c 2 t) (iblk m c 3 t) (iblk m c 4 t) (iblk m c 5 t) (iblk m c 6 t) (iblk m c 7 t) (iblk m c 8 t)
     (iblk m c 9 t) (iblk m c 10 t) (iblk m c 11 t) (iblk m c 12 t) (iblk m c 13 t) (iblk m c 14 t)
     (iblk m c 15 t) (iblk m c 16 t) (iblk m c 17 t) (iblk m c 18 t) (iblk m c 19 t) (iblk m c 20 t)
     (iblk m c 21 t) (iblk m c 22 t) (iblk m c 23 t) (iblk m c 24 t),
   sout0_A_1 c (grid0.coords t) (ms0_0 t) (hs0_0 t) (ms0_1 t) (hs0_1 t) (ms0_2 t) (hs0_2 t) (ms0_3 t) (hs0_3 t)
     (ms0_4 t) (hs0_4 t) (ms0_5 t) (hs0_5 t) (ms0_6 t) (hs0_6 t) (ms0_7 t) (hs0_7 t) (ms0_8 t) (hs0_8 t)
     (ms0_9 t) (hs0_9 t) (ms0_10 t) (hs0_10 t) (ms0_11 t) (hs0_11 t) (ms0_12 t) (hs0_12 t) (ms0_13 t) (hs0_13 t)
     (ms0_14 t) (hs0_14 t) (ms0_15 t) (hs0_15 t) (ms0_16 t) (hs0_16 t) (ms0_17 t) (hs0_17 t) (ms0_18 t)
     (hs0_18 t) (ms0_19 t) (hs0_19 t) (ms0_20 t) (hs0_20 t) (ms0_21 t) (hs0_21 t) (ms0_22 t) (hs0_22 t)
     (ms0_23 t) (hs0_23 t) (ms0_24 t) (hs0_24 t) (ms0_25 t) (hs0_25 t) scM0_0 (Memref.isWhole_whole _) scM0_1
     (Memref.isWhole_whole _) scM0_2 (Memref.isWhole_whole _) ((hcond0_0 t).mpr h0) (iblk m c 0 t) (iblk m c 1 t)
     (iblk m c 2 t) (iblk m c 3 t) (iblk m c 4 t) (iblk m c 5 t) (iblk m c 6 t) (iblk m c 7 t) (iblk m c 8 t)
     (iblk m c 9 t) (iblk m c 10 t) (iblk m c 11 t) (iblk m c 12 t) (iblk m c 13 t) (iblk m c 14 t)
     (iblk m c 15 t) (iblk m c 16 t) (iblk m c 17 t) (iblk m c 18 t) (iblk m c 19 t) (iblk m c 20 t)
     (iblk m c 21 t) (iblk m c 22 t) (iblk m c 23 t) (iblk m c 24 t),
   sout0_A_2 c (grid0.coords t) (ms0_0 t) (hs0_0 t) (ms0_1 t) (hs0_1 t) (ms0_2 t) (hs0_2 t) (ms0_3 t) (hs0_3 t)
     (ms0_4 t) (hs0_4 t) (ms0_5 t) (hs0_5 t) (ms0_6 t) (hs0_6 t) (ms0_7 t) (hs0_7 t) (ms0_8 t) (hs0_8 t)
     (ms0_9 t) (hs0_9 t) (ms0_10 t) (hs0_10 t) (ms0_11 t) (hs0_11 t) (ms0_12 t) (hs0_12 t) (ms0_13 t) (hs0_13 t)
     (ms0_14 t) (hs0_14 t) (ms0_15 t) (hs0_15 t) (ms0_16 t) (hs0_16 t) (ms0_17 t) (hs0_17 t) (ms0_18 t)
     (hs0_18 t) (ms0_19 t) (hs0_19 t) (ms0_20 t) (hs0_20 t) (ms0_21 t) (hs0_21 t) (ms0_22 t) (hs0_22 t)
     (ms0_23 t) (hs0_23 t) (ms0_24 t) (hs0_24 t) (ms0_25 t) (hs0_25 t) scM0_0 (Memref.isWhole_whole _) scM0_1
     (Memref.isWhole_whole _) scM0_2 (Memref.isWhole_whole _) ((hcond0_0 t).mpr h0) (iblk m c 0 t) (iblk m c 1 t)
     (iblk m c 2 t) (iblk m c 3 t) (iblk m c 4 t) (iblk m c 5 t) (iblk m c 6 t) (iblk m c 7 t) (iblk m c 8 t)
     (iblk m c 9 t) (iblk m c 10 t) (iblk m c 11 t) (iblk m c 12 t) (iblk m c 13 t) (iblk m c 14 t)
     (iblk m c 15 t) (iblk m c 16 t) (iblk m c 17 t) (iblk m c 18 t) (iblk m c 19 t) (iblk m c 20 t)
     (iblk m c 21 t) (iblk m c 22 t) (iblk m c 23 t) (iblk m c 24 t))

/-- What another point leaves there, over the scratch `s` that it finds. -/
def leftB (c : Dev nD) (t : Fin cfg0.N) (h0 : ¬t.val % 65 = 0) (s : Vec F S8x64x128 .f32 × Vec F S256x1024 .bf16 × Vec F S256x1024 .bf16) :
    Vec F S256x2048 .f32 × Vec F S8x64x128 .f32 × Vec F S256x1024 .bf16 × Vec F S256x1024 .bf16 :=
  (out0_B_25 c (grid0.coords t) (ms0_0 t) (hs0_0 t) (ms0_1 t) (hs0_1 t) (ms0_2 t) (hs0_2 t) (ms0_3 t) (hs0_3 t)
     (ms0_4 t) (hs0_4 t) (ms0_5 t) (hs0_5 t) (ms0_6 t) (hs0_6 t) (ms0_7 t) (hs0_7 t) (ms0_8 t) (hs0_8 t)
     (ms0_9 t) (hs0_9 t) (ms0_10 t) (hs0_10 t) (ms0_11 t) (hs0_11 t) (ms0_12 t) (hs0_12 t) (ms0_13 t) (hs0_13 t)
     (ms0_14 t) (hs0_14 t) (ms0_15 t) (hs0_15 t) (ms0_16 t) (hs0_16 t) (ms0_17 t) (hs0_17 t) (ms0_18 t)
     (hs0_18 t) (ms0_19 t) (hs0_19 t) (ms0_20 t) (hs0_20 t) (ms0_21 t) (hs0_21 t) (ms0_22 t) (hs0_22 t)
     (ms0_23 t) (hs0_23 t) (ms0_24 t) (hs0_24 t) (ms0_25 t) (hs0_25 t) scM0_0 (Memref.isWhole_whole _) scM0_1
     (Memref.isWhole_whole _) scM0_2 (Memref.isWhole_whole _) (fun h => h0 ((hcond0_0 t).mp h)) (iblk m c 0 t)
     (iblk m c 1 t) (iblk m c 2 t) (iblk m c 3 t) (iblk m c 4 t) (iblk m c 5 t) (iblk m c 6 t) (iblk m c 7 t)
     (iblk m c 8 t) (iblk m c 9 t) (iblk m c 10 t) (iblk m c 11 t) (iblk m c 12 t) (iblk m c 13 t)
     (iblk m c 14 t) (iblk m c 15 t) (iblk m c 16 t) (iblk m c 17 t) (iblk m c 18 t) (iblk m c 19 t)
     (iblk m c 20 t) (iblk m c 21 t) (iblk m c 22 t) (iblk m c 23 t) (iblk m c 24 t) s.1 s.2.1 s.2.2,
   sout0_B_0 c (grid0.coords t) (ms0_0 t) (hs0_0 t) (ms0_1 t) (hs0_1 t) (ms0_2 t) (hs0_2 t) (ms0_3 t) (hs0_3 t)
     (ms0_4 t) (hs0_4 t) (ms0_5 t) (hs0_5 t) (ms0_6 t) (hs0_6 t) (ms0_7 t) (hs0_7 t) (ms0_8 t) (hs0_8 t)
     (ms0_9 t) (hs0_9 t) (ms0_10 t) (hs0_10 t) (ms0_11 t) (hs0_11 t) (ms0_12 t) (hs0_12 t) (ms0_13 t) (hs0_13 t)
     (ms0_14 t) (hs0_14 t) (ms0_15 t) (hs0_15 t) (ms0_16 t) (hs0_16 t) (ms0_17 t) (hs0_17 t) (ms0_18 t)
     (hs0_18 t) (ms0_19 t) (hs0_19 t) (ms0_20 t) (hs0_20 t) (ms0_21 t) (hs0_21 t) (ms0_22 t) (hs0_22 t)
     (ms0_23 t) (hs0_23 t) (ms0_24 t) (hs0_24 t) (ms0_25 t) (hs0_25 t) scM0_0 (Memref.isWhole_whole _) scM0_1
     (Memref.isWhole_whole _) scM0_2 (Memref.isWhole_whole _) (fun h => h0 ((hcond0_0 t).mp h)) (iblk m c 0 t)
     (iblk m c 1 t) (iblk m c 2 t) (iblk m c 3 t) (iblk m c 4 t) (iblk m c 5 t) (iblk m c 6 t) (iblk m c 7 t)
     (iblk m c 8 t) (iblk m c 9 t) (iblk m c 10 t) (iblk m c 11 t) (iblk m c 12 t) (iblk m c 13 t)
     (iblk m c 14 t) (iblk m c 15 t) (iblk m c 16 t) (iblk m c 17 t) (iblk m c 18 t) (iblk m c 19 t)
     (iblk m c 20 t) (iblk m c 21 t) (iblk m c 22 t) (iblk m c 23 t) (iblk m c 24 t) s.1 s.2.1 s.2.2,
   sout0_B_1 c (grid0.coords t) (ms0_0 t) (hs0_0 t) (ms0_1 t) (hs0_1 t) (ms0_2 t) (hs0_2 t) (ms0_3 t) (hs0_3 t)
     (ms0_4 t) (hs0_4 t) (ms0_5 t) (hs0_5 t) (ms0_6 t) (hs0_6 t) (ms0_7 t) (hs0_7 t) (ms0_8 t) (hs0_8 t)
     (ms0_9 t) (hs0_9 t) (ms0_10 t) (hs0_10 t) (ms0_11 t) (hs0_11 t) (ms0_12 t) (hs0_12 t) (ms0_13 t) (hs0_13 t)
     (ms0_14 t) (hs0_14 t) (ms0_15 t) (hs0_15 t) (ms0_16 t) (hs0_16 t) (ms0_17 t) (hs0_17 t) (ms0_18 t)
     (hs0_18 t) (ms0_19 t) (hs0_19 t) (ms0_20 t) (hs0_20 t) (ms0_21 t) (hs0_21 t) (ms0_22 t) (hs0_22 t)
     (ms0_23 t) (hs0_23 t) (ms0_24 t) (hs0_24 t) (ms0_25 t) (hs0_25 t) scM0_0 (Memref.isWhole_whole _) scM0_1
     (Memref.isWhole_whole _) scM0_2 (Memref.isWhole_whole _) (fun h => h0 ((hcond0_0 t).mp h)) (iblk m c 0 t)
     (iblk m c 1 t) (iblk m c 2 t) (iblk m c 3 t) (iblk m c 4 t) (iblk m c 5 t) (iblk m c 6 t) (iblk m c 7 t)
     (iblk m c 8 t) (iblk m c 9 t) (iblk m c 10 t) (iblk m c 11 t) (iblk m c 12 t) (iblk m c 13 t)
     (iblk m c 14 t) (iblk m c 15 t) (iblk m c 16 t) (iblk m c 17 t) (iblk m c 18 t) (iblk m c 19 t)
     (iblk m c 20 t) (iblk m c 21 t) (iblk m c 22 t) (iblk m c 23 t) (iblk m c 24 t) s.1 s.2.1 s.2.2,
   sout0_B_2 c (grid0.coords t) (ms0_0 t) (hs0_0 t) (ms0_1 t) (hs0_1 t) (ms0_2 t) (hs0_2 t) (ms0_3 t) (hs0_3 t)
     (ms0_4 t) (hs0_4 t) (ms0_5 t) (hs0_5 t) (ms0_6 t) (hs0_6 t) (ms0_7 t) (hs0_7 t) (ms0_8 t) (hs0_8 t)
     (ms0_9 t) (hs0_9 t) (ms0_10 t) (hs0_10 t) (ms0_11 t) (hs0_11 t) (ms0_12 t) (hs0_12 t) (ms0_13 t) (hs0_13 t)
     (ms0_14 t) (hs0_14 t) (ms0_15 t) (hs0_15 t) (ms0_16 t) (hs0_16 t) (ms0_17 t) (hs0_17 t) (ms0_18 t)
     (hs0_18 t) (ms0_19 t) (hs0_19 t) (ms0_20 t) (hs0_20 t) (ms0_21 t) (hs0_21 t) (ms0_22 t) (hs0_22 t)
     (ms0_23 t) (hs0_23 t) (ms0_24 t) (hs0_24 t) (ms0_25 t) (hs0_25 t) scM0_0 (Memref.isWhole_whole _) scM0_1
     (Memref.isWhole_whole _) scM0_2 (Memref.isWhole_whole _) (fun h => h0 ((hcond0_0 t).mp h)) (iblk m c 0 t)
     (iblk m c 1 t) (iblk m c 2 t) (iblk m c 3 t) (iblk m c 4 t) (iblk m c 5 t) (iblk m c 6 t) (iblk m c 7 t)
     (iblk m c 8 t) (iblk m c 9 t) (iblk m c 10 t) (iblk m c 11 t) (iblk m c 12 t) (iblk m c 13 t)
     (iblk m c 14 t) (iblk m c 15 t) (iblk m c 16 t) (iblk m c 17 t) (iblk m c 18 t) (iblk m c 19 t)
     (iblk m c 20 t) (iblk m c 21 t) (iblk m c 22 t) (iblk m c 23 t) (iblk m c 24 t) s.1 s.2.1 s.2.2)

/-- What the output's buffer and the scratch hold after each point: the scratch is carried from point to point. -/
def outsAt0 (c : Dev nD) : (n : ℕ) → n < cfg0.N →
    Vec F S256x2048 .f32 × Vec F S8x64x128 .f32 × Vec F S256x1024 .bf16 × Vec F S256x1024 .bf16
  | 0, hn => leftA m c ⟨0, hn⟩ (Nat.zero_mod _)
  | n + 1, hn =>
    if h0 : (n + 1) % 65 = 0 then leftA m c ⟨n + 1, hn⟩ h0
    else leftB m c ⟨n + 1, hn⟩ h0 (outsAt0 c n (Nat.lt_of_succ_lt hn)).2

/-- After the first point. -/
theorem outsAt0_A (c : Dev nD) (t : Fin cfg0.N) (h0 : t.val % 65 = 0) :
    outsAt0 m c t.val t.isLt = leftA m c t h0 := by
  obtain ⟨n, hn⟩ := t
  cases n with
  | zero => exact rfl
  | succ n => exact dif_pos h0

/-- After another point, over what the point before left. -/
theorem outsAt0_B (c : Dev nD) (t : Fin cfg0.N) (h0 : ¬t.val % 65 = 0) :
    outsAt0 m c t.val t.isLt
      = leftB m c t h0 (outsAt0 m c (t.val - 1) (Nat.lt_of_le_of_lt (Nat.sub_le _ _) t.isLt)).2 := by
  obtain ⟨n, hn⟩ := t
  cases n with
  | zero => exact absurd (Nat.zero_mod _) h0
  | succ n => exact dif_neg h0

/-- The invariant before position `n`: at the start every scratch holds anything; afterwards each holds what the
    point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` the scratch is at what that point left. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first the scratch is at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The pipeline's data: every input's buffer stays at its block, the output's holds `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => (outsAt0 m c t.val t.isLt).1
    | ⟨_ + 26, h⟩ => absurd h (Nat.not_lt.2 (Nat.le_add_left _ _))
  Φ t := PhiS m c t.val (Nat.le_of_lt_succ t.isLt)
  q w := Pipeline.shareOf spec0 w
  owed _ := 0

/-- The arrays of the data are those which the region finds. -/
theorem A_eq (c : Dev nD) (w : Fin cfg0.W) : (dats m 0 c).A w = V m c (Pipeline.arrRef spec0 w) := by
  dsimp only [dats]

/-- The invariant at the start of a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each window's buffer. -/
theorem after0_0 (c : Dev nD) (t : Fin cfg0.N) :
    (dats m 0 c).after 0 t = iblk m c 0 t := by dsimp only [dats]
theorem after0_1 (c : Dev nD) (t : Fin cfg0.N) :
    (dats m 0 c).after 1 t = iblk m c 1 t := by dsimp only [dats]
theorem after0_2 (c : Dev nD) (t : Fin cfg0.N) :
    (dats m 0 c).after 2 t = iblk m c 2 t := by dsimp only [dats]
theorem after0_3 (c : Dev nD) (t : Fin cfg0.N) :
    (dats m 0 c).after 3 t = iblk m c 3 t := by dsimp only [dats]
theorem after0_4 (c : Dev nD) (t : Fin cfg0.N) :
    (dats m 0 c).after 4 t = iblk m c 4 t := by dsimp only [dats]
theorem after0_5 (c : Dev nD) (t : Fin cfg0.N) :
    (dats m 0 c).after 5 t = iblk m c 5 t := by dsimp only [dats]
theorem after0_6 (c : Dev nD) (t : Fin cfg0.N) :
    (dats m 0 c).after 6 t = iblk m c 6 t := by dsimp only [dats]
theorem after0_7 (c : Dev nD) (t : Fin cfg0.N) :
    (dats m 0 c).after 7 t = iblk m c 7 t := by dsimp only [dats]
theorem after0_8 (c : Dev nD) (t : Fin cfg0.N) :
    (dats m 0 c).after 8 t = iblk m c 8 t := by dsimp only [dats]
theorem after0_9 (c : Dev nD) (t : Fin cfg0.N) :
    (dats m 0 c).after 9 t = iblk m c 9 t := by dsimp only [dats]
theorem after0_10 (c : Dev nD) (t : Fin cfg0.N) :
    (dats m 0 c).after 10 t = iblk m c 10 t := by dsimp only [dats]
theorem after0_11 (c : Dev nD) (t : Fin cfg0.N) :
    (dats m 0 c).after 11 t = iblk m c 11 t := by dsimp only [dats]
theorem after0_12 (c : Dev nD) (t : Fin cfg0.N) :
    (dats m 0 c).after 12 t = iblk m c 12 t := by dsimp only [dats]
theorem after0_13 (c : Dev nD) (t : Fin cfg0.N) :
    (dats m 0 c).after 13 t = iblk m c 13 t := by dsimp only [dats]
theorem after0_14 (c : Dev nD) (t : Fin cfg0.N) :
    (dats m 0 c).after 14 t = iblk m c 14 t := by dsimp only [dats]
theorem after0_15 (c : Dev nD) (t : Fin cfg0.N) :
    (dats m 0 c).after 15 t = iblk m c 15 t := by dsimp only [dats]
theorem after0_16 (c : Dev nD) (t : Fin cfg0.N) :
    (dats m 0 c).after 16 t = iblk m c 16 t := by dsimp only [dats]
theorem after0_17 (c : Dev nD) (t : Fin cfg0.N) :
    (dats m 0 c).after 17 t = iblk m c 17 t := by dsimp only [dats]
theorem after0_18 (c : Dev nD) (t : Fin cfg0.N) :
    (dats m 0 c).after 18 t = iblk m c 18 t := by dsimp only [dats]
theorem after0_19 (c : Dev nD) (t : Fin cfg0.N) :
    (dats m 0 c).after 19 t = iblk m c 19 t := by dsimp only [dats]
theorem after0_20 (c : Dev nD) (t : Fin cfg0.N) :
    (dats m 0 c).after 20 t = iblk m c 20 t := by dsimp only [dats]
theorem after0_21 (c : Dev nD) (t : Fin cfg0.N) :
    (dats m 0 c).after 21 t = iblk m c 21 t := by dsimp only [dats]
theorem after0_22 (c : Dev nD) (t : Fin cfg0.N) :
    (dats m 0 c).after 22 t = iblk m c 22 t := by dsimp only [dats]
theorem after0_23 (c : Dev nD) (t : Fin cfg0.N) :
    (dats m 0 c).after 23 t = iblk m c 23 t := by dsimp only [dats]
theorem after0_24 (c : Dev nD) (t : Fin cfg0.N) :
    (dats m 0 c).after 24 t = iblk m c 24 t := by dsimp only [dats]
theorem after0_25 (c : Dev nD) (t : Fin cfg0.N) :
    (dats m 0 c).after 25 t = (outsAt0 m c t.val t.isLt).1 := by dsimp only [dats]

/-- Each input's buffer holds its block before every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

/-! ## The body obligation, at a generic point -/

/-- What the body finds at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 22400000 in
/-- The body at any point, by the run of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.succ = PhiS m c (t.val + 1) t.isLt from rfl, PhiS_succ]
  have hN : t.val < 65 := lt_of_lt_of_eq t.isLt (show cfg0.N = 65 from N_0)
  by_cases h0 : t.val % 65 = 0
  · by_cases hz : t.val = 0
    · rw [PhiS_castSucc m c t, PhiS_zero m c _ _ hz, PhiA0_eq]
      rw [outsAt0_A m c t h0]
      unfold leftA out0_A_25 sout0_A_0 sout0_A_1 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexists _; iexact H25
      isplitl [HS0]; · iexact HS0
      isplitl [HS1]; · iexact HS1
      isplitl [HS2]; · iexact HS2
      iintro ⟨H0, H1, H2, H3, H4, H5, H6, H7, H8, H9, H10, H11, H12, H13, H14, H15, H16, H17, H18, H19, H20, H21, H22, H23, H24, ⟨%e25, H25⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c
           _ _ _ _ _ _ _ _ _ _ _ _ _ _ _ _ _ _ _ _ _ _ _ _ _ _ _ _ _ _ _ _ _ _ _ _ _ _ _ _ _ _ _ _ _ _ _ _
           _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c
           _ _ _ _ _ _ _ _ _ _ _ _ _ _ _ _ _ _ _ _ _ _ _ _ _ _ _ _ _ _ _ _ _ _ _ _ _ _ _ _ _ _ _ _ _ _ _ _
           _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_A_2 c
           _ _ _ _ _ _ _ _ _ _ _ _ _ _ _ _ _ _ _ _ _ _ _ _ _ _ _ _ _ _ _ _ _ _ _ _ _ _ _ _ _ _ _ _ _ _ _ _
           _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      unfold owns; iexists _; isplitr
      swap; · iexact H25
      ipureintro; exact View.read_writes_of_cover _ _ _ _ _ (cover0_A_25 c
           _ _ _ _ _ _ _ _ _ _ _ _ _ _ _ _ _ _ _ _ _ _ _ _ _ _ _ _ _ _ _ _ _ _ _ _ _ _ _ _ _ _ _ _ _ _ _ _
           _ _ _ _ _ _ _ _ _ _ _ _ _ _ _ _ _ _ _ _ _ _ _ _ _ _ _ _ _ _ _ _ _ _ _ _ _)
    · exfalso; have hN : t.val < 65 := lt_of_lt_of_eq t.isLt (show cfg0.N = 65 from N_0); omega
  · by_cases hz : t.val = 0
    · exfalso; have hN : t.val < 65 := lt_of_lt_of_eq t.isLt (show cfg0.N = 65 from N_0); omega
    · rw [PhiS_castSucc m c t, PhiS_pos m c _ _ hz]
      rw [outsAt0_B m c t h0]
      unfold leftB out0_B_25 sout0_B_0 sout0_B_1 sout0_B_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexists _; iexact H25
      isplitl [HS0]; · iexact HS0
      isplitl [HS1]; · iexact HS1
      isplitl [HS2]; · iexact HS2
      iintro ⟨H0, H1, H2, H3, H4, H5, H6, H7, H8, H9, H10, H11, H12, H13, H14, H15, H16, H17, H18, H19, H20, H21, H22, H23, H24, ⟨%e25, H25⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c
           _ _ _ _ _ _ _ _ _ _ _ _ _ _ _ _ _ _ _ _ _ _ _ _ _ _ _ _ _ _ _ _ _ _ _ _ _ _ _ _ _ _ _ _ _ _ _ _
           _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c
           _ _ _ _ _ _ _ _ _ _ _ _ _ _ _ _ _ _ _ _ _ _ _ _ _ _ _ _ _ _ _ _ _ _ _ _ _ _ _ _ _ _ _ _ _ _ _ _
           _ _ _ _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_B_2 c
           _ _ _ _ _ _ _ _ _ _ _ _ _ _ _ _ _ _ _ _ _ _ _ _ _ _ _ _ _ _ _ _ _ _ _ _ _ _ _ _ _ _ _ _ _ _ _ _
           _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      unfold owns; iexists _; isplitr
      swap; · iexact H25
      ipureintro; exact View.read_writes_of_cover _ _ _ _ _ (cover0_B_25 c
           _ _ _ _ _ _ _ _ _ _ _ _ _ _ _ _ _ _ _ _ _ _ _ _ _ _ _ _ _ _ _ _ _ _ _ _ _ _ _ _ _ _ _ _ _ _ _ _
           _ _ _ _ _ _ _ _ _ _ _ _ _ _ _ _ _ _ _ _ _ _ _ _ _ _ _ _ _ _ _ _ _ _ _ _ _ _ _ _)

/-- The body's row of the table at a point. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The obligation of the pipeline's body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- So it does after the last point. -/
theorem hout (c : Dev nD) : (dats m 0 c).Φ (Fin.last cfg0.N) ⊢ Pipeline.ΦA spec0 c :=
  Phi_out m c _ (by rw [Fin.val_last]; have : cfg0.N = 65 := N_0; omega)

/-! ## The run and the frame -/

set_option backward.isDefEq.respectTransparency.types false in
/-- The launch: every array of the pipeline ends at what the data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

/-- The run with the result's array named, and the arguments as they began. -/
theorem run_array : θ_run defs (onTc (τ := τ) (main (F := F))) ⟨m, fun _ => 0, ρ⟩ fun r => ∀ c : Dev nD,
    r.2.mem ((c : Thread nD τ).loc main_v95) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h.1 c).1 25, h.2 c⟩) (θ_run_and (run_main m ρ) (unchanged m ρ))

end Cert.KernelIdeal.Gen

end
-- ==== Proof.Tail.Spec.lean ====
/-
  What the layer's tail computes, entry by entry over the extended reals, from the retention of every head.
-/
module

public import Idealize.ShloMosaic.PureOps.Ideal

@[expose] public section

noncomputable section

namespace Cert.Tail

open Idealize.ShloMosaic

/-- The logistic function. -/
def sg (x : EReal) : EReal := Ideal.div (1) (1 + Ideal.exp (-x))

/-- The Gaussian error unit, by its hyperbolic tangent. -/
def ge (y : EReal) : EReal :=
  y * (Ideal.ofBits .f32 0x3F000000#32 * (1
    + Ideal.tanh (Ideal.ofBits .f32 0x3F4C422A#32 * (y + Ideal.ofBits .f32 0x3D372713#32 * (y * y * y)))))

/-- A value times the logistic function of it. -/
def silu (z : EReal) : EReal := z * sg z

/-- Column `c` of the gated state space output, from its row `y` and the gate `z`. -/
def gated (y : Fin 1024 → EReal) (w : Fin 1024 → Fin 1024 → EReal) (b : Fin 1024 → EReal) (z : EReal) (c : Fin 1024) : EReal :=
  ge (y c) * sg ((∑ j, ge (y j) * w j c) + b c) * silu z

/-- Entry `e` of a head's row `o`, divided by its root mean square, times the gate `z`. -/
def headOut (o : Fin 128 → EReal) (z : EReal) (e : Fin 128) : EReal :=
  o e * Ideal.rsqrt (Ideal.div (∑ j, o j * o j) (Ideal.ofBits .f32 0x43000000#32) + Ideal.ofBits .f32 0x358637BD#32) * silu z

/-- Entry `j` of a row `d` divided by its root mean square and multiplied by the gain. -/
def normed (d g : Fin 2048 → EReal) (j : Fin 2048) : EReal :=
  d j * Ideal.rsqrt (Ideal.div (∑ k, d k * d k) (Ideal.ofBits .f32 0x45000000#32) + Ideal.ofBits .f32 0x358637BD#32) * g j

/-- The two gated branches `s` and `r` of a row, mixed. -/
def mixed (s r : Fin 1024 → EReal) (ws wr : Fin 1024 → Fin 2048 → EReal) (gs gr : Fin 2048 → EReal) (k : Fin 2048) : EReal :=
  sg (gs k) * (∑ c, s c * ws c k) + sg (gr k) * (∑ c, r c * wr c k)

/-- Entry `j` of a row of the result, from the row's two gated branches. -/
def merged (s r : Fin 1024 → EReal) (ws wr : Fin 1024 → Fin 2048 → EReal) (wo : Fin 2048 → Fin 2048 → EReal)
    (gs gr x g : Fin 2048 → EReal) (j : Fin 2048) : EReal :=
  x j + normed (fun j => ∑ k, mixed s r ws wr gs gr k * wo k j) g j

end Cert.Tail

end
-- ==== Proof.TailIdeal.Parts.lean ====
/-
  The vectors that a point of the tail computes for one head, at an index.
-/
module

public import proofs.«01_k».proof.Proof.TailIdeal.Frame
public import proofs.«01_k».proof.Proof.Tail.Spec
public import Idealize.ShloMosaic.Lib.Pointwise

@[expose] public section

set_option maxRecDepth 16384

noncomputable section

namespace Cert.KernelIdeal.Tail

open Cert.KernelIdeal Cert.KernelIdeal.Gen Idealize.ShloMosaic Idealize.ShloMosaic.TcCoe Cert.Tail

/-- Lane `L` of two heads' row `x`, turned by the cosines `C` and the signed sines `S`. -/
def kturn (x C S : Fin 128 → EReal) (L : Fin 128) : EReal :=
  x L * C L + Scalar.select (IntOp.cmpi .slt (IntOp.andi (BitVec.ofNat 32 L.val) 63#32) 32#32)
    (x ⟨(L.val + 128 - 96) % 128, by omega⟩) (x ⟨(L.val + 128 - 32) % 128, by omega⟩) * S L

/-- The cosines of a row. -/
def kcos (cb sb cr sr : Fin 128 → EReal) (L : Fin 128) : EReal := cb L * cr L - sb L * sr L

/-- The signed sines of a row. -/
def ksin (cb sb cr sr sign : Fin 128 → EReal) (L : Fin 128) : EReal := (sb L * cr L + cb L * sr L) * sign L

/-- The turned rows of two heads. -/
def turnV (x : FVec Ideal S256x128 .f32) (C S : FVec Ideal S256x128 .f32) : FVec Ideal S256x128 .f32 :=
  addf (mulf x C) (mulf (select (cmpi .slt (andi (iota .tc S256x128 32 [1] iota_S256x128_d1_w32) (broadcast S256x128 63#32)) (broadcast S256x128 32#32))
    (dynamicRotate 1 96#32 none x rotates_S256x128_d1) (dynamicRotate 1 32#32 none x rotates_S256x128_d1)) S)

theorem turnV_at (x C S : FVec Ideal S256x128 .f32) (r : Fin 256) (L : Fin 128) :
    turnV x C S (ix2 r L) = kturn (fun L => x (ix2 r L)) (fun L => C (ix2 r L)) (fun L => S (ix2 r L)) L := by
  pointwise [turnV]
  rfl

theorem cosV_at (cb sb : Vec Ideal S1x1x128 .f32) (cr sr : Vec Ideal S256x128 .f32) (r : Fin 256) (L : Fin 128) :
    k0_pay14 cb sb cr sr (ix2 r L) = kcos (fun L => cb (ix3 0 0 L)) (fun L => sb (ix3 0 0 L)) (fun L => cr (ix2 r L)) (fun L => sr (ix2 r L)) L := by
  pointwise [k0_pay14, k0_pay15, k0_pay12, k0_pay13]
  rfl

theorem sinV_at (cb sb : Vec Ideal S1x1x128 .f32) (cr sr : Vec Ideal S256x128 .f32) (g : Vec Ideal S1x128 .f32) (r : Fin 256) (L : Fin 128) :
    k0_pay15 cb sb cr sr g (ix2 r L)
      = ksin (fun L => cb (ix3 0 0 L)) (fun L => sb (ix3 0 0 L)) (fun L => cr (ix2 r L)) (fun L => sr (ix2 r L)) (fun L => g (ix2 0 L)) L := by
  pointwise [k0_pay14, k0_pay15, k0_pay12, k0_pay13]
  rfl

/-- A head's retention. -/
def oV (q k : FVec Ideal S256x64 .bf16) (dm : Vec Ideal S1x256x256 .f32) (v : FVec Ideal S256x128 .bf16) (st : Vec Ideal S1x64x128 .f32)
    (xi : Vec Ideal S1x256x128 .f32) : FVec Ideal S256x128 .f32 :=
  addf (matmul dot_S256x256_S256x128_S256x128_1_0_0_1_n_n none
      (truncf .bf16 (mulf (matmul dot_S256x64_S256x64_S256x256_1_1_0_0_n_n none q k (constant S256x256 .f32 0x00000000#32))
        (shapeCast S256x256 dm shapeCasts_S1x256x256_S256x256)) bitsLt_bf16_f32) v (constant S256x128 .f32 0x00000000#32))
    (mulf (matmul dot_S256x64_S64x128_S256x128_1_0_0_1_n_n none q
        (truncf .bf16 (shapeCast S64x128 st shapeCasts_S1x64x128_S64x128) bitsLt_bf16_f32) (constant S256x128 .f32 0x00000000#32))
      (shapeCast S256x128 xi shapeCasts_S1x256x128_S256x128))

theorem oV_at (q k : FVec Ideal S256x64 .bf16) (dm : Vec Ideal S1x256x256 .f32) (v : FVec Ideal S256x128 .bf16) (st : Vec Ideal S1x64x128 .f32)
    (xi : Vec Ideal S1x256x128 .f32) (r : Fin 256) (e : Fin 128) :
    oV q k dm v st xi (ix2 r e) = (∑ j, ((∑ d, q (ix2 r d) * k (ix2 j d)) * dm (ix3 0 r j)) * v (ix2 j e))
      + (∑ d, q (ix2 r d) * st (ix3 0 d e)) * xi (ix3 0 r e) := by
  pointwise [oV]

/-- A head's retention, divided by its root mean square and gated. -/
def outV (o : FVec Ideal S256x128 .f32) (z : Vec Ideal S256x128 .bf16) : FVec Ideal S256x128 .bf16 :=
  shapeCast S256x128 (truncf .bf16 (mulf (mulf o (broadcastTo S256x128 (rsqrt (addf (divf (shapeCast S256x1
      (multiReduction .add [1] S256 (mulf o o) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128))
    (mulf (extf .f32 z bitsLt_bf16_f32) (logistic (extf .f32 z bitsLt_bf16_f32)))) bitsLt_bf16_f32) shapeCasts_S256x128_S256x128

theorem logistic_eq (x : EReal) : Ideal.logistic x = sg x := rfl

theorem outV_at (o : FVec Ideal S256x128 .f32) (z : Vec Ideal S256x128 .bf16) (r : Fin 256) (e : Fin 128) :
    outV o z (ix2 r e) = headOut (fun e => o (ix2 r e)) (z (ix2 r e)) e := by
  pointwise [outV]
  rfl

/-- How much a block of rows leaves of a head's state. -/
def decayK : Fin 8 → EReal := ![Named.named (F := Ideal) (φ := .f32) κ "decay0" 0x399ACCA1#32, Named.named (F := Ideal) (φ := .f32) κ "decay1" 0x3C9160A5#32, Named.named (F := Ideal) (φ := .f32) κ "decay2" 0x3E097FCE#32, Named.named (F := Ideal) (φ := .f32) κ "decay3" 0x3EBBFC5D#32, Named.named (F := Ideal) (φ := .f32) κ "decay4" 0x3F1B322A#32, Named.named (F := Ideal) (φ := .f32) κ "decay5" 0x3F475941#32, Named.named (F := Ideal) (φ := .f32) κ "decay6" 0x3F61E98D#32, Named.named (F := Ideal) (φ := .f32) κ "decay7" 0x3F707CE8#32]

/-- A block's row `r` of head `h`, turned. -/
def turnK (x : Vec Ideal S256x512 .bf16) (C S : Fin 256 → Fin 128 → EReal) (r : Fin 256) (h : Fin 8) (l : Fin 64) : EReal :=
  kturn (fun L => x (ix2 r ⟨128 * (h.val / 2) + L.val, by omega⟩)) (C r) (S r) ⟨64 * (h.val % 2) + l.val, by omega⟩

/-- A block's row of cosines. -/
def cosK (cb sb : Vec Ideal S1x1x128 .f32) (cr sr : Vec Ideal S256x128 .f32) (r : Fin 256) : Fin 128 → EReal :=
  kcos (fun L => cb (ix3 0 0 L)) (fun L => sb (ix3 0 0 L)) (fun L => cr (ix2 r L)) (fun L => sr (ix2 r L))

/-- A block's row of signed sines. -/
def sinK (cb sb : Vec Ideal S1x1x128 .f32) (cr sr : Vec Ideal S256x128 .f32) (g : Vec Ideal S1x128 .f32) (r : Fin 256) : Fin 128 → EReal :=
  ksin (fun L => cb (ix3 0 0 L)) (fun L => sb (ix3 0 0 L)) (fun L => cr (ix2 r L)) (fun L => sr (ix2 r L)) (fun L => g (ix2 0 L))

/-- What a block's rows leave of a head's state. -/
def stateK (k : Fin 256 → Fin 8 → Fin 64 → EReal) (v : Vec Ideal S256x1024 .bf16) (zeta : Vec Ideal S256x512 .f32) (st : Vec Ideal S8x64x128 .f32)
    (h : Fin 8) (d : Fin 64) (e : Fin 128) : EReal :=
  st (ix3 h d e) * decayK h + ∑ j, k j h d * Ideal.ofBits .f32 0x3E000000#32 * zeta (ix2 j ⟨64 * h.val + d.val, by omega⟩)
    * v (ix2 j ⟨128 * h.val + e.val, by omega⟩)

/-- A block's retention. -/
def retK (q k : Fin 256 → Fin 8 → Fin 64 → EReal) (v : Vec Ideal S256x1024 .bf16) (dm : Vec Ideal S8x256x256 .f32) (xi : Vec Ideal S8x256x128 .f32)
    (st : Vec Ideal S8x64x128 .f32) (r : Fin 256) (h : Fin 8) (e : Fin 128) : EReal :=
  (∑ j, ((∑ d, q r h d * (k j h d * Ideal.ofBits .f32 0x3E000000#32)) * dm (ix3 h r j)) * v (ix2 j ⟨128 * h.val + e.val, by omega⟩))
    + (∑ d, q r h d * st (ix3 h d e)) * xi (ix3 h r e)

/-- A head's state after a block. -/
def stV (kz : FVec Ideal S256x64 .bf16) (v : FVec Ideal S256x128 .bf16) (st : Vec Ideal S1x64x128 .f32) (dc : Ideal .f32) : FVec Ideal S1x64x128 .f32 :=
  shapeCast S1x64x128 (addf (mulf (shapeCast S64x128 st shapeCasts_S1x64x128_S64x128) (broadcast S64x128 dc))
    (matmul dot_S256x64_S256x128_S64x128_0_0_1_1_n_n none kz v (constant S64x128 .f32 0x00000000#32))) shapeCasts_S64x128_S1x64x128

theorem stV_at (kz : FVec Ideal S256x64 .bf16) (v : FVec Ideal S256x128 .bf16) (st : Vec Ideal S1x64x128 .f32) (dc : Ideal .f32)
    (i : Fin 1) (d : Fin 64) (e : Fin 128) :
    stV kz v st dc (ix3 i d e) = st (ix3 0 d e) * dc + ∑ j, kz (ix2 j d) * v (ix2 j e) := by
  pointwise [stV]

theorem ge_eq (y : EReal) : Ideal.ofBits .f32 0x3F000000#32 * y * (1 + Ideal.tanh (Ideal.ofBits .f32 0x3F4C422A#32
    * (y + Ideal.ofBits .f32 0x3D372713#32 * (y * y * y)))) = ge y := by
  rw [ge, mul_comm (Ideal.ofBits .f32 0x3F000000#32) y, mul_assoc]

theorem sum_halves (f : Fin 2048 → EReal) :
    ∑ k, f k = (∑ k : Fin 1024, f ⟨k.val, by omega⟩) + ∑ k : Fin 1024, f ⟨1024 + k.val, by omega⟩ :=
  Fin.sum_univ_add (a := 1024) (b := 1024) f

/-- Two halves of a row, one after the other. -/
def both (a b : Fin 1024 → EReal) (k : Fin 2048) : EReal :=
  if h : k.val < 1024 then a ⟨k.val, h⟩ else b ⟨k.val - 1024, by omega⟩

theorem both_fst (a b : Fin 1024 → EReal) (k : Fin 1024) (h : k.val < 2048) : both a b ⟨k.val, h⟩ = a k := dif_pos k.isLt

theorem both_snd (a b : Fin 1024 → EReal) (k : Fin 1024) (h : 1024 + k.val < 2048) : both a b ⟨1024 + k.val, h⟩ = b k := by
  rw [both, dif_neg (show ¬1024 + k.val < 1024 by omega)]
  congr 1
  exact Fin.ext (Nat.add_sub_cancel_left 1024 k.val)

/-- The mixed branches times the last weight. -/
theorem pay6_at (s r : Vec Ideal S256x1024 .bf16) (ws wr : Vec Ideal S1024x2048 .bf16) (gs0 gs1 gr0 gr1 : Vec Ideal S256x1024 .bf16)
    (wo : Vec Ideal S2048x2048 .bf16) (i : Fin 256) (j : Fin 2048) :
    k0_pay6 s ws r wr gs0 gs1 gr0 gr1 wo (ix2 i j)
      = ∑ k, mixed (fun c => s (ix2 i c)) (fun c => r (ix2 i c)) (fun c k => ws (ix2 c k)) (fun c k => wr (ix2 c k))
          (both (fun k => gs0 (ix2 i k)) (fun k => gs1 (ix2 i k))) (both (fun k => gr0 (ix2 i k)) (fun k => gr1 (ix2 i k))) k * wo (ix2 k j) := by
  rw [sum_halves]
  simp only [mixed, both_fst, both_snd]
  pointwise [k0_pay6]
  rfl

/-- An earlier fill is hidden by the eight stores that cover the buffer. -/
theorem canon_drop {S : Shape} {e : EltTy} (p0 p1 p2 p3 p4 p5 p6 p7 f : View.Piece (Elt Ideal) S e) (y : S.Idx)
    (hc : ∃ p ∈ [p0, p1, p2, p3, p4, p5, p6, p7], y ∈ p.1.set) :
    View.canon [p0, p1, p2, p3, p4, p5, p6, p7, f] y = View.canon [p0, p1, p2, p3, p4, p5, p6, p7] y := by
  have H : ∀ (L L' : List (View.Piece (Elt Ideal) S e)), (∃ p ∈ L, y ∈ p.1.set) → View.canon (L ++ L') y = View.canon L y := by
    intro L L'
    induction L with
    | nil => exact fun ⟨p, hp, _⟩ => absurd hp List.not_mem_nil
    | cons q L ih =>
      intro h
      by_cases hq : y ∈ q.1.set
      · obtain ⟨x, rfl⟩ := q.1.exists_idx_of_mem hq
        rw [List.cons_append, show q.1.idx x = q.1.emb x from rfl, View.canon_cons_emb, View.canon_cons_emb]
      · rw [List.cons_append, View.canon_cons_of_not_mem _ _ hq, View.canon_cons_of_not_mem _ _ hq]
        refine ih ?_
        obtain ⟨p, hp, hy⟩ := h
        rcases List.mem_cons.mp hp with rfl | hp
        · exact absurd hy hq
        · exact ⟨p, hp, hy⟩
  exact H [p0, p1, p2, p3, p4, p5, p6, p7] [f] hc

end Cert.KernelIdeal.Tail

end
-- ==== Proof.TailIdeal.Blocks.lean ====
/-
  The blocks that a point of the tail reads, and the arrays they lie in.
-/
module

public import proofs.«01_k».proof.Proof.TailIdeal.Frame
public import proofs.«01_k».proof.Proof.TailIdeal.Parts
public import Idealize.ShloMosaic.Lib.Pipeline.Value
public import Idealize.ShloMosaic.Lib.Pipeline.ValueKit
public import Idealize.ShloMosaic.Lib.Pointwise
public import Idealize.ShloMosaic.Lib.StableHlo.ReadAt
public import Idealize.ShloMosaic.Lib.Pipeline.ReadBack

@[expose] public section

set_option maxRecDepth 16384

noncomputable section

namespace Cert.KernelIdeal.Tail

open Cert.KernelIdeal Cert.KernelIdeal.Gen Idealize.ShloMosaic Idealize.ShloMosaic.TcCoe Cert.Tail

variable (m : (ℓ : Loc nD τ sig) → Buf (Elt Ideal) ℓ)

/-- Where each window's block lies at each grid point. -/
theorem places : ∀ t : Fin cfg0.N, win0_0.index t = ![min t.val 63, 0]
    ∧ win0_1.index t = ![min t.val 63, 1]
    ∧ win0_2.index t = ![min t.val 63, 4]
    ∧ win0_3.index t = ![min t.val 63, 5]
    ∧ win0_4.index t = ![min t.val 63, 3]
    ∧ win0_5.index t = ![min t.val 63, 4]
    ∧ win0_6.index t = ![min t.val 63, 0, 0]
    ∧ win0_7.index t = ![min t.val 63, 0, 0]
    ∧ win0_8.index t = ![t.val - 1, 5]
    ∧ win0_9.index t = ![t.val - 1, 6]
    ∧ win0_10.index t = ![t.val - 1, 7]
    ∧ win0_11.index t = ![t.val - 1, 8]
    ∧ win0_12.index t = ![t.val - 1, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0, 0]
    ∧ win0_19.index t = ![0, 0, 0]
    ∧ win0_20.index t = ![0, 0]
    ∧ win0_21.index t = ![0, 0]
    ∧ win0_22.index t = ![0, 0]
    ∧ win0_23.index t = ![0, 0]
    ∧ win0_24.index t = ![0, 0] :=
  (by decide +kernel : ∀ t : Fin grid0.N, _)

/-- The block of rows that a point reads. -/
def cur (t : Fin cfg0.N) (r : Fin 256) : Fin 16384 := ⟨min t.val 63 * 256 + r.val, by omega⟩

/-- The block of rows that a point writes. -/
def prv (t : Fin cfg0.N) (r : Fin 256) : Fin 16384 :=
  ⟨(t.val - 1) * 256 + r.val, by have h := t.isLt.trans_eq (show cfg0.N = 65 from N_0); omega⟩

theorem read_y (c : Dev nD) (t : Fin cfg0.N) (X : Buf (Elt Ideal) ((c : Thread nD τ).loc main_arg0)) (r : Fin 256) (k : Fin 1024) :
    ((cfg0.win 0).blk t).view.read (Elt Ideal) X (ix2 r k) = X (ix2 (cur t r) k) := by
  blk_ext! [places t]
  rfl

theorem block_y (c : Dev nD) (t : Fin cfg0.N) (r : Fin 256) (k : Fin 1024) :
    iblk m c 0 t (ix2 r k) = V m c main_arg0 (ix2 (cur t r) k) :=
  read_y c t _ r k

theorem read_zs (c : Dev nD) (t : Fin cfg0.N) (X : Buf (Elt Ideal) ((c : Thread nD τ).loc main_arg1)) (r : Fin 256) (k : Fin 1024) :
    ((cfg0.win 1).blk t).view.read (Elt Ideal) X (ix2 r k) = X (ix2 (cur t r) ⟨1024 + k.val, by omega⟩) := by
  blk_ext! [places t]
  rfl

theorem block_zs (c : Dev nD) (t : Fin cfg0.N) (r : Fin 256) (k : Fin 1024) :
    iblk m c 1 t (ix2 r k) = V m c main_arg1 (ix2 (cur t r) ⟨1024 + k.val, by omega⟩) :=
  read_zs c t _ r k

theorem read_q (c : Dev nD) (t : Fin cfg0.N) (X : Buf (Elt Ideal) ((c : Thread nD τ).loc main_arg1)) (r : Fin 256) (k : Fin 512) :
    ((cfg0.win 2).blk t).view.read (Elt Ideal) X (ix2 r k) = X (ix2 (cur t r) ⟨2048 + k.val, by omega⟩) := by
  blk_ext! [places t]
  rfl

theorem block_q (c : Dev nD) (t : Fin cfg0.N) (r : Fin 256) (k : Fin 512) :
    iblk m c 2 t (ix2 r k) = V m c main_arg1 (ix2 (cur t r) ⟨2048 + k.val, by omega⟩) :=
  read_q c t _ r k

theorem read_k (c : Dev nD) (t : Fin cfg0.N) (X : Buf (Elt Ideal) ((c : Thread nD τ).loc main_arg1)) (r : Fin 256) (k : Fin 512) :
    ((cfg0.win 3).blk t).view.read (Elt Ideal) X (ix2 r k) = X (ix2 (cur t r) ⟨2560 + k.val, by omega⟩) := by
  blk_ext! [places t]
  rfl

theorem block_k (c : Dev nD) (t : Fin cfg0.N) (r : Fin 256) (k : Fin 512) :
    iblk m c 3 t (ix2 r k) = V m c main_arg1 (ix2 (cur t r) ⟨2560 + k.val, by omega⟩) :=
  read_k c t _ r k

theorem read_v (c : Dev nD) (t : Fin cfg0.N) (X : Buf (Elt Ideal) ((c : Thread nD τ).loc main_arg1)) (r : Fin 256) (k : Fin 1024) :
    ((cfg0.win 4).blk t).view.read (Elt Ideal) X (ix2 r k) = X (ix2 (cur t r) ⟨3072 + k.val, by omega⟩) := by
  blk_ext! [places t]
  rfl

theorem block_v (c : Dev nD) (t : Fin cfg0.N) (r : Fin 256) (k : Fin 1024) :
    iblk m c 4 t (ix2 r k) = V m c main_arg1 (ix2 (cur t r) ⟨3072 + k.val, by omega⟩) :=
  read_v c t _ r k

theorem read_zr (c : Dev nD) (t : Fin cfg0.N) (X : Buf (Elt Ideal) ((c : Thread nD τ).loc main_arg1)) (r : Fin 256) (k : Fin 1024) :
    ((cfg0.win 5).blk t).view.read (Elt Ideal) X (ix2 r k) = X (ix2 (cur t r) ⟨4096 + k.val, by omega⟩) := by
  blk_ext! [places t]
  rfl

theorem block_zr (c : Dev nD) (t : Fin cfg0.N) (r : Fin 256) (k : Fin 1024) :
    iblk m c 5 t (ix2 r k) = V m c main_arg1 (ix2 (cur t r) ⟨4096 + k.val, by omega⟩) :=
  read_zr c t _ r k

theorem read_cosb (c : Dev nD) (t : Fin cfg0.N) (X : Buf (Elt Ideal) ((c : Thread nD τ).loc main_v30)) (L : Fin 128) :
    ((cfg0.win 6).blk t).view.read (Elt Ideal) X (ix3 0 0 L) = X (ix3 ⟨min t.val 63, by omega⟩ 0 L) := by
  blk_ext! [places t]

theorem block_cosb (c : Dev nD) (t : Fin cfg0.N) (L : Fin 128) :
    iblk m c 6 t (ix3 0 0 L) = V m c main_v30 (ix3 ⟨min t.val 63, by omega⟩ 0 L) :=
  read_cosb c t _ L

theorem read_sinb (c : Dev nD) (t : Fin cfg0.N) (X : Buf (Elt Ideal) ((c : Thread nD τ).loc main_v33)) (L : Fin 128) :
    ((cfg0.win 7).blk t).view.read (Elt Ideal) X (ix3 0 0 L) = X (ix3 ⟨min t.val 63, by omega⟩ 0 L) := by
  blk_ext! [places t]

theorem block_sinb (c : Dev nD) (t : Fin cfg0.N) (L : Fin 128) :
    iblk m c 7 t (ix3 0 0 L) = V m c main_v33 (ix3 ⟨min t.val 63, by omega⟩ 0 L) :=
  read_sinb c t _ L

theorem read_gs0 (c : Dev nD) (t : Fin cfg0.N) (X : Buf (Elt Ideal) ((c : Thread nD τ).loc main_arg1)) (r : Fin 256) (k : Fin 1024) :
    ((cfg0.win 8).blk t).view.read (Elt Ideal) X (ix2 r k) = X (ix2 (prv t r) ⟨5120 + k.val, by omega⟩) := by
  blk_ext! [places t]
  rfl

theorem block_gs0 (c : Dev nD) (t : Fin cfg0.N) (r : Fin 256) (k : Fin 1024) :
    iblk m c 8 t (ix2 r k) = V m c main_arg1 (ix2 (prv t r) ⟨5120 + k.val, by omega⟩) :=
  read_gs0 c t _ r k

theorem read_gs1 (c : Dev nD) (t : Fin cfg0.N) (X : Buf (Elt Ideal) ((c : Thread nD τ).loc main_arg1)) (r : Fin 256) (k : Fin 1024) :
    ((cfg0.win 9).blk t).view.read (Elt Ideal) X (ix2 r k) = X (ix2 (prv t r) ⟨6144 + k.val, by omega⟩) := by
  blk_ext! [places t]
  rfl

theorem block_gs1 (c : Dev nD) (t : Fin cfg0.N) (r : Fin 256) (k : Fin 1024) :
    iblk m c 9 t (ix2 r k) = V m c main_arg1 (ix2 (prv t r) ⟨6144 + k.val, by omega⟩) :=
  read_gs1 c t _ r k

theorem read_gr0 (c : Dev nD) (t : Fin cfg0.N) (X : Buf (Elt Ideal) ((c : Thread nD τ).loc main_arg1)) (r : Fin 256) (k : Fin 1024) :
    ((cfg0.win 10).blk t).view.read (Elt Ideal) X (ix2 r k) = X (ix2 (prv t r) ⟨7168 + k.val, by omega⟩) := by
  blk_ext! [places t]
  rfl

theorem block_gr0 (c : Dev nD) (t : Fin cfg0.N) (r : Fin 256) (k : Fin 1024) :
    iblk m c 10 t (ix2 r k) = V m c main_arg1 (ix2 (prv t r) ⟨7168 + k.val, by omega⟩) :=
  read_gr0 c t _ r k

theorem read_gr1 (c : Dev nD) (t : Fin cfg0.N) (X : Buf (Elt Ideal) ((c : Thread nD τ).loc main_arg1)) (r : Fin 256) (k : Fin 1024) :
    ((cfg0.win 11).blk t).view.read (Elt Ideal) X (ix2 r k) = X (ix2 (prv t r) ⟨8192 + k.val, by omega⟩) := by
  blk_ext! [places t]
  rfl

theorem block_gr1 (c : Dev nD) (t : Fin cfg0.N) (r : Fin 256) (k : Fin 1024) :
    iblk m c 11 t (ix2 r k) = V m c main_arg1 (ix2 (prv t r) ⟨8192 + k.val, by omega⟩) :=
  read_gr1 c t _ r k

theorem read_x (c : Dev nD) (t : Fin cfg0.N) (X : Buf (Elt Ideal) ((c : Thread nD τ).loc main_arg2)) (r : Fin 256) (k : Fin 2048) :
    ((cfg0.win 12).blk t).view.read (Elt Ideal) X (ix2 r k) = X (ix2 (prv t r) k) := by
  blk_ext! [places t]
  rfl

theorem block_x (c : Dev nD) (t : Fin cfg0.N) (r : Fin 256) (k : Fin 2048) :
    iblk m c 12 t (ix2 r k) = V m c main_arg2 (ix2 (prv t r) k) :=
  read_x c t _ r k

theorem read_wglu (c : Dev nD) (t : Fin cfg0.N) (X : Buf (Elt Ideal) ((c : Thread nD τ).loc main_arg3)) (j k : Fin 1024) :
    ((cfg0.win 13).blk t).view.read (Elt Ideal) X (ix2 j k) = X (ix2 j k) := by
  blk_ext! [places t]

theorem block_wglu (c : Dev nD) (t : Fin cfg0.N) (j k : Fin 1024) :
    iblk m c 13 t (ix2 j k) = V m c main_arg3 (ix2 j k) :=
  read_wglu c t _ j k

theorem read_bglu (c : Dev nD) (t : Fin cfg0.N) (X : Buf (Elt Ideal) ((c : Thread nD τ).loc main_v93)) (k : Fin 1024) :
    ((cfg0.win 14).blk t).view.read (Elt Ideal) X (ix2 0 k) = X (ix2 0 k) := by
  blk_ext! [places t]

theorem block_bglu (c : Dev nD) (t : Fin cfg0.N) (k : Fin 1024) :
    iblk m c 14 t (ix2 0 k) = V m c main_v93 (ix2 0 k) :=
  read_bglu c t _ k

theorem read_cosr (c : Dev nD) (t : Fin cfg0.N) (X : Buf (Elt Ideal) ((c : Thread nD τ).loc main_v25)) (r : Fin 256) (L : Fin 128) :
    ((cfg0.win 15).blk t).view.read (Elt Ideal) X (ix2 r L) = X (ix2 r L) := by
  blk_ext! [places t]

theorem block_cosr (c : Dev nD) (t : Fin cfg0.N) (r : Fin 256) (L : Fin 128) :
    iblk m c 15 t (ix2 r L) = V m c main_v25 (ix2 r L) :=
  read_cosr c t _ r L

theorem read_sinr (c : Dev nD) (t : Fin cfg0.N) (X : Buf (Elt Ideal) ((c : Thread nD τ).loc main_v27)) (r : Fin 256) (L : Fin 128) :
    ((cfg0.win 16).blk t).view.read (Elt Ideal) X (ix2 r L) = X (ix2 r L) := by
  blk_ext! [places t]

theorem block_sinr (c : Dev nD) (t : Fin cfg0.N) (r : Fin 256) (L : Fin 128) :
    iblk m c 16 t (ix2 r L) = V m c main_v27 (ix2 r L) :=
  read_sinr c t _ r L

theorem read_sign (c : Dev nD) (t : Fin cfg0.N) (X : Buf (Elt Ideal) ((c : Thread nD τ).loc main_cst)) (L : Fin 128) :
    ((cfg0.win 17).blk t).view.read (Elt Ideal) X (ix2 0 L) = X (ix2 0 L) := by
  blk_ext! [places t]

theorem block_sign (c : Dev nD) (t : Fin cfg0.N) (L : Fin 128) :
    iblk m c 17 t (ix2 0 L) = V m c main_cst (ix2 0 L) :=
  read_sign c t _ L

theorem read_mask (c : Dev nD) (t : Fin cfg0.N) (X : Buf (Elt Ideal) ((c : Thread nD τ).loc main_v70)) (h : Fin 8) (r j : Fin 256) :
    ((cfg0.win 18).blk t).view.read (Elt Ideal) X (ix3 h r j) = X (ix3 h r j) := by
  blk_ext! [places t]

theorem block_mask (c : Dev nD) (t : Fin cfg0.N) (h : Fin 8) (r j : Fin 256) :
    iblk m c 18 t (ix3 h r j) = V m c main_v70 (ix3 h r j) :=
  read_mask c t _ h r j

theorem read_xi (c : Dev nD) (t : Fin cfg0.N) (X : Buf (Elt Ideal) ((c : Thread nD τ).loc main_v89)) (h : Fin 8) (r : Fin 256) (e : Fin 128) :
    ((cfg0.win 19).blk t).view.read (Elt Ideal) X (ix3 h r e) = X (ix3 h r e) := by
  blk_ext! [places t]

theorem block_xi (c : Dev nD) (t : Fin cfg0.N) (h : Fin 8) (r : Fin 256) (e : Fin 128) :
    iblk m c 19 t (ix3 h r e) = V m c main_v89 (ix3 h r e) :=
  read_xi c t _ h r e

theorem read_zeta (c : Dev nD) (t : Fin cfg0.N) (X : Buf (Elt Ideal) ((c : Thread nD τ).loc main_v92)) (r : Fin 256) (k : Fin 512) :
    ((cfg0.win 20).blk t).view.read (Elt Ideal) X (ix2 r k) = X (ix2 r k) := by
  blk_ext! [places t]

theorem block_zeta (c : Dev nD) (t : Fin cfg0.N) (r : Fin 256) (k : Fin 512) :
    iblk m c 20 t (ix2 r k) = V m c main_v92 (ix2 r k) :=
  read_zeta c t _ r k

theorem read_ws (c : Dev nD) (t : Fin cfg0.N) (X : Buf (Elt Ideal) ((c : Thread nD τ).loc main_arg5)) (j : Fin 1024) (k : Fin 2048) :
    ((cfg0.win 21).blk t).view.read (Elt Ideal) X (ix2 j k) = X (ix2 j k) := by
  blk_ext! [places t]

theorem block_ws (c : Dev nD) (t : Fin cfg0.N) (j : Fin 1024) (k : Fin 2048) :
    iblk m c 21 t (ix2 j k) = V m c main_arg5 (ix2 j k) :=
  read_ws c t _ j k

theorem read_wr (c : Dev nD) (t : Fin cfg0.N) (X : Buf (Elt Ideal) ((c : Thread nD τ).loc main_arg6)) (j : Fin 1024) (k : Fin 2048) :
    ((cfg0.win 22).blk t).view.read (Elt Ideal) X (ix2 j k) = X (ix2 j k) := by
  blk_ext! [places t]

theorem block_wr (c : Dev nD) (t : Fin cfg0.N) (j : Fin 1024) (k : Fin 2048) :
    iblk m c 22 t (ix2 j k) = V m c main_arg6 (ix2 j k) :=
  read_wr c t _ j k

theorem read_wo (c : Dev nD) (t : Fin cfg0.N) (X : Buf (Elt Ideal) ((c : Thread nD τ).loc main_arg7)) (j k : Fin 2048) :
    ((cfg0.win 23).blk t).view.read (Elt Ideal) X (ix2 j k) = X (ix2 j k) := by
  blk_ext! [places t]

theorem block_wo (c : Dev nD) (t : Fin cfg0.N) (j k : Fin 2048) :
    iblk m c 23 t (ix2 j k) = V m c main_arg7 (ix2 j k) :=
  read_wo c t _ j k

theorem read_gain (c : Dev nD) (t : Fin cfg0.N) (X : Buf (Elt Ideal) ((c : Thread nD τ).loc main_v94)) (k : Fin 2048) :
    ((cfg0.win 24).blk t).view.read (Elt Ideal) X (ix2 0 k) = X (ix2 0 k) := by
  blk_ext! [places t]

theorem block_gain (c : Dev nD) (t : Fin cfg0.N) (k : Fin 2048) :
    iblk m c 24 t (ix2 0 k) = V m c main_v94 (ix2 0 k) :=
  read_gain c t _ k

theorem arg0 (c : Dev nD) : V m c main_arg0 = m ((c : Thread nD τ).loc main_arg0) := by
  unfold V
  after_reads_simp

theorem arg1 (c : Dev nD) : V m c main_arg1 = m ((c : Thread nD τ).loc main_arg1) := by
  unfold V
  after_reads_simp

theorem arg2 (c : Dev nD) : V m c main_arg2 = m ((c : Thread nD τ).loc main_arg2) := by
  unfold V
  after_reads_simp

theorem arg3 (c : Dev nD) : V m c main_arg3 = m ((c : Thread nD τ).loc main_arg3) := by
  unfold V
  after_reads_simp

theorem arg5 (c : Dev nD) : V m c main_arg5 = m ((c : Thread nD τ).loc main_arg5) := by
  unfold V
  after_reads_simp

theorem arg6 (c : Dev nD) : V m c main_arg6 = m ((c : Thread nD τ).loc main_arg6) := by
  unfold V
  after_reads_simp

theorem arg7 (c : Dev nD) : V m c main_arg7 = m ((c : Thread nD τ).loc main_arg7) := by
  unfold V
  after_reads_simp

theorem arg4 (c : Dev nD) (k : Fin 1024) : V m c main_v93 (ix2 0 k) = m ((c : Thread nD τ).loc main_arg4) (ix1 k) := by
  unfold V
  after_reads_at
  try rfl

theorem arg8 (c : Dev nD) (k : Fin 2048) : V m c main_v94 (ix2 0 k) = m ((c : Thread nD τ).loc main_arg8) (ix1 k) := by
  unfold V
  after_reads_at
  try rfl

end Cert.KernelIdeal.Tail

end
-- ==== Proof.TailIdeal.StepGated.lean ====
/-
  The gated state space output that a point of the tail leaves, from its blocks.
-/
module

public import proofs.«01_k».proof.Proof.TailIdeal.Frame
public import proofs.«01_k».proof.Proof.TailIdeal.Parts
public import Idealize.ShloMosaic.Lib.Pipeline.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.KernelIdeal.Tail

open Cert.KernelIdeal Cert.KernelIdeal.Gen Idealize.ShloMosaic Idealize.ShloMosaic.TcCoe Cert.Tail

section

variable (c : Dev nD) (t : Fin cfg0.N)
  (b0 : Vec Ideal S256x1024 .bf16) (b1 : Vec Ideal S256x1024 .bf16) (b2 : Vec Ideal S256x512 .bf16) (b3 : Vec Ideal S256x512 .bf16) (b4 : Vec Ideal S256x1024 .bf16) (b5 : Vec Ideal S256x1024 .bf16) (b6 : Vec Ideal S1x1x128 .f32) (b7 : Vec Ideal S1x1x128 .f32) (b8 : Vec Ideal S256x1024 .bf16) (b9 : Vec Ideal S256x1024 .bf16) (b10 : Vec Ideal S256x1024 .bf16) (b11 : Vec Ideal S256x1024 .bf16) (b12 : Vec Ideal S256x2048 .f32) (b13 : Vec Ideal S1024x1024 .bf16) (b14 : Vec Ideal S1x1024 .f32) (b15 : Vec Ideal S256x128 .f32) (b16 : Vec Ideal S256x128 .f32) (b17 : Vec Ideal S1x128 .f32) (b18 : Vec Ideal S8x256x256 .f32) (b19 : Vec Ideal S8x256x128 .f32) (b20 : Vec Ideal S256x512 .f32) (b21 : Vec Ideal S1024x2048 .bf16) (b22 : Vec Ideal S1024x2048 .bf16) (b23 : Vec Ideal S2048x2048 .bf16) (b24 : Vec Ideal S1x2048 .f32)
  (s0 : Vec Ideal S8x64x128 .f32) (s1 s2 : Vec Ideal S256x1024 .bf16)

/-- The gated state space output that a point leaves. -/
theorem ysB_at (h0 : ¬t.val % 65 = 0) (r : Fin 256) (k : Fin 1024) :
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) (fun h => h0 ((hcond0_0 t).mp h)) b0 b1 b2 b3 b4 b5 b6 b7 b8 b9 b10 b11 b12 b13 b14 b15 b16 b17 b18 b19 b20 b21 b22 b23 b24 s0 s1 s2 (ix2 r k)
      = gated (fun k => b0 (ix2 r k)) (fun j k => b13 (ix2 j k)) (fun k => b14 (ix2 0 k)) (b1 (ix2 r k)) k := by
  frame_open
  frame_out
  try simp only [read_unread_whole]
  open_payloads
  pointwise
  simp only [ge_eq, logistic_eq]
  rfl

end

section

variable (c : Dev nD) (t : Fin cfg0.N)
  (b0 : Vec Ideal S256x1024 .bf16) (b1 : Vec Ideal S256x1024 .bf16) (b2 : Vec Ideal S256x512 .bf16) (b3 : Vec Ideal S256x512 .bf16) (b4 : Vec Ideal S256x1024 .bf16) (b5 : Vec Ideal S256x1024 .bf16) (b6 : Vec Ideal S1x1x128 .f32) (b7 : Vec Ideal S1x1x128 .f32) (b8 : Vec Ideal S256x1024 .bf16) (b9 : Vec Ideal S256x1024 .bf16) (b10 : Vec Ideal S256x1024 .bf16) (b11 : Vec Ideal S256x1024 .bf16) (b12 : Vec Ideal S256x2048 .f32) (b13 : Vec Ideal S1024x1024 .bf16) (b14 : Vec Ideal S1x1024 .f32) (b15 : Vec Ideal S256x128 .f32) (b16 : Vec Ideal S256x128 .f32) (b17 : Vec Ideal S1x128 .f32) (b18 : Vec Ideal S8x256x256 .f32) (b19 : Vec Ideal S8x256x128 .f32) (b20 : Vec Ideal S256x512 .f32) (b21 : Vec Ideal S1024x2048 .bf16) (b22 : Vec Ideal S1024x2048 .bf16) (b23 : Vec Ideal S2048x2048 .bf16) (b24 : Vec Ideal S1x2048 .f32)

/-- The gated state space output that a point leaves. -/
theorem ysA_at (h0 : t.val % 65 = 0) (r : Fin 256) (k : Fin 1024) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) ((hcond0_0 t).mpr h0) b0 b1 b2 b3 b4 b5 b6 b7 b8 b9 b10 b11 b12 b13 b14 b15 b16 b17 b18 b19 b20 b21 b22 b23 b24 (ix2 r k)
      = gated (fun k => b0 (ix2 r k)) (fun j k => b13 (ix2 j k)) (fun k => b14 (ix2 0 k)) (b1 (ix2 r k)) k := by
  frame_open
  simp (disch := decide) only [↓ View.readCov_skip, ↓ View.readCov_cons_toLoadRect, ↓ View.readCov_fill]
  frame_out
  try simp only [read_unread_whole]
  open_payloads
  pointwise
  simp only [ge_eq, logistic_eq]
  rfl

end

end Cert.KernelIdeal.Tail

end
-- ==== Proof.TailIdeal.StepMerged.lean ====
/-
  The merged rows that a point of the tail leaves, from its blocks.
-/
module

public import proofs.«01_k».proof.Proof.TailIdeal.Frame
public import proofs.«01_k».proof.Proof.TailIdeal.Parts
public import Idealize.ShloMosaic.Lib.Pipeline.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.KernelIdeal.Tail

open Cert.KernelIdeal Cert.KernelIdeal.Gen Idealize.ShloMosaic Idealize.ShloMosaic.TcCoe Cert.Tail

section

variable (c : Dev nD) (t : Fin cfg0.N)
  (b0 : Vec Ideal S256x1024 .bf16) (b1 : Vec Ideal S256x1024 .bf16) (b2 : Vec Ideal S256x512 .bf16) (b3 : Vec Ideal S256x512 .bf16) (b4 : Vec Ideal S256x1024 .bf16) (b5 : Vec Ideal S256x1024 .bf16) (b6 : Vec Ideal S1x1x128 .f32) (b7 : Vec Ideal S1x1x128 .f32) (b8 : Vec Ideal S256x1024 .bf16) (b9 : Vec Ideal S256x1024 .bf16) (b10 : Vec Ideal S256x1024 .bf16) (b11 : Vec Ideal S256x1024 .bf16) (b12 : Vec Ideal S256x2048 .f32) (b13 : Vec Ideal S1024x1024 .bf16) (b14 : Vec Ideal S1x1024 .f32) (b15 : Vec Ideal S256x128 .f32) (b16 : Vec Ideal S256x128 .f32) (b17 : Vec Ideal S1x128 .f32) (b18 : Vec Ideal S8x256x256 .f32) (b19 : Vec Ideal S8x256x128 .f32) (b20 : Vec Ideal S256x512 .f32) (b21 : Vec Ideal S1024x2048 .bf16) (b22 : Vec Ideal S1024x2048 .bf16) (b23 : Vec Ideal S2048x2048 .bf16) (b24 : Vec Ideal S1x2048 .f32)
  (s0 : Vec Ideal S8x64x128 .f32) (s1 s2 : Vec Ideal S256x1024 .bf16)

/-- The rows of the result that a point leaves. -/
theorem outB_at (h0 : ¬t.val % 65 = 0) (r : Fin 256) (k : Fin 2048) :
    out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) (fun h => h0 ((hcond0_0 t).mp h)) b0 b1 b2 b3 b4 b5 b6 b7 b8 b9 b10 b11 b12 b13 b14 b15 b16 b17 b18 b19 b20 b21 b22 b23 b24 s0 s1 s2 (ix2 r k)
      = merged (fun k => s1 (ix2 r k)) (fun k => s2 (ix2 r k)) (fun j k => b21 (ix2 j k)) (fun j k => b22 (ix2 j k)) (fun j k => b23 (ix2 j k))
          (both (fun k => b8 (ix2 r k)) (fun k => b9 (ix2 r k))) (both (fun k => b10 (ix2 r k)) (fun k => b11 (ix2 r k)))
          (fun k => b12 (ix2 r k)) (fun k => b24 (ix2 0 k)) k := by
  frame_open
  frame_out
  try simp only [read_unread_whole]
  pointwise [k0_pay9, k0_pay8, k0_pay7]
  simp only [pay6_at]
  rfl

end

end Cert.KernelIdeal.Tail

end
-- ==== Proof.TailIdeal.StepState.lean ====
/-
  The state that a point of the tail leaves, from its blocks.
-/
module

public import proofs.«01_k».proof.Proof.TailIdeal.Frame
public import proofs.«01_k».proof.Proof.TailIdeal.Parts
public import Idealize.ShloMosaic.Lib.Pipeline.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.KernelIdeal.Tail

open Cert.KernelIdeal Cert.KernelIdeal.Gen Idealize.ShloMosaic Idealize.ShloMosaic.TcCoe Cert.Tail

section

variable (c : Dev nD) (t : Fin cfg0.N)
  (b0 : Vec Ideal S256x1024 .bf16) (b1 : Vec Ideal S256x1024 .bf16) (b2 : Vec Ideal S256x512 .bf16) (b3 : Vec Ideal S256x512 .bf16) (b4 : Vec Ideal S256x1024 .bf16) (b5 : Vec Ideal S256x1024 .bf16) (b6 : Vec Ideal S1x1x128 .f32) (b7 : Vec Ideal S1x1x128 .f32) (b8 : Vec Ideal S256x1024 .bf16) (b9 : Vec Ideal S256x1024 .bf16) (b10 : Vec Ideal S256x1024 .bf16) (b11 : Vec Ideal S256x1024 .bf16) (b12 : Vec Ideal S256x2048 .f32) (b13 : Vec Ideal S1024x1024 .bf16) (b14 : Vec Ideal S1x1024 .f32) (b15 : Vec Ideal S256x128 .f32) (b16 : Vec Ideal S256x128 .f32) (b17 : Vec Ideal S1x128 .f32) (b18 : Vec Ideal S8x256x256 .f32) (b19 : Vec Ideal S8x256x128 .f32) (b20 : Vec Ideal S256x512 .f32) (b21 : Vec Ideal S1024x2048 .bf16) (b22 : Vec Ideal S1024x2048 .bf16) (b23 : Vec Ideal S2048x2048 .bf16) (b24 : Vec Ideal S1x2048 .f32)
  (s0 : Vec Ideal S8x64x128 .f32) (s1 s2 : Vec Ideal S256x1024 .bf16)

/-- The state that a point leaves. -/
theorem stB_at (h0 : ¬t.val % 65 = 0) (h : Fin 8) (d : Fin 64) (e : Fin 128) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) (fun h => h0 ((hcond0_0 t).mp h)) b0 b1 b2 b3 b4 b5 b6 b7 b8 b9 b10 b11 b12 b13 b14 b15 b16 b17 b18 b19 b20 b21 b22 b23 b24 s0 s1 s2 (ix3 h d e) = stateK (turnK b3 (cosK b6 b7 b15 b16) (sinK b6 b7 b15 b16 b17)) b4 b20 s0 h d e := by
  frame_open
  frame_out
  try simp only [read_unread_whole]
  canon_tiles x he using View.cover_of_tiledBy _ ![1, 64, 128] (by sl_kernel_rfl) _
  · idx_vars x
    obtain rfl : h = 7 := Fin.ext (by show h.val = 7; omega)
    obtain rfl : x1 = d := Fin.ext he1.symm
    obtain rfl : x2 = e := Fin.ext he2.symm
    show stV (extractStridedSlice S256x64 ![0, 64] (truncf .bf16 (mulf (mulf (turnV (extf .f32 (View.ld b3 (Rect.unit ![0, 384] ![256, 128] inb_S256x512_S256x128_0_384)) bitsLt_bf16_f32) (k0_pay14 b6 b7 b15 b16) (k0_pay15 b6 b7 b15 b16 b17)) (broadcast S256x128 (Scalar.ofBits .f32 0x3E000000#32))) (shapeCast S256x128 (View.ld b20 (Rect.unit ![0, 384] ![256, 128] inb_S256x512_S256x128_0_384)) shapeCasts_S256x128_S256x128)) bitsLt_bf16_f32) slices_S256x128_o0_64_S256x64) (View.ld b4 (Rect.unit ![0, 896] ![256, 128] inb_S256x1024_S256x128_0_896)) (View.ld s0 (Rect.unit ![7, 0, 0] ![1, 64, 128] inb_S8x64x128_S1x64x128_7_0_0)) (decayK 7) (ix3 _ _ _) = _
    rw [stV_at]
    pointwise
    simp only [turnV_at, cosV_at, sinV_at]
    pointwise
    have hv : (7 : Fin 8).val = 7 := rfl
    simp only [stateK, turnK, cosK, sinK, hv, Nat.reduceDiv, Nat.reduceMul, Nat.reduceMod, mul_zero, zero_add, ← Nat.add_assoc, Nat.reduceAdd]
    try rfl
  · idx_vars x
    obtain rfl : h = 6 := Fin.ext (by show h.val = 6; omega)
    obtain rfl : x1 = d := Fin.ext he1.symm
    obtain rfl : x2 = e := Fin.ext he2.symm
    show stV (extractStridedSlice S256x64 ![0, 0] (truncf .bf16 (mulf (mulf (turnV (extf .f32 (View.ld b3 (Rect.unit ![0, 384] ![256, 128] inb_S256x512_S256x128_0_384)) bitsLt_bf16_f32) (k0_pay14 b6 b7 b15 b16) (k0_pay15 b6 b7 b15 b16 b17)) (broadcast S256x128 (Scalar.ofBits .f32 0x3E000000#32))) (shapeCast S256x128 (View.ld b20 (Rect.unit ![0, 384] ![256, 128] inb_S256x512_S256x128_0_384)) shapeCasts_S256x128_S256x128)) bitsLt_bf16_f32) slices_S256x128_o0_0_S256x64) (View.ld b4 (Rect.unit ![0, 768] ![256, 128] inb_S256x1024_S256x128_0_768)) (View.ld s0 (Rect.unit ![6, 0, 0] ![1, 64, 128] inb_S8x64x128_S1x64x128_6_0_0)) (decayK 6) (ix3 _ _ _) = _
    rw [stV_at]
    pointwise
    simp only [turnV_at, cosV_at, sinV_at]
    pointwise
    have hv : (6 : Fin 8).val = 6 := rfl
    simp only [stateK, turnK, cosK, sinK, hv, Nat.reduceDiv, Nat.reduceMul, Nat.reduceMod, mul_zero, zero_add, ← Nat.add_assoc, Nat.reduceAdd]
    try rfl
  · idx_vars x
    obtain rfl : h = 5 := Fin.ext (by show h.val = 5; omega)
    obtain rfl : x1 = d := Fin.ext he1.symm
    obtain rfl : x2 = e := Fin.ext he2.symm
    show stV (extractStridedSlice S256x64 ![0, 64] (truncf .bf16 (mulf (mulf (turnV (extf .f32 (View.ld b3 (Rect.unit ![0, 256] ![256, 128] inb_S256x512_S256x128_0_256)) bitsLt_bf16_f32) (k0_pay14 b6 b7 b15 b16) (k0_pay15 b6 b7 b15 b16 b17)) (broadcast S256x128 (Scalar.ofBits .f32 0x3E000000#32))) (shapeCast S256x128 (View.ld b20 (Rect.unit ![0, 256] ![256, 128] inb_S256x512_S256x128_0_256)) shapeCasts_S256x128_S256x128)) bitsLt_bf16_f32) slices_S256x128_o0_64_S256x64) (View.ld b4 (Rect.unit ![0, 640] ![256, 128] inb_S256x1024_S256x128_0_640)) (View.ld s0 (Rect.unit ![5, 0, 0] ![1, 64, 128] inb_S8x64x128_S1x64x128_5_0_0)) (decayK 5) (ix3 _ _ _) = _
    rw [stV_at]
    pointwise
    simp only [turnV_at, cosV_at, sinV_at]
    pointwise
    have hv : (5 : Fin 8).val = 5 := rfl
    simp only [stateK, turnK, cosK, sinK, hv, Nat.reduceDiv, Nat.reduceMul, Nat.reduceMod, mul_zero, zero_add, ← Nat.add_assoc, Nat.reduceAdd]
    try rfl
  · idx_vars x
    obtain rfl : h = 4 := Fin.ext (by show h.val = 4; omega)
    obtain rfl : x1 = d := Fin.ext he1.symm
    obtain rfl : x2 = e := Fin.ext he2.symm
    show stV (extractStridedSlice S256x64 ![0, 0] (truncf .bf16 (mulf (mulf (turnV (extf .f32 (View.ld b3 (Rect.unit ![0, 256] ![256, 128] inb_S256x512_S256x128_0_256)) bitsLt_bf16_f32) (k0_pay14 b6 b7 b15 b16) (k0_pay15 b6 b7 b15 b16 b17)) (broadcast S256x128 (Scalar.ofBits .f32 0x3E000000#32))) (shapeCast S256x128 (View.ld b20 (Rect.unit ![0, 256] ![256, 128] inb_S256x512_S256x128_0_256)) shapeCasts_S256x128_S256x128)) bitsLt_bf16_f32) slices_S256x128_o0_0_S256x64) (View.ld b4 (Rect.unit ![0, 512] ![256, 128] inb_S256x1024_S256x128_0_512)) (View.ld s0 (Rect.unit ![4, 0, 0] ![1, 64, 128] inb_S8x64x128_S1x64x128_4_0_0)) (decayK 4) (ix3 _ _ _) = _
    rw [stV_at]
    pointwise
    simp only [turnV_at, cosV_at, sinV_at]
    pointwise
    have hv : (4 : Fin 8).val = 4 := rfl
    simp only [stateK, turnK, cosK, sinK, hv, Nat.reduceDiv, Nat.reduceMul, Nat.reduceMod, mul_zero, zero_add, ← Nat.add_assoc, Nat.reduceAdd]
    try rfl
  · idx_vars x
    obtain rfl : h = 3 := Fin.ext (by show h.val = 3; omega)
    obtain rfl : x1 = d := Fin.ext he1.symm
    obtain rfl : x2 = e := Fin.ext he2.symm
    show stV (extractStridedSlice S256x64 ![0, 64] (truncf .bf16 (mulf (mulf (turnV (extf .f32 (View.ld b3 (Rect.unit ![0, 128] ![256, 128] inb_S256x512_S256x128_0_128)) bitsLt_bf16_f32) (k0_pay14 b6 b7 b15 b16) (k0_pay15 b6 b7 b15 b16 b17)) (broadcast S256x128 (Scalar.ofBits .f32 0x3E000000#32))) (shapeCast S256x128 (View.ld b20 (Rect.unit ![0, 128] ![256, 128] inb_S256x512_S256x128_0_128)) shapeCasts_S256x128_S256x128)) bitsLt_bf16_f32) slices_S256x128_o0_64_S256x64) (View.ld b4 (Rect.unit ![0, 384] ![256, 128] inb_S256x1024_S256x128_0_384)) (View.ld s0 (Rect.unit ![3, 0, 0] ![1, 64, 128] inb_S8x64x128_S1x64x128_3_0_0)) (decayK 3) (ix3 _ _ _) = _
    rw [stV_at]
    pointwise
    simp only [turnV_at, cosV_at, sinV_at]
    pointwise
    have hv : (3 : Fin 8).val = 3 := rfl
    simp only [stateK, turnK, cosK, sinK, hv, Nat.reduceDiv, Nat.reduceMul, Nat.reduceMod, mul_zero, zero_add, ← Nat.add_assoc, Nat.reduceAdd]
    try rfl
  · idx_vars x
    obtain rfl : h = 2 := Fin.ext (by show h.val = 2; omega)
    obtain rfl : x1 = d := Fin.ext he1.symm
    obtain rfl : x2 = e := Fin.ext he2.symm
    show stV (extractStridedSlice S256x64 ![0, 0] (truncf .bf16 (mulf (mulf (turnV (extf .f32 (View.ld b3 (Rect.unit ![0, 128] ![256, 128] inb_S256x512_S256x128_0_128)) bitsLt_bf16_f32) (k0_pay14 b6 b7 b15 b16) (k0_pay15 b6 b7 b15 b16 b17)) (broadcast S256x128 (Scalar.ofBits .f32 0x3E000000#32))) (shapeCast S256x128 (View.ld b20 (Rect.unit ![0, 128] ![256, 128] inb_S256x512_S256x128_0_128)) shapeCasts_S256x128_S256x128)) bitsLt_bf16_f32) slices_S256x128_o0_0_S256x64) (View.ld b4 (Rect.unit ![0, 256] ![256, 128] inb_S256x1024_S256x128_0_256)) (View.ld s0 (Rect.unit ![2, 0, 0] ![1, 64, 128] inb_S8x64x128_S1x64x128_2_0_0)) (decayK 2) (ix3 _ _ _) = _
    rw [stV_at]
    pointwise
    simp only [turnV_at, cosV_at, sinV_at]
    pointwise
    have hv : (2 : Fin 8).val = 2 := rfl
    simp only [stateK, turnK, cosK, sinK, hv, Nat.reduceDiv, Nat.reduceMul, Nat.reduceMod, mul_zero, zero_add, ← Nat.add_assoc, Nat.reduceAdd]
    try rfl
  · idx_vars x
    obtain rfl : h = 1 := Fin.ext (by show h.val = 1; omega)
    obtain rfl : x1 = d := Fin.ext he1.symm
    obtain rfl : x2 = e := Fin.ext he2.symm
    show stV (extractStridedSlice S256x64 ![0, 64] (truncf .bf16 (mulf (mulf (turnV (extf .f32 (View.ld b3 (Rect.unit ![0, 0] ![256, 128] inb_S256x512_S256x128_0_0)) bitsLt_bf16_f32) (k0_pay14 b6 b7 b15 b16) (k0_pay15 b6 b7 b15 b16 b17)) (broadcast S256x128 (Scalar.ofBits .f32 0x3E000000#32))) (shapeCast S256x128 (View.ld b20 (Rect.unit ![0, 0] ![256, 128] inb_S256x512_S256x128_0_0)) shapeCasts_S256x128_S256x128)) bitsLt_bf16_f32) slices_S256x128_o0_64_S256x64) (View.ld b4 (Rect.unit ![0, 128] ![256, 128] inb_S256x1024_S256x128_0_128)) (View.ld s0 (Rect.unit ![1, 0, 0] ![1, 64, 128] inb_S8x64x128_S1x64x128_1_0_0)) (decayK 1) (ix3 _ _ _) = _
    rw [stV_at]
    pointwise
    simp only [turnV_at, cosV_at, sinV_at]
    pointwise
    have hv : (1 : Fin 8).val = 1 := rfl
    simp only [stateK, turnK, cosK, sinK, hv, Nat.reduceDiv, Nat.reduceMul, Nat.reduceMod, mul_zero, zero_add, ← Nat.add_assoc, Nat.reduceAdd]
    try rfl
  · idx_vars x
    obtain rfl : h = 0 := Fin.ext (by show h.val = 0; omega)
    obtain rfl : x1 = d := Fin.ext he1.symm
    obtain rfl : x2 = e := Fin.ext he2.symm
    show stV (extractStridedSlice S256x64 ![0, 0] (truncf .bf16 (mulf (mulf (turnV (extf .f32 (View.ld b3 (Rect.unit ![0, 0] ![256, 128] inb_S256x512_S256x128_0_0)) bitsLt_bf16_f32) (k0_pay14 b6 b7 b15 b16) (k0_pay15 b6 b7 b15 b16 b17)) (broadcast S256x128 (Scalar.ofBits .f32 0x3E000000#32))) (shapeCast S256x128 (View.ld b20 (Rect.unit ![0, 0] ![256, 128] inb_S256x512_S256x128_0_0)) shapeCasts_S256x128_S256x128)) bitsLt_bf16_f32) slices_S256x128_o0_0_S256x64) (View.ld b4 (Rect.unit ![0, 0] ![256, 128] inb_S256x1024_S256x128_0_0)) (View.ld s0 (Rect.unit ![0, 0, 0] ![1, 64, 128] inb_S8x64x128_S1x64x128_0_0_0)) (decayK 0) (ix3 _ _ _) = _
    rw [stV_at]
    pointwise
    simp only [turnV_at, cosV_at, sinV_at]
    pointwise
    have hv : (0 : Fin 8).val = 0 := rfl
    simp only [stateK, turnK, cosK, sinK, hv, Nat.reduceDiv, Nat.reduceMul, Nat.reduceMod, mul_zero, zero_add, ← Nat.add_assoc, Nat.reduceAdd]
    try rfl

end

section

variable (c : Dev nD) (t : Fin cfg0.N)
  (b0 : Vec Ideal S256x1024 .bf16) (b1 : Vec Ideal S256x1024 .bf16) (b2 : Vec Ideal S256x512 .bf16) (b3 : Vec Ideal S256x512 .bf16) (b4 : Vec Ideal S256x1024 .bf16) (b5 : Vec Ideal S256x1024 .bf16) (b6 : Vec Ideal S1x1x128 .f32) (b7 : Vec Ideal S1x1x128 .f32) (b8 : Vec Ideal S256x1024 .bf16) (b9 : Vec Ideal S256x1024 .bf16) (b10 : Vec Ideal S256x1024 .bf16) (b11 : Vec Ideal S256x1024 .bf16) (b12 : Vec Ideal S256x2048 .f32) (b13 : Vec Ideal S1024x1024 .bf16) (b14 : Vec Ideal S1x1024 .f32) (b15 : Vec Ideal S256x128 .f32) (b16 : Vec Ideal S256x128 .f32) (b17 : Vec Ideal S1x128 .f32) (b18 : Vec Ideal S8x256x256 .f32) (b19 : Vec Ideal S8x256x128 .f32) (b20 : Vec Ideal S256x512 .f32) (b21 : Vec Ideal S1024x2048 .bf16) (b22 : Vec Ideal S1024x2048 .bf16) (b23 : Vec Ideal S2048x2048 .bf16) (b24 : Vec Ideal S1x2048 .f32)

/-- The state that a point leaves. -/
theorem stA_at (h0 : t.val % 65 = 0) (h : Fin 8) (d : Fin 64) (e : Fin 128) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) ((hcond0_0 t).mpr h0) b0 b1 b2 b3 b4 b5 b6 b7 b8 b9 b10 b11 b12 b13 b14 b15 b16 b17 b18 b19 b20 b21 b22 b23 b24 (ix3 h d e) = stateK (turnK b3 (cosK b6 b7 b15 b16) (sinK b6 b7 b15 b16 b17)) b4 b20 (fun _ => 0) h d e := by
  frame_open
  simp (disch := decide) only [↓ View.readCov_skip, ↓ View.readCov_cons_toLoadRect, ↓ View.readCov_fill]
  frame_out
  try simp only [read_unread_whole]
  rw [canon_drop _ _ _ _ _ _ _ _ _ _ (View.cover_of_tiledBy _ ![1, 64, 128] (by sl_kernel_rfl) _)]
  canon_tiles x he using View.cover_of_tiledBy _ ![1, 64, 128] (by sl_kernel_rfl) _
  · idx_vars x
    obtain rfl : h = 7 := Fin.ext (by show h.val = 7; omega)
    obtain rfl : x1 = d := Fin.ext he1.symm
    obtain rfl : x2 = e := Fin.ext he2.symm
    show stV (extractStridedSlice S256x64 ![0, 64] (truncf .bf16 (mulf (mulf (turnV (extf .f32 (View.ld b3 (Rect.unit ![0, 384] ![256, 128] inb_S256x512_S256x128_0_384)) bitsLt_bf16_f32) (k0_pay14 b6 b7 b15 b16) (k0_pay15 b6 b7 b15 b16 b17)) (broadcast S256x128 (Scalar.ofBits .f32 0x3E000000#32))) (shapeCast S256x128 (View.ld b20 (Rect.unit ![0, 384] ![256, 128] inb_S256x512_S256x128_0_384)) shapeCasts_S256x128_S256x128)) bitsLt_bf16_f32) slices_S256x128_o0_64_S256x64) (View.ld b4 (Rect.unit ![0, 896] ![256, 128] inb_S256x1024_S256x128_0_896)) (View.ld (Val := Elt Ideal) (S := S8x64x128) (e' := .f32) (k0_pay3 (F := Ideal)) (Rect.unit ![7, 0, 0] ![1, 64, 128] inb_S8x64x128_S1x64x128_7_0_0)) (decayK 7) (ix3 _ _ _) = _
    rw [stV_at]
    pointwise
    simp only [turnV_at, cosV_at, sinV_at]
    pointwise [k0_pay3]
    have hv : (7 : Fin 8).val = 7 := rfl
    simp only [stateK, turnK, cosK, sinK, hv, Nat.reduceDiv, Nat.reduceMul, Nat.reduceMod, mul_zero, zero_add, ← Nat.add_assoc, Nat.reduceAdd]
    try rfl
  · idx_vars x
    obtain rfl : h = 6 := Fin.ext (by show h.val = 6; omega)
    obtain rfl : x1 = d := Fin.ext he1.symm
    obtain rfl : x2 = e := Fin.ext he2.symm
    show stV (extractStridedSlice S256x64 ![0, 0] (truncf .bf16 (mulf (mulf (turnV (extf .f32 (View.ld b3 (Rect.unit ![0, 384] ![256, 128] inb_S256x512_S256x128_0_384)) bitsLt_bf16_f32) (k0_pay14 b6 b7 b15 b16) (k0_pay15 b6 b7 b15 b16 b17)) (broadcast S256x128 (Scalar.ofBits .f32 0x3E000000#32))) (shapeCast S256x128 (View.ld b20 (Rect.unit ![0, 384] ![256, 128] inb_S256x512_S256x128_0_384)) shapeCasts_S256x128_S256x128)) bitsLt_bf16_f32) slices_S256x128_o0_0_S256x64) (View.ld b4 (Rect.unit ![0, 768] ![256, 128] inb_S256x1024_S256x128_0_768)) (View.ld (Val := Elt Ideal) (S := S8x64x128) (e' := .f32) (k0_pay3 (F := Ideal)) (Rect.unit ![6, 0, 0] ![1, 64, 128] inb_S8x64x128_S1x64x128_6_0_0)) (decayK 6) (ix3 _ _ _) = _
    rw [stV_at]
    pointwise
    simp only [turnV_at, cosV_at, sinV_at]
    pointwise [k0_pay3]
    have hv : (6 : Fin 8).val = 6 := rfl
    simp only [stateK, turnK, cosK, sinK, hv, Nat.reduceDiv, Nat.reduceMul, Nat.reduceMod, mul_zero, zero_add, ← Nat.add_assoc, Nat.reduceAdd]
    try rfl
  · idx_vars x
    obtain rfl : h = 5 := Fin.ext (by show h.val = 5; omega)
    obtain rfl : x1 = d := Fin.ext he1.symm
    obtain rfl : x2 = e := Fin.ext he2.symm
    show stV (extractStridedSlice S256x64 ![0, 64] (truncf .bf16 (mulf (mulf (turnV (extf .f32 (View.ld b3 (Rect.unit ![0, 256] ![256, 128] inb_S256x512_S256x128_0_256)) bitsLt_bf16_f32) (k0_pay14 b6 b7 b15 b16) (k0_pay15 b6 b7 b15 b16 b17)) (broadcast S256x128 (Scalar.ofBits .f32 0x3E000000#32))) (shapeCast S256x128 (View.ld b20 (Rect.unit ![0, 256] ![256, 128] inb_S256x512_S256x128_0_256)) shapeCasts_S256x128_S256x128)) bitsLt_bf16_f32) slices_S256x128_o0_64_S256x64) (View.ld b4 (Rect.unit ![0, 640] ![256, 128] inb_S256x1024_S256x128_0_640)) (View.ld (Val := Elt Ideal) (S := S8x64x128) (e' := .f32) (k0_pay3 (F := Ideal)) (Rect.unit ![5, 0, 0] ![1, 64, 128] inb_S8x64x128_S1x64x128_5_0_0)) (decayK 5) (ix3 _ _ _) = _
    rw [stV_at]
    pointwise
    simp only [turnV_at, cosV_at, sinV_at]
    pointwise [k0_pay3]
    have hv : (5 : Fin 8).val = 5 := rfl
    simp only [stateK, turnK, cosK, sinK, hv, Nat.reduceDiv, Nat.reduceMul, Nat.reduceMod, mul_zero, zero_add, ← Nat.add_assoc, Nat.reduceAdd]
    try rfl
  · idx_vars x
    obtain rfl : h = 4 := Fin.ext (by show h.val = 4; omega)
    obtain rfl : x1 = d := Fin.ext he1.symm
    obtain rfl : x2 = e := Fin.ext he2.symm
    show stV (extractStridedSlice S256x64 ![0, 0] (truncf .bf16 (mulf (mulf (turnV (extf .f32 (View.ld b3 (Rect.unit ![0, 256] ![256, 128] inb_S256x512_S256x128_0_256)) bitsLt_bf16_f32) (k0_pay14 b6 b7 b15 b16) (k0_pay15 b6 b7 b15 b16 b17)) (broadcast S256x128 (Scalar.ofBits .f32 0x3E000000#32))) (shapeCast S256x128 (View.ld b20 (Rect.unit ![0, 256] ![256, 128] inb_S256x512_S256x128_0_256)) shapeCasts_S256x128_S256x128)) bitsLt_bf16_f32) slices_S256x128_o0_0_S256x64) (View.ld b4 (Rect.unit ![0, 512] ![256, 128] inb_S256x1024_S256x128_0_512)) (View.ld (Val := Elt Ideal) (S := S8x64x128) (e' := .f32) (k0_pay3 (F := Ideal)) (Rect.unit ![4, 0, 0] ![1, 64, 128] inb_S8x64x128_S1x64x128_4_0_0)) (decayK 4) (ix3 _ _ _) = _
    rw [stV_at]
    pointwise
    simp only [turnV_at, cosV_at, sinV_at]
    pointwise [k0_pay3]
    have hv : (4 : Fin 8).val = 4 := rfl
    simp only [stateK, turnK, cosK, sinK, hv, Nat.reduceDiv, Nat.reduceMul, Nat.reduceMod, mul_zero, zero_add, ← Nat.add_assoc, Nat.reduceAdd]
    try rfl
  · idx_vars x
    obtain rfl : h = 3 := Fin.ext (by show h.val = 3; omega)
    obtain rfl : x1 = d := Fin.ext he1.symm
    obtain rfl : x2 = e := Fin.ext he2.symm
    show stV (extractStridedSlice S256x64 ![0, 64] (truncf .bf16 (mulf (mulf (turnV (extf .f32 (View.ld b3 (Rect.unit ![0, 128] ![256, 128] inb_S256x512_S256x128_0_128)) bitsLt_bf16_f32) (k0_pay14 b6 b7 b15 b16) (k0_pay15 b6 b7 b15 b16 b17)) (broadcast S256x128 (Scalar.ofBits .f32 0x3E000000#32))) (shapeCast S256x128 (View.ld b20 (Rect.unit ![0, 128] ![256, 128] inb_S256x512_S256x128_0_128)) shapeCasts_S256x128_S256x128)) bitsLt_bf16_f32) slices_S256x128_o0_64_S256x64) (View.ld b4 (Rect.unit ![0, 384] ![256, 128] inb_S256x1024_S256x128_0_384)) (View.ld (Val := Elt Ideal) (S := S8x64x128) (e' := .f32) (k0_pay3 (F := Ideal)) (Rect.unit ![3, 0, 0] ![1, 64, 128] inb_S8x64x128_S1x64x128_3_0_0)) (decayK 3) (ix3 _ _ _) = _
    rw [stV_at]
    pointwise
    simp only [turnV_at, cosV_at, sinV_at]
    pointwise [k0_pay3]
    have hv : (3 : Fin 8).val = 3 := rfl
    simp only [stateK, turnK, cosK, sinK, hv, Nat.reduceDiv, Nat.reduceMul, Nat.reduceMod, mul_zero, zero_add, ← Nat.add_assoc, Nat.reduceAdd]
    try rfl
  · idx_vars x
    obtain rfl : h = 2 := Fin.ext (by show h.val = 2; omega)
    obtain rfl : x1 = d := Fin.ext he1.symm
    obtain rfl : x2 = e := Fin.ext he2.symm
    show stV (extractStridedSlice S256x64 ![0, 0] (truncf .bf16 (mulf (mulf (turnV (extf .f32 (View.ld b3 (Rect.unit ![0, 128] ![256, 128] inb_S256x512_S256x128_0_128)) bitsLt_bf16_f32) (k0_pay14 b6 b7 b15 b16) (k0_pay15 b6 b7 b15 b16 b17)) (broadcast S256x128 (Scalar.ofBits .f32 0x3E000000#32))) (shapeCast S256x128 (View.ld b20 (Rect.unit ![0, 128] ![256, 128] inb_S256x512_S256x128_0_128)) shapeCasts_S256x128_S256x128)) bitsLt_bf16_f32) slices_S256x128_o0_0_S256x64) (View.ld b4 (Rect.unit ![0, 256] ![256, 128] inb_S256x1024_S256x128_0_256)) (View.ld (Val := Elt Ideal) (S := S8x64x128) (e' := .f32) (k0_pay3 (F := Ideal)) (Rect.unit ![2, 0, 0] ![1, 64, 128] inb_S8x64x128_S1x64x128_2_0_0)) (decayK 2) (ix3 _ _ _) = _
    rw [stV_at]
    pointwise
    simp only [turnV_at, cosV_at, sinV_at]
    pointwise [k0_pay3]
    have hv : (2 : Fin 8).val = 2 := rfl
    simp only [stateK, turnK, cosK, sinK, hv, Nat.reduceDiv, Nat.reduceMul, Nat.reduceMod, mul_zero, zero_add, ← Nat.add_assoc, Nat.reduceAdd]
    try rfl
  · idx_vars x
    obtain rfl : h = 1 := Fin.ext (by show h.val = 1; omega)
    obtain rfl : x1 = d := Fin.ext he1.symm
    obtain rfl : x2 = e := Fin.ext he2.symm
    show stV (extractStridedSlice S256x64 ![0, 64] (truncf .bf16 (mulf (mulf (turnV (extf .f32 (View.ld b3 (Rect.unit ![0, 0] ![256, 128] inb_S256x512_S256x128_0_0)) bitsLt_bf16_f32) (k0_pay14 b6 b7 b15 b16) (k0_pay15 b6 b7 b15 b16 b17)) (broadcast S256x128 (Scalar.ofBits .f32 0x3E000000#32))) (shapeCast S256x128 (View.ld b20 (Rect.unit ![0, 0] ![256, 128] inb_S256x512_S256x128_0_0)) shapeCasts_S256x128_S256x128)) bitsLt_bf16_f32) slices_S256x128_o0_64_S256x64) (View.ld b4 (Rect.unit ![0, 128] ![256, 128] inb_S256x1024_S256x128_0_128)) (View.ld (Val := Elt Ideal) (S := S8x64x128) (e' := .f32) (k0_pay3 (F := Ideal)) (Rect.unit ![1, 0, 0] ![1, 64, 128] inb_S8x64x128_S1x64x128_1_0_0)) (decayK 1) (ix3 _ _ _) = _
    rw [stV_at]
    pointwise
    simp only [turnV_at, cosV_at, sinV_at]
    pointwise [k0_pay3]
    have hv : (1 : Fin 8).val = 1 := rfl
    simp only [stateK, turnK, cosK, sinK, hv, Nat.reduceDiv, Nat.reduceMul, Nat.reduceMod, mul_zero, zero_add, ← Nat.add_assoc, Nat.reduceAdd]
    try rfl
  · idx_vars x
    obtain rfl : h = 0 := Fin.ext (by show h.val = 0; omega)
    obtain rfl : x1 = d := Fin.ext he1.symm
    obtain rfl : x2 = e := Fin.ext he2.symm
    show stV (extractStridedSlice S256x64 ![0, 0] (truncf .bf16 (mulf (mulf (turnV (extf .f32 (View.ld b3 (Rect.unit ![0, 0] ![256, 128] inb_S256x512_S256x128_0_0)) bitsLt_bf16_f32) (k0_pay14 b6 b7 b15 b16) (k0_pay15 b6 b7 b15 b16 b17)) (broadcast S256x128 (Scalar.ofBits .f32 0x3E000000#32))) (shapeCast S256x128 (View.ld b20 (Rect.unit ![0, 0] ![256, 128] inb_S256x512_S256x128_0_0)) shapeCasts_S256x128_S256x128)) bitsLt_bf16_f32) slices_S256x128_o0_0_S256x64) (View.ld b4 (Rect.unit ![0, 0] ![256, 128] inb_S256x1024_S256x128_0_0)) (View.ld (Val := Elt Ideal) (S := S8x64x128) (e' := .f32) (k0_pay3 (F := Ideal)) (Rect.unit ![0, 0, 0] ![1, 64, 128] inb_S8x64x128_S1x64x128_0_0_0)) (decayK 0) (ix3 _ _ _) = _
    rw [stV_at]
    pointwise
    simp only [turnV_at, cosV_at, sinV_at]
    pointwise [k0_pay3]
    have hv : (0 : Fin 8).val = 0 := rfl
    simp only [stateK, turnK, cosK, sinK, hv, Nat.reduceDiv, Nat.reduceMul, Nat.reduceMod, mul_zero, zero_add, ← Nat.add_assoc, Nat.reduceAdd]
    try rfl

end

end Cert.KernelIdeal.Tail

end
-- ==== Proof.TailIdeal.StepRetention.lean ====
/-
  The gated retention that a point of the tail leaves, from its blocks.
-/
module

public import proofs.«01_k».proof.Proof.TailIdeal.Frame
public import proofs.«01_k».proof.Proof.TailIdeal.Parts
public import Idealize.ShloMosaic.Lib.Pipeline.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.KernelIdeal.Tail

open Cert.KernelIdeal Cert.KernelIdeal.Gen Idealize.ShloMosaic Idealize.ShloMosaic.TcCoe Cert.Tail

section

variable (c : Dev nD) (t : Fin cfg0.N)
  (b0 : Vec Ideal S256x1024 .bf16) (b1 : Vec Ideal S256x1024 .bf16) (b2 : Vec Ideal S256x512 .bf16) (b3 : Vec Ideal S256x512 .bf16) (b4 : Vec Ideal S256x1024 .bf16) (b5 : Vec Ideal S256x1024 .bf16) (b6 : Vec Ideal S1x1x128 .f32) (b7 : Vec Ideal S1x1x128 .f32) (b8 : Vec Ideal S256x1024 .bf16) (b9 : Vec Ideal S256x1024 .bf16) (b10 : Vec Ideal S256x1024 .bf16) (b11 : Vec Ideal S256x1024 .bf16) (b12 : Vec Ideal S256x2048 .f32) (b13 : Vec Ideal S1024x1024 .bf16) (b14 : Vec Ideal S1x1024 .f32) (b15 : Vec Ideal S256x128 .f32) (b16 : Vec Ideal S256x128 .f32) (b17 : Vec Ideal S1x128 .f32) (b18 : Vec Ideal S8x256x256 .f32) (b19 : Vec Ideal S8x256x128 .f32) (b20 : Vec Ideal S256x512 .f32) (b21 : Vec Ideal S1024x2048 .bf16) (b22 : Vec Ideal S1024x2048 .bf16) (b23 : Vec Ideal S2048x2048 .bf16) (b24 : Vec Ideal S1x2048 .f32)
  (s0 : Vec Ideal S8x64x128 .f32) (s1 s2 : Vec Ideal S256x1024 .bf16)

/-- The gated retention that a point leaves. -/
theorem yrB_at (h0 : ¬t.val % 65 = 0) (r : Fin 256) (h : Fin 8) (e : Fin 128) :
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) (fun h => h0 ((hcond0_0 t).mp h)) b0 b1 b2 b3 b4 b5 b6 b7 b8 b9 b10 b11 b12 b13 b14 b15 b16 b17 b18 b19 b20 b21 b22 b23 b24 s0 s1 s2 (ix2 r ⟨128 * h.val + e.val, by omega⟩)
      = headOut (retK (turnK b2 (cosK b6 b7 b15 b16) (sinK b6 b7 b15 b16 b17)) (turnK b3 (cosK b6 b7 b15 b16) (sinK b6 b7 b15 b16 b17)) b4 b18 b19 s0 r h) (b5 (ix2 r ⟨128 * h.val + e.val, by omega⟩)) e := by
  frame_open
  frame_out
  try simp only [read_unread_whole]
  canon_tiles x he using View.cover_of_tiledBy _ ![256, 128] (by sl_kernel_rfl) _
  · idx_vars x
    obtain rfl : x0 = r := Fin.ext he0.symm
    obtain rfl : x1 = e := Fin.ext (by omega)
    obtain rfl : h = 7 := Fin.ext (by show h.val = 7; omega)
    show outV (oV (extractStridedSlice S256x64 ![0, 64] (truncf .bf16 (turnV (extf .f32 (View.ld b2 (Rect.unit ![0, 384] ![256, 128] inb_S256x512_S256x128_0_384)) bitsLt_bf16_f32) (k0_pay14 b6 b7 b15 b16) (k0_pay15 b6 b7 b15 b16 b17)) bitsLt_bf16_f32) slices_S256x128_o0_64_S256x64) (extractStridedSlice S256x64 ![0, 64] (truncf .bf16 (mulf (turnV (extf .f32 (View.ld b3 (Rect.unit ![0, 384] ![256, 128] inb_S256x512_S256x128_0_384)) bitsLt_bf16_f32) (k0_pay14 b6 b7 b15 b16) (k0_pay15 b6 b7 b15 b16 b17)) (broadcast S256x128 (Scalar.ofBits .f32 0x3E000000#32))) bitsLt_bf16_f32) slices_S256x128_o0_64_S256x64) (View.ld b18 (Rect.unit ![7, 0, 0] ![1, 256, 256] inb_S8x256x256_S1x256x256_7_0_0)) (View.ld b4 (Rect.unit ![0, 896] ![256, 128] inb_S256x1024_S256x128_0_896)) (View.ld s0 (Rect.unit ![7, 0, 0] ![1, 64, 128] inb_S8x64x128_S1x64x128_7_0_0)) (View.ld b19 (Rect.unit ![7, 0, 0] ![1, 256, 128] inb_S8x256x128_S1x256x128_7_0_0))) (View.ld b5 (Rect.unit ![0, 896] ![256, 128] inb_S256x1024_S256x128_0_896)) (ix2 _ _) = _
    rw [outV_at]
    simp only [oV_at]
    pointwise
    simp only [turnV_at, cosV_at, sinV_at]
    pointwise
    have hv : (7 : Fin 8).val = 7 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl
  · idx_vars x
    obtain rfl : x0 = r := Fin.ext he0.symm
    obtain rfl : x1 = e := Fin.ext (by omega)
    obtain rfl : h = 6 := Fin.ext (by show h.val = 6; omega)
    show outV (oV (extractStridedSlice S256x64 ![0, 0] (truncf .bf16 (turnV (extf .f32 (View.ld b2 (Rect.unit ![0, 384] ![256, 128] inb_S256x512_S256x128_0_384)) bitsLt_bf16_f32) (k0_pay14 b6 b7 b15 b16) (k0_pay15 b6 b7 b15 b16 b17)) bitsLt_bf16_f32) slices_S256x128_o0_0_S256x64) (extractStridedSlice S256x64 ![0, 0] (truncf .bf16 (mulf (turnV (extf .f32 (View.ld b3 (Rect.unit ![0, 384] ![256, 128] inb_S256x512_S256x128_0_384)) bitsLt_bf16_f32) (k0_pay14 b6 b7 b15 b16) (k0_pay15 b6 b7 b15 b16 b17)) (broadcast S256x128 (Scalar.ofBits .f32 0x3E000000#32))) bitsLt_bf16_f32) slices_S256x128_o0_0_S256x64) (View.ld b18 (Rect.unit ![6, 0, 0] ![1, 256, 256] inb_S8x256x256_S1x256x256_6_0_0)) (View.ld b4 (Rect.unit ![0, 768] ![256, 128] inb_S256x1024_S256x128_0_768)) (View.ld s0 (Rect.unit ![6, 0, 0] ![1, 64, 128] inb_S8x64x128_S1x64x128_6_0_0)) (View.ld b19 (Rect.unit ![6, 0, 0] ![1, 256, 128] inb_S8x256x128_S1x256x128_6_0_0))) (View.ld b5 (Rect.unit ![0, 768] ![256, 128] inb_S256x1024_S256x128_0_768)) (ix2 _ _) = _
    rw [outV_at]
    simp only [oV_at]
    pointwise
    simp only [turnV_at, cosV_at, sinV_at]
    pointwise
    have hv : (6 : Fin 8).val = 6 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl
  · idx_vars x
    obtain rfl : x0 = r := Fin.ext he0.symm
    obtain rfl : x1 = e := Fin.ext (by omega)
    obtain rfl : h = 5 := Fin.ext (by show h.val = 5; omega)
    show outV (oV (extractStridedSlice S256x64 ![0, 64] (truncf .bf16 (turnV (extf .f32 (View.ld b2 (Rect.unit ![0, 256] ![256, 128] inb_S256x512_S256x128_0_256)) bitsLt_bf16_f32) (k0_pay14 b6 b7 b15 b16) (k0_pay15 b6 b7 b15 b16 b17)) bitsLt_bf16_f32) slices_S256x128_o0_64_S256x64) (extractStridedSlice S256x64 ![0, 64] (truncf .bf16 (mulf (turnV (extf .f32 (View.ld b3 (Rect.unit ![0, 256] ![256, 128] inb_S256x512_S256x128_0_256)) bitsLt_bf16_f32) (k0_pay14 b6 b7 b15 b16) (k0_pay15 b6 b7 b15 b16 b17)) (broadcast S256x128 (Scalar.ofBits .f32 0x3E000000#32))) bitsLt_bf16_f32) slices_S256x128_o0_64_S256x64) (View.ld b18 (Rect.unit ![5, 0, 0] ![1, 256, 256] inb_S8x256x256_S1x256x256_5_0_0)) (View.ld b4 (Rect.unit ![0, 640] ![256, 128] inb_S256x1024_S256x128_0_640)) (View.ld s0 (Rect.unit ![5, 0, 0] ![1, 64, 128] inb_S8x64x128_S1x64x128_5_0_0)) (View.ld b19 (Rect.unit ![5, 0, 0] ![1, 256, 128] inb_S8x256x128_S1x256x128_5_0_0))) (View.ld b5 (Rect.unit ![0, 640] ![256, 128] inb_S256x1024_S256x128_0_640)) (ix2 _ _) = _
    rw [outV_at]
    simp only [oV_at]
    pointwise
    simp only [turnV_at, cosV_at, sinV_at]
    pointwise
    have hv : (5 : Fin 8).val = 5 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl
  · idx_vars x
    obtain rfl : x0 = r := Fin.ext he0.symm
    obtain rfl : x1 = e := Fin.ext (by omega)
    obtain rfl : h = 4 := Fin.ext (by show h.val = 4; omega)
    show outV (oV (extractStridedSlice S256x64 ![0, 0] (truncf .bf16 (turnV (extf .f32 (View.ld b2 (Rect.unit ![0, 256] ![256, 128] inb_S256x512_S256x128_0_256)) bitsLt_bf16_f32) (k0_pay14 b6 b7 b15 b16) (k0_pay15 b6 b7 b15 b16 b17)) bitsLt_bf16_f32) slices_S256x128_o0_0_S256x64) (extractStridedSlice S256x64 ![0, 0] (truncf .bf16 (mulf (turnV (extf .f32 (View.ld b3 (Rect.unit ![0, 256] ![256, 128] inb_S256x512_S256x128_0_256)) bitsLt_bf16_f32) (k0_pay14 b6 b7 b15 b16) (k0_pay15 b6 b7 b15 b16 b17)) (broadcast S256x128 (Scalar.ofBits .f32 0x3E000000#32))) bitsLt_bf16_f32) slices_S256x128_o0_0_S256x64) (View.ld b18 (Rect.unit ![4, 0, 0] ![1, 256, 256] inb_S8x256x256_S1x256x256_4_0_0)) (View.ld b4 (Rect.unit ![0, 512] ![256, 128] inb_S256x1024_S256x128_0_512)) (View.ld s0 (Rect.unit ![4, 0, 0] ![1, 64, 128] inb_S8x64x128_S1x64x128_4_0_0)) (View.ld b19 (Rect.unit ![4, 0, 0] ![1, 256, 128] inb_S8x256x128_S1x256x128_4_0_0))) (View.ld b5 (Rect.unit ![0, 512] ![256, 128] inb_S256x1024_S256x128_0_512)) (ix2 _ _) = _
    rw [outV_at]
    simp only [oV_at]
    pointwise
    simp only [turnV_at, cosV_at, sinV_at]
    pointwise
    have hv : (4 : Fin 8).val = 4 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl
  · idx_vars x
    obtain rfl : x0 = r := Fin.ext he0.symm
    obtain rfl : x1 = e := Fin.ext (by omega)
    obtain rfl : h = 3 := Fin.ext (by show h.val = 3; omega)
    show outV (oV (extractStridedSlice S256x64 ![0, 64] (truncf .bf16 (turnV (extf .f32 (View.ld b2 (Rect.unit ![0, 128] ![256, 128] inb_S256x512_S256x128_0_128)) bitsLt_bf16_f32) (k0_pay14 b6 b7 b15 b16) (k0_pay15 b6 b7 b15 b16 b17)) bitsLt_bf16_f32) slices_S256x128_o0_64_S256x64) (extractStridedSlice S256x64 ![0, 64] (truncf .bf16 (mulf (turnV (extf .f32 (View.ld b3 (Rect.unit ![0, 128] ![256, 128] inb_S256x512_S256x128_0_128)) bitsLt_bf16_f32) (k0_pay14 b6 b7 b15 b16) (k0_pay15 b6 b7 b15 b16 b17)) (broadcast S256x128 (Scalar.ofBits .f32 0x3E000000#32))) bitsLt_bf16_f32) slices_S256x128_o0_64_S256x64) (View.ld b18 (Rect.unit ![3, 0, 0] ![1, 256, 256] inb_S8x256x256_S1x256x256_3_0_0)) (View.ld b4 (Rect.unit ![0, 384] ![256, 128] inb_S256x1024_S256x128_0_384)) (View.ld s0 (Rect.unit ![3, 0, 0] ![1, 64, 128] inb_S8x64x128_S1x64x128_3_0_0)) (View.ld b19 (Rect.unit ![3, 0, 0] ![1, 256, 128] inb_S8x256x128_S1x256x128_3_0_0))) (View.ld b5 (Rect.unit ![0, 384] ![256, 128] inb_S256x1024_S256x128_0_384)) (ix2 _ _) = _
    rw [outV_at]
    simp only [oV_at]
    pointwise
    simp only [turnV_at, cosV_at, sinV_at]
    pointwise
    have hv : (3 : Fin 8).val = 3 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl
  · idx_vars x
    obtain rfl : x0 = r := Fin.ext he0.symm
    obtain rfl : x1 = e := Fin.ext (by omega)
    obtain rfl : h = 2 := Fin.ext (by show h.val = 2; omega)
    show outV (oV (extractStridedSlice S256x64 ![0, 0] (truncf .bf16 (turnV (extf .f32 (View.ld b2 (Rect.unit ![0, 128] ![256, 128] inb_S256x512_S256x128_0_128)) bitsLt_bf16_f32) (k0_pay14 b6 b7 b15 b16) (k0_pay15 b6 b7 b15 b16 b17)) bitsLt_bf16_f32) slices_S256x128_o0_0_S256x64) (extractStridedSlice S256x64 ![0, 0] (truncf .bf16 (mulf (turnV (extf .f32 (View.ld b3 (Rect.unit ![0, 128] ![256, 128] inb_S256x512_S256x128_0_128)) bitsLt_bf16_f32) (k0_pay14 b6 b7 b15 b16) (k0_pay15 b6 b7 b15 b16 b17)) (broadcast S256x128 (Scalar.ofBits .f32 0x3E000000#32))) bitsLt_bf16_f32) slices_S256x128_o0_0_S256x64) (View.ld b18 (Rect.unit ![2, 0, 0] ![1, 256, 256] inb_S8x256x256_S1x256x256_2_0_0)) (View.ld b4 (Rect.unit ![0, 256] ![256, 128] inb_S256x1024_S256x128_0_256)) (View.ld s0 (Rect.unit ![2, 0, 0] ![1, 64, 128] inb_S8x64x128_S1x64x128_2_0_0)) (View.ld b19 (Rect.unit ![2, 0, 0] ![1, 256, 128] inb_S8x256x128_S1x256x128_2_0_0))) (View.ld b5 (Rect.unit ![0, 256] ![256, 128] inb_S256x1024_S256x128_0_256)) (ix2 _ _) = _
    rw [outV_at]
    simp only [oV_at]
    pointwise
    simp only [turnV_at, cosV_at, sinV_at]
    pointwise
    have hv : (2 : Fin 8).val = 2 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl
  · idx_vars x
    obtain rfl : x0 = r := Fin.ext he0.symm
    obtain rfl : x1 = e := Fin.ext (by omega)
    obtain rfl : h = 1 := Fin.ext (by show h.val = 1; omega)
    show outV (oV (extractStridedSlice S256x64 ![0, 64] (truncf .bf16 (turnV (extf .f32 (View.ld b2 (Rect.unit ![0, 0] ![256, 128] inb_S256x512_S256x128_0_0)) bitsLt_bf16_f32) (k0_pay14 b6 b7 b15 b16) (k0_pay15 b6 b7 b15 b16 b17)) bitsLt_bf16_f32) slices_S256x128_o0_64_S256x64) (extractStridedSlice S256x64 ![0, 64] (truncf .bf16 (mulf (turnV (extf .f32 (View.ld b3 (Rect.unit ![0, 0] ![256, 128] inb_S256x512_S256x128_0_0)) bitsLt_bf16_f32) (k0_pay14 b6 b7 b15 b16) (k0_pay15 b6 b7 b15 b16 b17)) (broadcast S256x128 (Scalar.ofBits .f32 0x3E000000#32))) bitsLt_bf16_f32) slices_S256x128_o0_64_S256x64) (View.ld b18 (Rect.unit ![1, 0, 0] ![1, 256, 256] inb_S8x256x256_S1x256x256_1_0_0)) (View.ld b4 (Rect.unit ![0, 128] ![256, 128] inb_S256x1024_S256x128_0_128)) (View.ld s0 (Rect.unit ![1, 0, 0] ![1, 64, 128] inb_S8x64x128_S1x64x128_1_0_0)) (View.ld b19 (Rect.unit ![1, 0, 0] ![1, 256, 128] inb_S8x256x128_S1x256x128_1_0_0))) (View.ld b5 (Rect.unit ![0, 128] ![256, 128] inb_S256x1024_S256x128_0_128)) (ix2 _ _) = _
    rw [outV_at]
    simp only [oV_at]
    pointwise
    simp only [turnV_at, cosV_at, sinV_at]
    pointwise
    have hv : (1 : Fin 8).val = 1 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl
  · idx_vars x
    obtain rfl : x0 = r := Fin.ext he0.symm
    obtain rfl : x1 = e := Fin.ext (by omega)
    obtain rfl : h = 0 := Fin.ext (by show h.val = 0; omega)
    show outV (oV (extractStridedSlice S256x64 ![0, 0] (truncf .bf16 (turnV (extf .f32 (View.ld b2 (Rect.unit ![0, 0] ![256, 128] inb_S256x512_S256x128_0_0)) bitsLt_bf16_f32) (k0_pay14 b6 b7 b15 b16) (k0_pay15 b6 b7 b15 b16 b17)) bitsLt_bf16_f32) slices_S256x128_o0_0_S256x64) (extractStridedSlice S256x64 ![0, 0] (truncf .bf16 (mulf (turnV (extf .f32 (View.ld b3 (Rect.unit ![0, 0] ![256, 128] inb_S256x512_S256x128_0_0)) bitsLt_bf16_f32) (k0_pay14 b6 b7 b15 b16) (k0_pay15 b6 b7 b15 b16 b17)) (broadcast S256x128 (Scalar.ofBits .f32 0x3E000000#32))) bitsLt_bf16_f32) slices_S256x128_o0_0_S256x64) (View.ld b18 (Rect.unit ![0, 0, 0] ![1, 256, 256] inb_S8x256x256_S1x256x256_0_0_0)) (View.ld b4 (Rect.unit ![0, 0] ![256, 128] inb_S256x1024_S256x128_0_0)) (View.ld s0 (Rect.unit ![0, 0, 0] ![1, 64, 128] inb_S8x64x128_S1x64x128_0_0_0)) (View.ld b19 (Rect.unit ![0, 0, 0] ![1, 256, 128] inb_S8x256x128_S1x256x128_0_0_0))) (View.ld b5 (Rect.unit ![0, 0] ![256, 128] inb_S256x1024_S256x128_0_0)) (ix2 _ _) = _
    rw [outV_at]
    simp only [oV_at]
    pointwise
    simp only [turnV_at, cosV_at, sinV_at]
    pointwise
    have hv : (0 : Fin 8).val = 0 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl

end

section

variable (c : Dev nD) (t : Fin cfg0.N)
  (b0 : Vec Ideal S256x1024 .bf16) (b1 : Vec Ideal S256x1024 .bf16) (b2 : Vec Ideal S256x512 .bf16) (b3 : Vec Ideal S256x512 .bf16) (b4 : Vec Ideal S256x1024 .bf16) (b5 : Vec Ideal S256x1024 .bf16) (b6 : Vec Ideal S1x1x128 .f32) (b7 : Vec Ideal S1x1x128 .f32) (b8 : Vec Ideal S256x1024 .bf16) (b9 : Vec Ideal S256x1024 .bf16) (b10 : Vec Ideal S256x1024 .bf16) (b11 : Vec Ideal S256x1024 .bf16) (b12 : Vec Ideal S256x2048 .f32) (b13 : Vec Ideal S1024x1024 .bf16) (b14 : Vec Ideal S1x1024 .f32) (b15 : Vec Ideal S256x128 .f32) (b16 : Vec Ideal S256x128 .f32) (b17 : Vec Ideal S1x128 .f32) (b18 : Vec Ideal S8x256x256 .f32) (b19 : Vec Ideal S8x256x128 .f32) (b20 : Vec Ideal S256x512 .f32) (b21 : Vec Ideal S1024x2048 .bf16) (b22 : Vec Ideal S1024x2048 .bf16) (b23 : Vec Ideal S2048x2048 .bf16) (b24 : Vec Ideal S1x2048 .f32)

/-- The gated retention that a point leaves. -/
theorem yrA_at (h0 : t.val % 65 = 0) (r : Fin 256) (h : Fin 8) (e : Fin 128) :
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) ((hcond0_0 t).mpr h0) b0 b1 b2 b3 b4 b5 b6 b7 b8 b9 b10 b11 b12 b13 b14 b15 b16 b17 b18 b19 b20 b21 b22 b23 b24 (ix2 r ⟨128 * h.val + e.val, by omega⟩)
      = headOut (retK (turnK b2 (cosK b6 b7 b15 b16) (sinK b6 b7 b15 b16 b17)) (turnK b3 (cosK b6 b7 b15 b16) (sinK b6 b7 b15 b16 b17)) b4 b18 b19 (fun _ => 0) r h) (b5 (ix2 r ⟨128 * h.val + e.val, by omega⟩)) e := by
  frame_open
  simp (disch := decide) only [↓ View.readCov_skip, ↓ View.readCov_cons_toLoadRect, ↓ View.readCov_fill]
  frame_out
  try simp only [read_unread_whole]
  rw [canon_drop _ _ _ _ _ _ _ _ _ _ (View.cover_of_tiledBy _ ![256, 128] (by sl_kernel_rfl) _)]
  canon_tiles x he using View.cover_of_tiledBy _ ![256, 128] (by sl_kernel_rfl) _
  · idx_vars x
    obtain rfl : x0 = r := Fin.ext he0.symm
    obtain rfl : x1 = e := Fin.ext (by omega)
    obtain rfl : h = 7 := Fin.ext (by show h.val = 7; omega)
    show outV (oV (extractStridedSlice S256x64 ![0, 64] (truncf .bf16 (turnV (extf .f32 (View.ld b2 (Rect.unit ![0, 384] ![256, 128] inb_S256x512_S256x128_0_384)) bitsLt_bf16_f32) (k0_pay14 b6 b7 b15 b16) (k0_pay15 b6 b7 b15 b16 b17)) bitsLt_bf16_f32) slices_S256x128_o0_64_S256x64) (extractStridedSlice S256x64 ![0, 64] (truncf .bf16 (mulf (turnV (extf .f32 (View.ld b3 (Rect.unit ![0, 384] ![256, 128] inb_S256x512_S256x128_0_384)) bitsLt_bf16_f32) (k0_pay14 b6 b7 b15 b16) (k0_pay15 b6 b7 b15 b16 b17)) (broadcast S256x128 (Scalar.ofBits .f32 0x3E000000#32))) bitsLt_bf16_f32) slices_S256x128_o0_64_S256x64) (View.ld b18 (Rect.unit ![7, 0, 0] ![1, 256, 256] inb_S8x256x256_S1x256x256_7_0_0)) (View.ld b4 (Rect.unit ![0, 896] ![256, 128] inb_S256x1024_S256x128_0_896)) (View.ld (Val := Elt Ideal) (S := S8x64x128) (e' := .f32) (k0_pay3 (F := Ideal)) (Rect.unit ![7, 0, 0] ![1, 64, 128] inb_S8x64x128_S1x64x128_7_0_0)) (View.ld b19 (Rect.unit ![7, 0, 0] ![1, 256, 128] inb_S8x256x128_S1x256x128_7_0_0))) (View.ld b5 (Rect.unit ![0, 896] ![256, 128] inb_S256x1024_S256x128_0_896)) (ix2 _ _) = _
    rw [outV_at]
    simp only [oV_at]
    pointwise
    simp only [turnV_at, cosV_at, sinV_at]
    pointwise [k0_pay3]
    have hv : (7 : Fin 8).val = 7 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl
  · idx_vars x
    obtain rfl : x0 = r := Fin.ext he0.symm
    obtain rfl : x1 = e := Fin.ext (by omega)
    obtain rfl : h = 6 := Fin.ext (by show h.val = 6; omega)
    show outV (oV (extractStridedSlice S256x64 ![0, 0] (truncf .bf16 (turnV (extf .f32 (View.ld b2 (Rect.unit ![0, 384] ![256, 128] inb_S256x512_S256x128_0_384)) bitsLt_bf16_f32) (k0_pay14 b6 b7 b15 b16) (k0_pay15 b6 b7 b15 b16 b17)) bitsLt_bf16_f32) slices_S256x128_o0_0_S256x64) (extractStridedSlice S256x64 ![0, 0] (truncf .bf16 (mulf (turnV (extf .f32 (View.ld b3 (Rect.unit ![0, 384] ![256, 128] inb_S256x512_S256x128_0_384)) bitsLt_bf16_f32) (k0_pay14 b6 b7 b15 b16) (k0_pay15 b6 b7 b15 b16 b17)) (broadcast S256x128 (Scalar.ofBits .f32 0x3E000000#32))) bitsLt_bf16_f32) slices_S256x128_o0_0_S256x64) (View.ld b18 (Rect.unit ![6, 0, 0] ![1, 256, 256] inb_S8x256x256_S1x256x256_6_0_0)) (View.ld b4 (Rect.unit ![0, 768] ![256, 128] inb_S256x1024_S256x128_0_768)) (View.ld (Val := Elt Ideal) (S := S8x64x128) (e' := .f32) (k0_pay3 (F := Ideal)) (Rect.unit ![6, 0, 0] ![1, 64, 128] inb_S8x64x128_S1x64x128_6_0_0)) (View.ld b19 (Rect.unit ![6, 0, 0] ![1, 256, 128] inb_S8x256x128_S1x256x128_6_0_0))) (View.ld b5 (Rect.unit ![0, 768] ![256, 128] inb_S256x1024_S256x128_0_768)) (ix2 _ _) = _
    rw [outV_at]
    simp only [oV_at]
    pointwise
    simp only [turnV_at, cosV_at, sinV_at]
    pointwise [k0_pay3]
    have hv : (6 : Fin 8).val = 6 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl
  · idx_vars x
    obtain rfl : x0 = r := Fin.ext he0.symm
    obtain rfl : x1 = e := Fin.ext (by omega)
    obtain rfl : h = 5 := Fin.ext (by show h.val = 5; omega)
    show outV (oV (extractStridedSlice S256x64 ![0, 64] (truncf .bf16 (turnV (extf .f32 (View.ld b2 (Rect.unit ![0, 256] ![256, 128] inb_S256x512_S256x128_0_256)) bitsLt_bf16_f32) (k0_pay14 b6 b7 b15 b16) (k0_pay15 b6 b7 b15 b16 b17)) bitsLt_bf16_f32) slices_S256x128_o0_64_S256x64) (extractStridedSlice S256x64 ![0, 64] (truncf .bf16 (mulf (turnV (extf .f32 (View.ld b3 (Rect.unit ![0, 256] ![256, 128] inb_S256x512_S256x128_0_256)) bitsLt_bf16_f32) (k0_pay14 b6 b7 b15 b16) (k0_pay15 b6 b7 b15 b16 b17)) (broadcast S256x128 (Scalar.ofBits .f32 0x3E000000#32))) bitsLt_bf16_f32) slices_S256x128_o0_64_S256x64) (View.ld b18 (Rect.unit ![5, 0, 0] ![1, 256, 256] inb_S8x256x256_S1x256x256_5_0_0)) (View.ld b4 (Rect.unit ![0, 640] ![256, 128] inb_S256x1024_S256x128_0_640)) (View.ld (Val := Elt Ideal) (S := S8x64x128) (e' := .f32) (k0_pay3 (F := Ideal)) (Rect.unit ![5, 0, 0] ![1, 64, 128] inb_S8x64x128_S1x64x128_5_0_0)) (View.ld b19 (Rect.unit ![5, 0, 0] ![1, 256, 128] inb_S8x256x128_S1x256x128_5_0_0))) (View.ld b5 (Rect.unit ![0, 640] ![256, 128] inb_S256x1024_S256x128_0_640)) (ix2 _ _) = _
    rw [outV_at]
    simp only [oV_at]
    pointwise
    simp only [turnV_at, cosV_at, sinV_at]
    pointwise [k0_pay3]
    have hv : (5 : Fin 8).val = 5 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl
  · idx_vars x
    obtain rfl : x0 = r := Fin.ext he0.symm
    obtain rfl : x1 = e := Fin.ext (by omega)
    obtain rfl : h = 4 := Fin.ext (by show h.val = 4; omega)
    show outV (oV (extractStridedSlice S256x64 ![0, 0] (truncf .bf16 (turnV (extf .f32 (View.ld b2 (Rect.unit ![0, 256] ![256, 128] inb_S256x512_S256x128_0_256)) bitsLt_bf16_f32) (k0_pay14 b6 b7 b15 b16) (k0_pay15 b6 b7 b15 b16 b17)) bitsLt_bf16_f32) slices_S256x128_o0_0_S256x64) (extractStridedSlice S256x64 ![0, 0] (truncf .bf16 (mulf (turnV (extf .f32 (View.ld b3 (Rect.unit ![0, 256] ![256, 128] inb_S256x512_S256x128_0_256)) bitsLt_bf16_f32) (k0_pay14 b6 b7 b15 b16) (k0_pay15 b6 b7 b15 b16 b17)) (broadcast S256x128 (Scalar.ofBits .f32 0x3E000000#32))) bitsLt_bf16_f32) slices_S256x128_o0_0_S256x64) (View.ld b18 (Rect.unit ![4, 0, 0] ![1, 256, 256] inb_S8x256x256_S1x256x256_4_0_0)) (View.ld b4 (Rect.unit ![0, 512] ![256, 128] inb_S256x1024_S256x128_0_512)) (View.ld (Val := Elt Ideal) (S := S8x64x128) (e' := .f32) (k0_pay3 (F := Ideal)) (Rect.unit ![4, 0, 0] ![1, 64, 128] inb_S8x64x128_S1x64x128_4_0_0)) (View.ld b19 (Rect.unit ![4, 0, 0] ![1, 256, 128] inb_S8x256x128_S1x256x128_4_0_0))) (View.ld b5 (Rect.unit ![0, 512] ![256, 128] inb_S256x1024_S256x128_0_512)) (ix2 _ _) = _
    rw [outV_at]
    simp only [oV_at]
    pointwise
    simp only [turnV_at, cosV_at, sinV_at]
    pointwise [k0_pay3]
    have hv : (4 : Fin 8).val = 4 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl
  · idx_vars x
    obtain rfl : x0 = r := Fin.ext he0.symm
    obtain rfl : x1 = e := Fin.ext (by omega)
    obtain rfl : h = 3 := Fin.ext (by show h.val = 3; omega)
    show outV (oV (extractStridedSlice S256x64 ![0, 64] (truncf .bf16 (turnV (extf .f32 (View.ld b2 (Rect.unit ![0, 128] ![256, 128] inb_S256x512_S256x128_0_128)) bitsLt_bf16_f32) (k0_pay14 b6 b7 b15 b16) (k0_pay15 b6 b7 b15 b16 b17)) bitsLt_bf16_f32) slices_S256x128_o0_64_S256x64) (extractStridedSlice S256x64 ![0, 64] (truncf .bf16 (mulf (turnV (extf .f32 (View.ld b3 (Rect.unit ![0, 128] ![256, 128] inb_S256x512_S256x128_0_128)) bitsLt_bf16_f32) (k0_pay14 b6 b7 b15 b16) (k0_pay15 b6 b7 b15 b16 b17)) (broadcast S256x128 (Scalar.ofBits .f32 0x3E000000#32))) bitsLt_bf16_f32) slices_S256x128_o0_64_S256x64) (View.ld b18 (Rect.unit ![3, 0, 0] ![1, 256, 256] inb_S8x256x256_S1x256x256_3_0_0)) (View.ld b4 (Rect.unit ![0, 384] ![256, 128] inb_S256x1024_S256x128_0_384)) (View.ld (Val := Elt Ideal) (S := S8x64x128) (e' := .f32) (k0_pay3 (F := Ideal)) (Rect.unit ![3, 0, 0] ![1, 64, 128] inb_S8x64x128_S1x64x128_3_0_0)) (View.ld b19 (Rect.unit ![3, 0, 0] ![1, 256, 128] inb_S8x256x128_S1x256x128_3_0_0))) (View.ld b5 (Rect.unit ![0, 384] ![256, 128] inb_S256x1024_S256x128_0_384)) (ix2 _ _) = _
    rw [outV_at]
    simp only [oV_at]
    pointwise
    simp only [turnV_at, cosV_at, sinV_at]
    pointwise [k0_pay3]
    have hv : (3 : Fin 8).val = 3 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl
  · idx_vars x
    obtain rfl : x0 = r := Fin.ext he0.symm
    obtain rfl : x1 = e := Fin.ext (by omega)
    obtain rfl : h = 2 := Fin.ext (by show h.val = 2; omega)
    show outV (oV (extractStridedSlice S256x64 ![0, 0] (truncf .bf16 (turnV (extf .f32 (View.ld b2 (Rect.unit ![0, 128] ![256, 128] inb_S256x512_S256x128_0_128)) bitsLt_bf16_f32) (k0_pay14 b6 b7 b15 b16) (k0_pay15 b6 b7 b15 b16 b17)) bitsLt_bf16_f32) slices_S256x128_o0_0_S256x64) (extractStridedSlice S256x64 ![0, 0] (truncf .bf16 (mulf (turnV (extf .f32 (View.ld b3 (Rect.unit ![0, 128] ![256, 128] inb_S256x512_S256x128_0_128)) bitsLt_bf16_f32) (k0_pay14 b6 b7 b15 b16) (k0_pay15 b6 b7 b15 b16 b17)) (broadcast S256x128 (Scalar.ofBits .f32 0x3E000000#32))) bitsLt_bf16_f32) slices_S256x128_o0_0_S256x64) (View.ld b18 (Rect.unit ![2, 0, 0] ![1, 256, 256] inb_S8x256x256_S1x256x256_2_0_0)) (View.ld b4 (Rect.unit ![0, 256] ![256, 128] inb_S256x1024_S256x128_0_256)) (View.ld (Val := Elt Ideal) (S := S8x64x128) (e' := .f32) (k0_pay3 (F := Ideal)) (Rect.unit ![2, 0, 0] ![1, 64, 128] inb_S8x64x128_S1x64x128_2_0_0)) (View.ld b19 (Rect.unit ![2, 0, 0] ![1, 256, 128] inb_S8x256x128_S1x256x128_2_0_0))) (View.ld b5 (Rect.unit ![0, 256] ![256, 128] inb_S256x1024_S256x128_0_256)) (ix2 _ _) = _
    rw [outV_at]
    simp only [oV_at]
    pointwise
    simp only [turnV_at, cosV_at, sinV_at]
    pointwise [k0_pay3]
    have hv : (2 : Fin 8).val = 2 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl
  · idx_vars x
    obtain rfl : x0 = r := Fin.ext he0.symm
    obtain rfl : x1 = e := Fin.ext (by omega)
    obtain rfl : h = 1 := Fin.ext (by show h.val = 1; omega)
    show outV (oV (extractStridedSlice S256x64 ![0, 64] (truncf .bf16 (turnV (extf .f32 (View.ld b2 (Rect.unit ![0, 0] ![256, 128] inb_S256x512_S256x128_0_0)) bitsLt_bf16_f32) (k0_pay14 b6 b7 b15 b16) (k0_pay15 b6 b7 b15 b16 b17)) bitsLt_bf16_f32) slices_S256x128_o0_64_S256x64) (extractStridedSlice S256x64 ![0, 64] (truncf .bf16 (mulf (turnV (extf .f32 (View.ld b3 (Rect.unit ![0, 0] ![256, 128] inb_S256x512_S256x128_0_0)) bitsLt_bf16_f32) (k0_pay14 b6 b7 b15 b16) (k0_pay15 b6 b7 b15 b16 b17)) (broadcast S256x128 (Scalar.ofBits .f32 0x3E000000#32))) bitsLt_bf16_f32) slices_S256x128_o0_64_S256x64) (View.ld b18 (Rect.unit ![1, 0, 0] ![1, 256, 256] inb_S8x256x256_S1x256x256_1_0_0)) (View.ld b4 (Rect.unit ![0, 128] ![256, 128] inb_S256x1024_S256x128_0_128)) (View.ld (Val := Elt Ideal) (S := S8x64x128) (e' := .f32) (k0_pay3 (F := Ideal)) (Rect.unit ![1, 0, 0] ![1, 64, 128] inb_S8x64x128_S1x64x128_1_0_0)) (View.ld b19 (Rect.unit ![1, 0, 0] ![1, 256, 128] inb_S8x256x128_S1x256x128_1_0_0))) (View.ld b5 (Rect.unit ![0, 128] ![256, 128] inb_S256x1024_S256x128_0_128)) (ix2 _ _) = _
    rw [outV_at]
    simp only [oV_at]
    pointwise
    simp only [turnV_at, cosV_at, sinV_at]
    pointwise [k0_pay3]
    have hv : (1 : Fin 8).val = 1 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl
  · idx_vars x
    obtain rfl : x0 = r := Fin.ext he0.symm
    obtain rfl : x1 = e := Fin.ext (by omega)
    obtain rfl : h = 0 := Fin.ext (by show h.val = 0; omega)
    show outV (oV (extractStridedSlice S256x64 ![0, 0] (truncf .bf16 (turnV (extf .f32 (View.ld b2 (Rect.unit ![0, 0] ![256, 128] inb_S256x512_S256x128_0_0)) bitsLt_bf16_f32) (k0_pay14 b6 b7 b15 b16) (k0_pay15 b6 b7 b15 b16 b17)) bitsLt_bf16_f32) slices_S256x128_o0_0_S256x64) (extractStridedSlice S256x64 ![0, 0] (truncf .bf16 (mulf (turnV (extf .f32 (View.ld b3 (Rect.unit ![0, 0] ![256, 128] inb_S256x512_S256x128_0_0)) bitsLt_bf16_f32) (k0_pay14 b6 b7 b15 b16) (k0_pay15 b6 b7 b15 b16 b17)) (broadcast S256x128 (Scalar.ofBits .f32 0x3E000000#32))) bitsLt_bf16_f32) slices_S256x128_o0_0_S256x64) (View.ld b18 (Rect.unit ![0, 0, 0] ![1, 256, 256] inb_S8x256x256_S1x256x256_0_0_0)) (View.ld b4 (Rect.unit ![0, 0] ![256, 128] inb_S256x1024_S256x128_0_0)) (View.ld (Val := Elt Ideal) (S := S8x64x128) (e' := .f32) (k0_pay3 (F := Ideal)) (Rect.unit ![0, 0, 0] ![1, 64, 128] inb_S8x64x128_S1x64x128_0_0_0)) (View.ld b19 (Rect.unit ![0, 0, 0] ![1, 256, 128] inb_S8x256x128_S1x256x128_0_0_0))) (View.ld b5 (Rect.unit ![0, 0] ![256, 128] inb_S256x1024_S256x128_0_0)) (ix2 _ _) = _
    rw [outV_at]
    simp only [oV_at]
    pointwise
    simp only [turnV_at, cosV_at, sinV_at]
    pointwise [k0_pay3]
    have hv : (0 : Fin 8).val = 0 := rfl
    refine congrFun (congrArg₂ headOut (funext fun e => ?_) ?_) x1
    on_goal 2 => first | rfl | simp only [hv, Nat.reduceMul, zero_add]
    simp only [retK, turnK, cosK, sinK, hv, Nat.reduceDiv, Nat.reduceMul, Nat.reduceMod, mul_zero, zero_add, ← Nat.add_assoc, Nat.reduceAdd]
    try rfl

end

end Cert.KernelIdeal.Tail

end
-- ==== Proof.TailIdeal.Reads.lean ====
/-
  What one point of the tail leaves, in terms of its own blocks and of what the point before left.
-/
module

public import proofs.«01_k».proof.Proof.TailIdeal.Blocks
public import proofs.«01_k».proof.Proof.TailIdeal.StepGated
public import proofs.«01_k».proof.Proof.TailIdeal.StepMerged
public import proofs.«01_k».proof.Proof.TailIdeal.StepState
public import proofs.«01_k».proof.Proof.TailIdeal.StepRetention

@[expose] public section

set_option maxRecDepth 16384

noncomputable section

namespace Cert.KernelIdeal.Tail

open Cert.KernelIdeal Cert.KernelIdeal.Gen Idealize.ShloMosaic Idealize.ShloMosaic.TcCoe Cert.Tail

variable (m : (ℓ : Loc nD τ sig) → Buf (Elt Ideal) ℓ) (c : Dev nD)

theorem point_ysA (t : Fin cfg0.N) (h0 : t.val % 65 = 0) (r : Fin 256) (k : Fin 1024) :
    ((outsAt0 m c t.val t.isLt).2.2.1 (ix2 r k) : EReal)
      = gated (fun k => (iblk m c 0 t (ix2 r k) : EReal)) (fun j k => iblk m c 13 t (ix2 j k)) (fun k => iblk m c 14 t (ix2 0 k)) (iblk m c 1 t (ix2 r k)) k := by
  rw [outsAt0_A m c t h0]
  unfold leftA
  dsimp only
  have e := ysA_at c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) h0 r k
  exact e

theorem point_stA (t : Fin cfg0.N) (h0 : t.val % 65 = 0) (h : Fin 8) (d : Fin 64) (e : Fin 128) :
    ((outsAt0 m c t.val t.isLt).2.1 (ix3 h d e) : EReal)
      = stateK (turnK (iblk m c 3 t) (cosK (iblk m c 6 t) (iblk m c 7 t) (iblk m c 15 t) (iblk m c 16 t)) (sinK (iblk m c 6 t) (iblk m c 7 t) (iblk m c 15 t) (iblk m c 16 t) (iblk m c 17 t))) (iblk m c 4 t) (iblk m c 20 t) (fun _ => 0) h d e := by
  rw [outsAt0_A m c t h0]
  unfold leftA
  dsimp only
  have e := stA_at c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) h0 h d e
  exact e

theorem point_yrA (t : Fin cfg0.N) (h0 : t.val % 65 = 0) (r : Fin 256) (h : Fin 8) (e : Fin 128) :
    ((outsAt0 m c t.val t.isLt).2.2.2 (ix2 r ⟨128 * h.val + e.val, by omega⟩) : EReal)
      = headOut (fun e => retK (turnK (iblk m c 2 t) (cosK (iblk m c 6 t) (iblk m c 7 t) (iblk m c 15 t) (iblk m c 16 t)) (sinK (iblk m c 6 t) (iblk m c 7 t) (iblk m c 15 t) (iblk m c 16 t) (iblk m c 17 t))) (turnK (iblk m c 3 t) (cosK (iblk m c 6 t) (iblk m c 7 t) (iblk m c 15 t) (iblk m c 16 t)) (sinK (iblk m c 6 t) (iblk m c 7 t) (iblk m c 15 t) (iblk m c 16 t) (iblk m c 17 t))) (iblk m c 4 t) (iblk m c 18 t) (iblk m c 19 t) (fun _ => 0) r h e) (iblk m c 5 t (ix2 r ⟨128 * h.val + e.val, by omega⟩)) e := by
  rw [outsAt0_A m c t h0]
  unfold leftA
  dsimp only
  have e := yrA_at c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) h0 r h e
  exact e

theorem point_ysB (t : Fin cfg0.N) (h0 : ¬t.val % 65 = 0) (r : Fin 256) (k : Fin 1024) :
    ((outsAt0 m c t.val t.isLt).2.2.1 (ix2 r k) : EReal)
      = gated (fun k => (iblk m c 0 t (ix2 r k) : EReal)) (fun j k => iblk m c 13 t (ix2 j k)) (fun k => iblk m c 14 t (ix2 0 k)) (iblk m c 1 t (ix2 r k)) k := by
  rw [outsAt0_B m c t h0]
  unfold leftB
  dsimp only
  have e := ysB_at c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 h0 r k
  exact e

theorem point_stB (t : Fin cfg0.N) (h0 : ¬t.val % 65 = 0) (h : Fin 8) (d : Fin 64) (e : Fin 128) :
    ((outsAt0 m c t.val t.isLt).2.1 (ix3 h d e) : EReal)
      = stateK (turnK (iblk m c 3 t) (cosK (iblk m c 6 t) (iblk m c 7 t) (iblk m c 15 t) (iblk m c 16 t)) (sinK (iblk m c 6 t) (iblk m c 7 t) (iblk m c 15 t) (iblk m c 16 t) (iblk m c 17 t))) (iblk m c 4 t) (iblk m c 20 t) (outsAt0 m c (t.val - 1) (Nat.lt_of_le_of_lt (Nat.sub_le _ _) t.isLt)).2.1 h d e := by
  rw [outsAt0_B m c t h0]
  unfold leftB
  dsimp only
  have e := stB_at c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 h0 h d e
  exact e

theorem point_yrB (t : Fin cfg0.N) (h0 : ¬t.val % 65 = 0) (r : Fin 256) (h : Fin 8) (e : Fin 128) :
    ((outsAt0 m c t.val t.isLt).2.2.2 (ix2 r ⟨128 * h.val + e.val, by omega⟩) : EReal)
      = headOut (fun e => retK (turnK (iblk m c 2 t) (cosK (iblk m c 6 t) (iblk m c 7 t) (iblk m c 15 t) (iblk m c 16 t)) (sinK (iblk m c 6 t) (iblk m c 7 t) (iblk m c 15 t) (iblk m c 16 t) (iblk m c 17 t))) (turnK (iblk m c 3 t) (cosK (iblk m c 6 t) (iblk m c 7 t) (iblk m c 15 t) (iblk m c 16 t)) (sinK (iblk m c 6 t) (iblk m c 7 t) (iblk m c 15 t) (iblk m c 16 t) (iblk m c 17 t))) (iblk m c 4 t) (iblk m c 18 t) (iblk m c 19 t) (outsAt0 m c (t.val - 1) (Nat.lt_of_le_of_lt (Nat.sub_le _ _) t.isLt)).2.1 r h e) (iblk m c 5 t (ix2 r ⟨128 * h.val + e.val, by omega⟩)) e := by
  rw [outsAt0_B m c t h0]
  unfold leftB
  dsimp only
  have e := yrB_at c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 h0 r h e
  exact e

theorem point_out (t : Fin cfg0.N) (h0 : ¬t.val % 65 = 0) (r : Fin 256) (j : Fin 2048) :
    ((outsAt0 m c t.val t.isLt).1 (ix2 r j) : EReal)
      = merged (fun k => (outsAt0 m c (t.val - 1) (Nat.lt_of_le_of_lt (Nat.sub_le _ _) t.isLt)).2.2.1 (ix2 r k)) (fun k => (outsAt0 m c (t.val - 1) (Nat.lt_of_le_of_lt (Nat.sub_le _ _) t.isLt)).2.2.2 (ix2 r k)) (fun j k => iblk m c 21 t (ix2 j k)) (fun j k => iblk m c 22 t (ix2 j k)) (fun j k => iblk m c 23 t (ix2 j k)) (both (fun k => iblk m c 8 t (ix2 r k)) (fun k => iblk m c 9 t (ix2 r k))) (both (fun k => iblk m c 10 t (ix2 r k)) (fun k => iblk m c 11 t (ix2 r k))) (fun k => iblk m c 12 t (ix2 r k)) (fun k => iblk m c 24 t (ix2 0 k)) j := by
  rw [outsAt0_B m c t h0]
  unfold leftB
  dsimp only
  have e := outB_at c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 h0 r j
  exact e

end Cert.KernelIdeal.Tail

end
-- ==== Proof.Tail.Recurrence.lean ====
/-
  Retention over the reals, for one head: a state that decays and takes in one row at a time, and what a row of the
  result is, whether the rows before it in its block are summed in blocks of 256 or in chunks of 64.
-/
module

public import Idealize.ShloMosaic.PureOps.Ideal
public import Mathlib.Algebra.BigOperators.Fin
public import Mathlib.Tactic.Ring

@[expose] public section

noncomputable section

namespace Cert.Tail

/-- The state before row `n`: it decays by `γ` with every row and takes in the row's key times its value. -/
def state (γ : ℝ) (K : ℕ → Fin 64 → ℝ) (V : ℕ → Fin 128 → ℝ) : ℕ → Fin 64 → Fin 128 → ℝ
  | 0 => fun _ _ => 0
  | n + 1 => fun d e => state γ K V n d e * γ + K n d * V n e

/-- The state `T` rows on, in one step. -/
theorem state_add (γ : ℝ) (K : ℕ → Fin 64 → ℝ) (V : ℕ → Fin 128 → ℝ) (n T : ℕ) (d : Fin 64) (e : Fin 128) :
    state γ K V (n + T) d e
      = state γ K V n d e * γ ^ T + ∑ j ∈ Finset.range T, K (n + j) d * γ ^ (T - 1 - j) * V (n + j) e := by
  induction T with
  | zero => simp
  | succ T ih =>
    rw [← Nat.add_assoc]
    simp only [state]
    rw [ih, Finset.sum_range_succ, add_mul, Finset.sum_mul]
    have h : ∀ j ∈ Finset.range T, K (n + j) d * γ ^ (T - 1 - j) * V (n + j) e * γ
        = K (n + j) d * γ ^ (T + 1 - 1 - j) * V (n + j) e := by
      intro j hj
      have hj' := Finset.mem_range.mp hj
      rw [show T + 1 - 1 - j = (T - 1 - j) + 1 by omega, pow_succ]
      ring
    rw [Finset.sum_congr rfl h, show T + 1 - 1 - T = 0 by omega]
    ring

/-- How far apart two rows are. -/
def gap (a b : ℕ) : ℕ := (a - b) + (b - a)

/-- Row `64 n + i` of the result: the rows of its own chunk, weighted by how far apart they are, and the state before
    the chunk. -/
def row (γ : ℝ) (Q K : ℕ → Fin 64 → ℝ) (V : ℕ → Fin 128 → ℝ) (n i : ℕ) (e : Fin 128) : ℝ :=
  (∑ j ∈ Finset.range 64, ((∑ d, Q (64 * n + i) d * K (64 * n + j) d) * γ ^ gap i j) * V (64 * n + j) e)
    + (∑ d, Q (64 * n + i) d * state γ K V (64 * n) d e) * γ ^ (i + 1)

/-- The weight of row `j` of a block in row `i` of it: nothing if `j` lies in a later chunk. -/
def weight (γ : ℝ) (i j : ℕ) : ℝ := if j / 64 ≤ i / 64 then γ ^ gap i j else 0

/-- The same row, with the rows of its block of 256 and the state before the block. -/
theorem row_eq_block (γ : ℝ) (Q K : ℕ → Fin 64 → ℝ) (V : ℕ → Fin 128 → ℝ) (b r : ℕ) (hr : r < 256) (e : Fin 128) :
    row γ Q K V (4 * b + r / 64) (r % 64) e
      = (∑ j ∈ Finset.range 256, ((∑ d, Q (256 * b + r) d * K (256 * b + j) d) * weight γ r j) * V (256 * b + j) e)
        + (∑ d, Q (256 * b + r) d * state γ K V (256 * b) d e) * γ ^ (r + 1) := by
  obtain ⟨c, i, hi, hc, rfl⟩ : ∃ c i, i < 64 ∧ c < 4 ∧ r = 64 * c + i := ⟨r / 64, r % 64, by omega, by omega, by omega⟩
  rw [show (64 * c + i) / 64 = c by omega, show (64 * c + i) % 64 = i by omega]
  unfold row
  rw [show 64 * (4 * b + c) = 256 * b + 64 * c by ring, show 256 * b + 64 * c + i = 256 * b + (64 * c + i) by ring]
  generalize hQ : Q (256 * b + (64 * c + i)) = q
  rw [show 256 = 64 * c + (64 + (192 - 64 * c)) by omega, Finset.sum_range_add, Finset.sum_range_add,
    show 64 * c + (64 + (192 - 64 * c)) = 256 by omega]
  have hlate : (∑ x ∈ Finset.range (192 - 64 * c), ((∑ d, q d * K (256 * b + (64 * c + (64 + x))) d)
      * weight γ (64 * c + i) (64 * c + (64 + x))) * V (256 * b + (64 * c + (64 + x))) e) = 0 := by
    refine Finset.sum_eq_zero fun x _ => ?_
    rw [weight, if_neg (by omega), mul_zero, zero_mul]
  have hsame : (∑ x ∈ Finset.range 64, ((∑ d, q d * K (256 * b + (64 * c + x)) d)
      * weight γ (64 * c + i) (64 * c + x)) * V (256 * b + (64 * c + x)) e)
      = ∑ j ∈ Finset.range 64, ((∑ d, q d * K (256 * b + 64 * c + j) d) * γ ^ gap i j) * V (256 * b + 64 * c + j) e := by
    refine Finset.sum_congr rfl fun x hx => ?_
    have hx' := Finset.mem_range.mp hx
    rw [weight, if_pos (by omega), show gap (64 * c + i) (64 * c + x) = gap i x by unfold gap; omega,
      show 256 * b + (64 * c + x) = 256 * b + 64 * c + x by ring]
  have hbefore : (∑ x ∈ Finset.range (64 * c), ((∑ d, q d * K (256 * b + x) d)
      * weight γ (64 * c + i) x) * V (256 * b + x) e)
      = (∑ d, q d * ∑ j ∈ Finset.range (64 * c), K (256 * b + j) d * γ ^ (64 * c - 1 - j) * V (256 * b + j) e) * γ ^ (i + 1) := by
    simp only [Finset.mul_sum, Finset.sum_mul]
    rw [Finset.sum_comm]
    refine Finset.sum_congr rfl fun d _ => Finset.sum_congr rfl fun x hx => ?_
    have hx' := Finset.mem_range.mp hx
    rw [weight, if_pos (by omega), show gap (64 * c + i) x = (64 * c - 1 - x) + (i + 1) by unfold gap; omega, pow_add]
    ring
  have hkept : (∑ d, q d * (state γ K V (256 * b) d e * γ ^ (64 * c)))
      = (∑ d, q d * state γ K V (256 * b) d e) * γ ^ (64 * c) := by
    rw [Finset.sum_mul]
    exact Finset.sum_congr rfl fun d _ => by ring
  rw [hlate, hsame, hbefore]
  simp only [state_add, mul_add, Finset.sum_add_distrib]
  rw [hkept, show 64 * c + i + 1 = 64 * c + (i + 1) by ring, pow_add]
  ring

end Cert.Tail

end
-- ==== Proof.Tail.Real.lean ====
/-
  The tables of the retention as real numbers: angles, decays and their powers.
-/
module

public import proofs.«01_k».proof.Proof.Tail.Recurrence
public import Idealize.ShloMosaic.PureOps.Ideal

@[expose] public section

noncomputable section

namespace Cert.Tail

open Idealize.ShloMosaic

/-- A sum of real numbers, among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the first numbers, as a sum over their type. -/
theorem sum_range (n : ℕ) (f : ℕ → ℝ) : ∑ j ∈ Finset.range n, f j = ∑ j : Fin n, f j.val := Finset.sum_range f

/-- A number read as a signed word. -/
theorem coe_nat (n : ℕ) (h : n < 2147483648) : (FloatOps.sitofp (F := Ideal) .f32 (BitVec.ofNat 32 n) : EReal) = ((n : ℝ) : EReal) := by
  show (((BitVec.ofNat 32 n).toInt : ℝ) : EReal) = _
  have e : (BitVec.ofNat 32 n).toInt = n := by
    rw [BitVec.toInt_ofNat']
    simp only [Int.bmod]
    omega
  rw [e]
  simp

theorem lit_two : Ideal.ofBits .f32 0x40000000#32 = ((2 : ℝ) : EReal) := by simp [Ideal.ofBits, Ideal.ieee, -EReal.coe_mul]; norm_num
theorem lit_base : Ideal.ofBits .f32 0x461C4000#32 = ((10000 : ℝ) : EReal) := by simp [Ideal.ofBits, Ideal.ieee, -EReal.coe_mul]; norm_num
theorem lit_64 : Ideal.ofBits .f32 0x42800000#32 = ((64 : ℝ) : EReal) := by simp [Ideal.ofBits, Ideal.ieee, -EReal.coe_mul]; norm_num
theorem lit_63 : Ideal.ofBits .f32 0x427C0000#32 = ((63 : ℝ) : EReal) := by simp [Ideal.ofBits, Ideal.ieee, -EReal.coe_mul]; norm_num
theorem lit_256 : Ideal.ofBits .f32 0x43800000#32 = ((256 : ℝ) : EReal) := by simp [Ideal.ofBits, Ideal.ieee, -EReal.coe_mul]; norm_num
theorem lit_255 : Ideal.ofBits .f32 0x437F0000#32 = ((255 : ℝ) : EReal) := by simp [Ideal.ofBits, Ideal.ieee, -EReal.coe_mul]; norm_num
theorem lit_eighth : Ideal.ofBits .f32 0x3E000000#32 = ((1 / 8 : ℝ) : EReal) := by simp [Ideal.ofBits, Ideal.ieee, -EReal.coe_mul]; norm_num
theorem lit_minus5 : Ideal.ofBits .f32 0xC0A00000#32 = ((-5 : ℝ) : EReal) := by simp [Ideal.ofBits, Ideal.ieee, -EReal.coe_mul]; norm_num

/-- How far lane `i` turns per row. -/
def inv (i : ℕ) : ℝ := Real.rpow 10000 (-(2 * (i : ℝ)) * (1 / 64))

theorem coe_inv (i : ℕ) (h : i < 2147483648) :
    Ideal.pow (Ideal.ofBits .f32 0x461C4000#32)
        (Ideal.div (-(Ideal.ofBits .f32 0x40000000#32 * (FloatOps.sitofp (F := Ideal) .f32 (BitVec.ofNat 32 i) : EReal))) (Ideal.ofBits .f32 0x42800000#32))
      = ((inv i : ℝ) : EReal) := by
  rw [lit_base, lit_two, lit_64, coe_nat i h, Ideal.div_coe (by norm_num), ← EReal.coe_mul, ← EReal.coe_neg, ← EReal.coe_mul, Ideal.pow_coe_coe, inv]

/-- What is left of head `h`'s state after a row. -/
def gamma (h : ℕ) : ℝ := 1 - Real.rpow 2 (-5 - (h : ℝ))

theorem gamma_eq (h : ℕ) : gamma h = 1 - 1 / 2 ^ (5 + h) := by
  have e : Real.rpow 2 (-5 - (h : ℝ)) = 1 / 2 ^ (5 + h) := by
    show (2 : ℝ) ^ (-5 - (h : ℝ)) = _
    rw [show (-5 - (h : ℝ)) = -((5 + h : ℕ) : ℝ) by push_cast; ring, Real.rpow_neg (by norm_num), Real.rpow_natCast, one_div]
  rw [gamma, e]

theorem gamma_pos (h : ℕ) : 0 < gamma h := by
  rw [gamma_eq]
  have : (1 : ℝ) < 2 ^ (5 + h) := one_lt_pow₀ (by norm_num) (by omega)
  have : 1 / (2 : ℝ) ^ (5 + h) < 1 := by rw [div_lt_one (by positivity)]; exact this
  linarith

theorem coe_log (h : ℕ) (hh : h < 2147483648) :
    Ideal.log1p (-Ideal.pow (Ideal.ofBits .f32 0x40000000#32)
        (Ideal.ofBits .f32 0xC0A00000#32 - (FloatOps.sitofp (F := Ideal) .f32 (BitVec.ofNat 32 h) : EReal)))
      = ((Real.log (gamma h) : ℝ) : EReal) := by
  rw [lit_two, lit_minus5, coe_nat h hh, ← EReal.coe_sub, Ideal.pow_coe_coe, ← EReal.coe_neg]
  show Ideal.log (1 + _) = _
  rw [← EReal.coe_one, ← EReal.coe_add, ← sub_eq_add_neg, Ideal.log_coe]
  exact if_neg (not_le.mpr (gamma_pos h))

/-- A power of a decay, as an exponential. -/
theorem exp_log (h n : ℕ) (x : ℝ) (e : x = n) : Ideal.exp ((x : EReal) * ((Real.log (gamma h) : ℝ) : EReal)) = ((gamma h ^ n : ℝ) : EReal) := by
  rw [← EReal.coe_mul, Ideal.exp_coe, e, Real.exp_nat_mul, Real.exp_log (gamma_pos h)]

/-- The distance of two rows. -/
theorem abs_gap (a b : ℕ) : (FloatOps.absf (F := Ideal) (φ := .f32) (((a : ℝ) - (b : ℝ) : ℝ) : EReal) : EReal) = ((gap a b : ℝ) : EReal) := by
  show max ((((a : ℝ) - (b : ℝ) : ℝ)) : EReal) (-(((a : ℝ) - (b : ℝ) : ℝ) : EReal)) = _
  rw [← EReal.coe_neg, show ∀ a b : ℝ, max (a : EReal) (b : EReal) = ((max a b : ℝ) : EReal) from
    fun a b => (EReal.coe_strictMono.monotone.map_max).symm, gap]
  rcases Nat.le_total a b with h | h
  · have h' : (a : ℝ) ≤ b := by exact_mod_cast h
    rw [max_eq_right (by linarith), Nat.sub_eq_zero_of_le h, zero_add, Nat.cast_sub h, neg_sub]
  · have h' : (b : ℝ) ≤ a := by exact_mod_cast h
    rw [max_eq_left (by linarith), Nat.sub_eq_zero_of_le h, add_zero, Nat.cast_sub h]

/-- Lane `l` of a head's row `x`, turned by the angles of row `R`. -/
def rot (x : Fin 64 → ℝ) (R : ℕ) (l : Fin 64) : ℝ :=
  if h : l.val < 32 then x l * Real.cos ((R : ℝ) * inv l.val) - x ⟨32 + l.val, by omega⟩ * Real.sin ((R : ℝ) * inv l.val)
  else x ⟨l.val - 32, by omega⟩ * Real.sin ((R : ℝ) * inv (l.val - 32)) + x l * Real.cos ((R : ℝ) * inv (l.val - 32))

/-- Head `h`'s turned query in row `n`, from the projected rows. -/
def qry (P : Fin 16384 → Fin 9216 → ℝ) (h : Fin 8) (n : ℕ) (l : Fin 64) : ℝ :=
  rot (fun l => P ⟨n % 16384, Nat.mod_lt _ (by norm_num)⟩ ⟨2048 + (64 * h.val + l.val), by omega⟩) n l

/-- Head `h`'s turned and scaled key in row `n`. -/
def key (P : Fin 16384 → Fin 9216 → ℝ) (h : Fin 8) (n : ℕ) (l : Fin 64) : ℝ :=
  rot (fun l => P ⟨n % 16384, Nat.mod_lt _ (by norm_num)⟩ ⟨2560 + (64 * h.val + l.val), by omega⟩) n l * (1 / 8)

/-- Head `h`'s value in row `n`. -/
def val (P : Fin 16384 → Fin 9216 → ℝ) (h : Fin 8) (n : ℕ) (e : Fin 128) : ℝ :=
  P ⟨n % 16384, Nat.mod_lt _ (by norm_num)⟩ ⟨3072 + (128 * h.val + e.val), by omega⟩

/-- Head `h`'s state before row `n`. -/
def stateOf (P : Fin 16384 → Fin 9216 → ℝ) (h : Fin 8) (n : ℕ) : Fin 64 → Fin 128 → ℝ :=
  state (gamma h.val) (key P h) (val P h) n

/-- Head `h`'s retention in row `n`. -/
def rowOf (P : Fin 16384 → Fin 9216 → ℝ) (h : Fin 8) (n : ℕ) (e : Fin 128) : ℝ :=
  row (gamma h.val) (qry P h) (key P h) (val P h) (n / 64) (n % 64) e

end Cert.Tail

end
-- ==== Proof.TailIdeal.Tables.lean ====
/-
  The tables that the host prepares for the tail, as real numbers.
-/
module

public import proofs.«01_k».proof.Proof.TailIdeal.Frame
public import proofs.«01_k».proof.Proof.TailIdeal.Parts
public import Idealize.ShloMosaic.Lib.Pipeline.Value
public import Idealize.ShloMosaic.Lib.Pipeline.ValueKit
public import Idealize.ShloMosaic.Lib.Pointwise
public import Idealize.ShloMosaic.Lib.StableHlo.ReadAt
public import proofs.«01_k».proof.Proof.Tail.Real
public import Idealize.ShloMosaic.Lib.Pipeline.ReadBack

@[expose] public section

set_option maxRecDepth 16384

noncomputable section

namespace Cert.KernelIdeal.Tail

open Cert.KernelIdeal Cert.KernelIdeal.Gen Idealize.ShloMosaic Idealize.ShloMosaic.TcCoe Cert.Tail

variable (m : (ℓ : Loc nD τ sig) → Buf (Elt Ideal) ℓ)

theorem at_v25 (c : Dev nD) (r : Fin 256) (L : Fin 128) :
    (V m c main_v25 (ix2 r L) : EReal) = ((Real.cos ((r.val : ℝ) * inv (L.val % 32)) : ℝ) : EReal) := by
  unfold V
  after_reads_at
  simp only [StableHlo.unary_result']
  after_reads_at
  split_ifs
  · rw [coe_inv _ (by omega), coe_nat _ (by omega), ← EReal.coe_mul, Ideal.cos_coe, show L.val % 32 = L.val by omega]
  · rw [coe_inv _ (by omega), coe_nat _ (by omega), ← EReal.coe_mul, Ideal.cos_coe, show L.val % 32 = L.val - 32 by omega]
  · rw [coe_inv _ (by omega), coe_nat _ (by omega), ← EReal.coe_mul, Ideal.cos_coe, show L.val % 32 = L.val - 32 - 32 by omega]
  · rw [coe_inv _ (by omega), coe_nat _ (by omega), ← EReal.coe_mul, Ideal.cos_coe, show L.val % 32 = L.val - 32 - 32 - 32 by omega]

theorem at_v27 (c : Dev nD) (r : Fin 256) (L : Fin 128) :
    (V m c main_v27 (ix2 r L) : EReal) = ((Real.sin ((r.val : ℝ) * inv (L.val % 32)) : ℝ) : EReal) := by
  unfold V
  after_reads_at
  simp only [StableHlo.unary_result']
  after_reads_at
  split_ifs
  · rw [coe_inv _ (by omega), coe_nat _ (by omega), ← EReal.coe_mul, Ideal.sin_coe, show L.val % 32 = L.val by omega]
  · rw [coe_inv _ (by omega), coe_nat _ (by omega), ← EReal.coe_mul, Ideal.sin_coe, show L.val % 32 = L.val - 32 by omega]
  · rw [coe_inv _ (by omega), coe_nat _ (by omega), ← EReal.coe_mul, Ideal.sin_coe, show L.val % 32 = L.val - 32 - 32 by omega]
  · rw [coe_inv _ (by omega), coe_nat _ (by omega), ← EReal.coe_mul, Ideal.sin_coe, show L.val % 32 = L.val - 32 - 32 - 32 by omega]

theorem at_v30 (c : Dev nD) (b : Fin 64) (L : Fin 128) :
    (V m c main_v30 (ix3 b 0 L) : EReal) = ((Real.cos ((256 * (b.val : ℝ)) * inv (L.val % 32)) : ℝ) : EReal) := by
  unfold V
  after_reads_at
  after_reads_at
  split_ifs
  · rw [coe_inv _ (by omega), coe_nat _ (by omega), lit_256, ← EReal.coe_mul, mul_comm (_ : ℝ) 256, ← EReal.coe_mul, Ideal.cos_coe, show L.val % 32 = L.val by omega]
  · rw [coe_inv _ (by omega), coe_nat _ (by omega), lit_256, ← EReal.coe_mul, mul_comm (_ : ℝ) 256, ← EReal.coe_mul, Ideal.cos_coe, show L.val % 32 = L.val - 32 by omega]
  · rw [coe_inv _ (by omega), coe_nat _ (by omega), lit_256, ← EReal.coe_mul, mul_comm (_ : ℝ) 256, ← EReal.coe_mul, Ideal.cos_coe, show L.val % 32 = L.val - 32 - 32 by omega]
  · rw [coe_inv _ (by omega), coe_nat _ (by omega), lit_256, ← EReal.coe_mul, mul_comm (_ : ℝ) 256, ← EReal.coe_mul, Ideal.cos_coe, show L.val % 32 = L.val - 32 - 32 - 32 by omega]

theorem at_v33 (c : Dev nD) (b : Fin 64) (L : Fin 128) :
    (V m c main_v33 (ix3 b 0 L) : EReal) = ((Real.sin ((256 * (b.val : ℝ)) * inv (L.val % 32)) : ℝ) : EReal) := by
  unfold V
  after_reads_at
  after_reads_at
  split_ifs
  · rw [coe_inv _ (by omega), coe_nat _ (by omega), lit_256, ← EReal.coe_mul, mul_comm (_ : ℝ) 256, ← EReal.coe_mul, Ideal.sin_coe, show L.val % 32 = L.val by omega]
  · rw [coe_inv _ (by omega), coe_nat _ (by omega), lit_256, ← EReal.coe_mul, mul_comm (_ : ℝ) 256, ← EReal.coe_mul, Ideal.sin_coe, show L.val % 32 = L.val - 32 by omega]
  · rw [coe_inv _ (by omega), coe_nat _ (by omega), lit_256, ← EReal.coe_mul, mul_comm (_ : ℝ) 256, ← EReal.coe_mul, Ideal.sin_coe, show L.val % 32 = L.val - 32 - 32 by omega]
  · rw [coe_inv _ (by omega), coe_nat _ (by omega), lit_256, ← EReal.coe_mul, mul_comm (_ : ℝ) 256, ← EReal.coe_mul, Ideal.sin_coe, show L.val % 32 = L.val - 32 - 32 - 32 by omega]

theorem lit_ones (L : Fin 128) : lit0 (S1x128.rowMajor (ix2 0 L)) = if L.val % 64 < 32 then 0xBF800000#32 else 0x3F800000#32 := by
  revert L
  decide +kernel

theorem at_cst (c : Dev nD) (L : Fin 128) :
    (V m c main_cst (ix2 0 L) : EReal) = ((if L.val % 64 < 32 then -1 else 1 : ℝ) : EReal) := by
  unfold V
  after_reads_at
  show Ideal.ofBits .f32 (lit0 (S1x128.rowMajor (ix2 0 L))) = _
  rw [lit_ones]
  split_ifs
  · simp [Ideal.ofBits, Ideal.ieee, -EReal.coe_mul]; norm_num
  · simp [Ideal.ofBits, Ideal.ieee, -EReal.coe_mul]; norm_num

theorem at_v89 (c : Dev nD) (h : Fin 8) (r : Fin 256) (e : Fin 128) :
    (V m c main_v89 (ix3 h r e) : EReal) = ((gamma h.val ^ (r.val + 1) : ℝ) : EReal) := by
  unfold V
  after_reads_at
  rw [coe_log _ (by omega), coe_nat _ (by omega), ← EReal.coe_one, ← EReal.coe_add]
  exact exp_log _ _ _ (by push_cast; rfl)

theorem at_v92 (c : Dev nD) (r : Fin 256) (k : Fin 512) :
    (V m c main_v92 (ix2 r k) : EReal) = ((gamma (k.val / 64) ^ (255 - r.val) : ℝ) : EReal) := by
  unfold V
  after_reads_at
  rw [coe_log _ (by omega), coe_nat _ (by omega), lit_255, ← EReal.coe_sub]
  exact exp_log _ _ _ (by rw [Nat.cast_sub (by omega)]; push_cast; rfl)

theorem chunk_of (n : Fin 256) : IntOp.divsi .host (BitVec.ofNat 32 n.val) 64#32 = BitVec.ofNat 32 (n.val / 64) := by
  revert n
  decide +kernel

theorem sub_of (r j : Fin 256) : (FloatOps.sitofp (F := Ideal) .f32 (IntOp.subi (BitVec.ofNat 32 r.val) (BitVec.ofNat 32 j.val)) : EReal)
    = (((r.val : ℝ) - (j.val : ℝ) : ℝ) : EReal) := by
  show (((IntOp.subi (BitVec.ofNat 32 r.val) (BitVec.ofNat 32 j.val)).toInt : ℝ) : EReal) = _
  have e : (IntOp.subi (BitVec.ofNat 32 r.val) (BitVec.ofNat 32 j.val)).toInt = (r.val : ℤ) - (j.val : ℤ) := by
    show (BitVec.ofNat 32 r.val - BitVec.ofNat 32 j.val).toInt = _
    rw [BitVec.toInt_sub, BitVec.toInt_ofNat', BitVec.toInt_ofNat']
    simp only [Int.bmod]
    omega
  rw [e]
  push_cast
  rfl

theorem same_chunk (a b : Fin 4) : IntOp.cmpi .eq (BitVec.ofNat 32 a.val) (BitVec.ofNat 32 b.val) = if a.val = b.val then 1#1 else 0#1 := by
  revert a b
  decide +kernel

theorem before_chunk (a b : Fin 4) : IntOp.cmpi .slt (BitVec.ofNat 32 a.val) (BitVec.ofNat 32 b.val) = if a.val < b.val then 1#1 else 0#1 := by
  revert a b
  decide +kernel

theorem at_v70 (c : Dev nD) (h : Fin 8) (r j : Fin 256) :
    (V m c main_v70 (ix3 h r j) : EReal) = ((weight (gamma h.val) r.val j.val : ℝ) : EReal) := by
  unfold V
  after_reads_at
  rw [coe_log _ (by omega), chunk_of, chunk_of, sub_of, abs_gap, same_chunk ⟨r.val / 64, by omega⟩ ⟨j.val / 64, by omega⟩,
    before_chunk ⟨j.val / 64, by omega⟩ ⟨r.val / 64, by omega⟩]
  rw [weight]
  dsimp only
  by_cases e : r.val / 64 = j.val / 64
  · rw [if_pos e, if_neg (by omega), if_pos (by omega)]
    exact exp_log _ _ _ rfl
  · by_cases l : j.val / 64 < r.val / 64
    · rw [if_neg e, if_pos l, if_pos (by omega)]
      refine exp_log _ _ _ ?_
      rw [gap, show j.val - r.val = 0 by omega, add_zero, Nat.cast_sub (by omega)]
    · rw [if_neg e, if_neg l, if_neg (by omega)]
      show Ideal.ofBits .f32 0#32 = _
      simp [Ideal.ofBits, Ideal.ieee]

end Cert.KernelIdeal.Tail

end
-- ==== Proof.TailIdeal.Reals.lean ====
/-
  What a point computes for one head, as real numbers: the turned rows, the state after the block and the retention.
-/
module

public import proofs.«01_k».proof.Proof.TailIdeal.Parts
public import proofs.«01_k».proof.Proof.Tail.Real

@[expose] public section

set_option maxRecDepth 16384

noncomputable section

namespace Cert.KernelIdeal.Tail

open Cert.KernelIdeal Cert.KernelIdeal.Gen Idealize.ShloMosaic Idealize.ShloMosaic.TcCoe Cert.Tail

theorem lane_half : ∀ L : Fin 128, IntOp.cmpi .slt (IntOp.andi (BitVec.ofNat 32 L.val) 63#32) 32#32 = if L.val % 64 < 32 then 1#1 else 0#1 := by
  decide +kernel

/-- A row of two heads, turned by the angles of row `R`. -/
theorem kturn_real (x C S : Fin 128 → EReal) (y : Fin 128 → ℝ) (R : ℕ) (hx : ∀ L, x L = ((y L : ℝ) : EReal))
    (hC : ∀ L, C L = ((Real.cos ((R : ℝ) * inv (L.val % 32)) : ℝ) : EReal))
    (hS : ∀ L, S L = ((Real.sin ((R : ℝ) * inv (L.val % 32)) * (if L.val % 64 < 32 then -1 else 1) : ℝ) : EReal))
    (a : ℕ) (ha : a < 2) (l : Fin 64) :
    kturn x C S ⟨64 * a + l.val, by omega⟩ = ((rot (fun l => y ⟨64 * a + l.val, by omega⟩) R l : ℝ) : EReal) := by
  unfold kturn rot
  rw [lane_half]
  dsimp only
  by_cases h : l.val < 32
  · rw [if_pos (show (64 * a + l.val) % 64 < 32 by omega), dif_pos h]
    show _ + x _ * _ = _
    rw [hx, hx, hC, hS, if_pos (show (64 * a + l.val) % 64 < 32 by omega), ← EReal.coe_mul, ← EReal.coe_mul, ← EReal.coe_add]
    dsimp only
    have e : (⟨(64 * a + l.val + 128 - 96) % 128, by omega⟩ : Fin 128) = ⟨64 * a + (32 + l.val), by omega⟩ := Fin.ext (by dsimp only; omega)
    rw [e, show (64 * a + l.val) % 32 = l.val by omega]
    congr 1
    ring
  · rw [if_neg (show ¬(64 * a + l.val) % 64 < 32 by omega), dif_neg h]
    show _ + x _ * _ = _
    rw [hx, hx, hC, hS, if_neg (show ¬(64 * a + l.val) % 64 < 32 by omega), ← EReal.coe_mul, ← EReal.coe_mul, ← EReal.coe_add]
    dsimp only
    have e : (⟨(64 * a + l.val + 128 - 32) % 128, by omega⟩ : Fin 128) = ⟨64 * a + (l.val - 32), by omega⟩ := Fin.ext (by dsimp only; omega)
    rw [e, show (64 * a + l.val) % 32 = l.val - 32 by omega]
    congr 1
    ring

section

variable (b : ℕ) (cb sb : Vec Ideal S1x1x128 .f32) (cr sr : Vec Ideal S256x128 .f32) (g : Vec Ideal S1x128 .f32)
  (hcb : ∀ L, (cb (ix3 0 0 L) : EReal) = ((Real.cos ((256 * (b : ℝ)) * inv (L.val % 32)) : ℝ) : EReal))
  (hsb : ∀ L, (sb (ix3 0 0 L) : EReal) = ((Real.sin ((256 * (b : ℝ)) * inv (L.val % 32)) : ℝ) : EReal))
  (hcr : ∀ r L, (cr (ix2 r L) : EReal) = ((Real.cos ((r.val : ℝ) * inv (L.val % 32)) : ℝ) : EReal))
  (hsr : ∀ r L, (sr (ix2 r L) : EReal) = ((Real.sin ((r.val : ℝ) * inv (L.val % 32)) : ℝ) : EReal))
  (hg : ∀ L, (g (ix2 0 L) : EReal) = ((if L.val % 64 < 32 then -1 else 1 : ℝ) : EReal))

include hcb hsb hcr hsr hg

/-- A block's row of one head, turned. -/
theorem turnK_real (x : Vec Ideal S256x512 .bf16) (y : Fin 256 → Fin 512 → ℝ) (hx : ∀ r k, (x (ix2 r k) : EReal) = ((y r k : ℝ) : EReal))
    (r : Fin 256) (h : Fin 8) (l : Fin 64) :
    turnK x (cosK cb sb cr sr) (sinK cb sb cr sr g) r h l
      = ((rot (fun l => y r ⟨64 * h.val + l.val, by omega⟩) (256 * b + r.val) l : ℝ) : EReal) := by
  unfold turnK
  rw [kturn_real _ _ _ (fun L => y r ⟨128 * (h.val / 2) + L.val, by omega⟩) (256 * b + r.val) (fun L => hx _ _) ?_ ?_ _ (by omega)]
  · congr 2
    funext l
    congr 2
    dsimp only
    omega
  · intro L
    unfold cosK kcos
    dsimp only
    rw [hcb, hsb, hcr, hsr, ← EReal.coe_mul, ← EReal.coe_mul, ← EReal.coe_sub, ← Real.cos_add]
    push_cast
    rw [add_mul]
  · intro L
    unfold sinK ksin
    dsimp only
    rw [hcb, hsb, hcr, hsr, hg, ← EReal.coe_mul, ← EReal.coe_mul, ← EReal.coe_add, ← EReal.coe_mul, ← Real.sin_add]
    push_cast
    rw [add_mul]

end

/-- How much a block of 256 rows leaves of a head's state. -/
theorem decay_real (h : Fin 8) : decayK h = ((gamma h.val ^ 256 : ℝ) : EReal) := by
  rw [gamma_eq]
  match h with
  | ⟨0, _⟩ => exact (IdealRules.named_const.ideal_named_scalar _ _ _ _ rfl).trans (congrArg _ (by norm_num))
  | ⟨1, _⟩ => exact (IdealRules.named_const.ideal_named_scalar _ _ _ _ rfl).trans (congrArg _ (by norm_num))
  | ⟨2, _⟩ => exact (IdealRules.named_const.ideal_named_scalar _ _ _ _ rfl).trans (congrArg _ (by norm_num))
  | ⟨3, _⟩ => exact (IdealRules.named_const.ideal_named_scalar _ _ _ _ rfl).trans (congrArg _ (by norm_num))
  | ⟨4, _⟩ => exact (IdealRules.named_const.ideal_named_scalar _ _ _ _ rfl).trans (congrArg _ (by norm_num))
  | ⟨5, _⟩ => exact (IdealRules.named_const.ideal_named_scalar _ _ _ _ rfl).trans (congrArg _ (by norm_num))
  | ⟨6, _⟩ => exact (IdealRules.named_const.ideal_named_scalar _ _ _ _ rfl).trans (congrArg _ (by norm_num))
  | ⟨7, _⟩ => exact (IdealRules.named_const.ideal_named_scalar _ _ _ _ rfl).trans (congrArg _ (by norm_num))

variable (P : Fin 16384 → Fin 9216 → ℝ) (b : ℕ)

/-- The state after block `b`. -/
theorem stateK_real (k : Fin 256 → Fin 8 → Fin 64 → EReal) (v : Vec Ideal S256x1024 .bf16) (zeta : Vec Ideal S256x512 .f32) (st : Vec Ideal S8x64x128 .f32)
    (hk : ∀ j h d, k j h d * Ideal.ofBits .f32 0x3E000000#32 = ((key P h (256 * b + j.val) d : ℝ) : EReal))
    (hv : ∀ j (h : Fin 8) (e : Fin 128), (v (ix2 j ⟨128 * h.val + e.val, by omega⟩) : EReal) = ((val P h (256 * b + j.val) e : ℝ) : EReal))
    (hz : ∀ j (h : Fin 8) (d : Fin 64), (zeta (ix2 j ⟨64 * h.val + d.val, by omega⟩) : EReal) = ((gamma h.val ^ (255 - j.val) : ℝ) : EReal))
    (hst : ∀ h d e, (st (ix3 h d e) : EReal) = ((stateOf P h (256 * b) d e : ℝ) : EReal)) (h : Fin 8) (d : Fin 64) (e : Fin 128) :
    stateK k v zeta st h d e = ((stateOf P h (256 * (b + 1)) d e : ℝ) : EReal) := by
  unfold stateK
  rw [hst, decay_real, stateOf, stateOf, show 256 * (b + 1) = 256 * b + 256 by ring, state_add, sum_range, EReal.coe_add, EReal.coe_mul, coe_sum]
  congr 1
  refine Finset.sum_congr rfl fun j _ => ?_
  rw [hk, hv, hz, ← EReal.coe_mul, ← EReal.coe_mul]

/-- The retention of block `b`. -/
theorem retK_real (q k : Fin 256 → Fin 8 → Fin 64 → EReal) (v : Vec Ideal S256x1024 .bf16) (dm : Vec Ideal S8x256x256 .f32) (xi : Vec Ideal S8x256x128 .f32)
    (st : Vec Ideal S8x64x128 .f32)
    (hq : ∀ j h d, q j h d = ((qry P h (256 * b + j.val) d : ℝ) : EReal))
    (hk : ∀ j h d, k j h d * Ideal.ofBits .f32 0x3E000000#32 = ((key P h (256 * b + j.val) d : ℝ) : EReal))
    (hv : ∀ j (h : Fin 8) (e : Fin 128), (v (ix2 j ⟨128 * h.val + e.val, by omega⟩) : EReal) = ((val P h (256 * b + j.val) e : ℝ) : EReal))
    (hd : ∀ h r j, (dm (ix3 h r j) : EReal) = ((weight (gamma h.val) r.val j.val : ℝ) : EReal))
    (hxi : ∀ h r e, (xi (ix3 h r e) : EReal) = ((gamma h.val ^ (r.val + 1) : ℝ) : EReal))
    (hst : ∀ h d e, (st (ix3 h d e) : EReal) = ((stateOf P h (256 * b) d e : ℝ) : EReal)) (r : Fin 256) (h : Fin 8) (e : Fin 128) :
    retK q k v dm xi st r h e = ((rowOf P h (256 * b + r.val) e : ℝ) : EReal) := by
  unfold retK
  simp only [hq, hk, hv, hd, hxi, hst, ← EReal.coe_mul, ← coe_sum, ← EReal.coe_add]
  rw [rowOf, show (256 * b + r.val) / 64 = 4 * b + r.val / 64 by omega, show (256 * b + r.val) % 64 = r.val % 64 by omega,
    row_eq_block _ _ _ _ b r.val r.isLt e, sum_range]
  rfl

end Cert.KernelIdeal.Tail

end
-- ==== Proof.Tail.Result.lean ====
/-
  The tail's result, entry by entry: the retention's rows are real numbers, everything else is over the extended reals.
-/
module

public import proofs.«01_k».proof.Proof.Tail.Real
public import proofs.«01_k».proof.Proof.Tail.Spec

@[expose] public section

noncomputable section

namespace Cert.Tail

open Idealize.ShloMosaic

/-- Entry `j` of row `R` of the result. -/
def resultAt (P : Fin 16384 → Fin 9216 → ℝ) (y : Fin 16384 → Fin 1024 → EReal) (p : Fin 16384 → Fin 9216 → EReal) (x : Fin 16384 → Fin 2048 → EReal)
    (wg : Fin 1024 → Fin 1024 → EReal) (b : Fin 1024 → EReal) (ws wr : Fin 1024 → Fin 2048 → EReal) (wo : Fin 2048 → Fin 2048 → EReal)
    (g : Fin 2048 → EReal) (R : Fin 16384) (j : Fin 2048) : EReal :=
  merged (fun k => gated (y R) wg b (p R ⟨1024 + k.val, by omega⟩) k)
    (fun k => headOut (fun e => ((rowOf P ⟨k.val / 128, by omega⟩ R.val e : ℝ) : EReal)) (p R ⟨4096 + k.val, by omega⟩) ⟨k.val % 128, by omega⟩)
    ws wr wo (fun k => p R ⟨5120 + k.val, by omega⟩) (fun k => p R ⟨7168 + k.val, by omega⟩) (x R) g j

end Cert.Tail

end
-- ==== Proof.TailIdeal.Points.lean ====
/-
  What every point of the tail leaves: the state, the two gated branches and the result's rows.
-/
module

public import proofs.«01_k».proof.Proof.TailIdeal.Blocks
public import proofs.«01_k».proof.Proof.TailIdeal.Reads
public import proofs.«01_k».proof.Proof.TailIdeal.Tables
public import proofs.«01_k».proof.Proof.TailIdeal.Reals
public import proofs.«01_k».proof.Proof.Tail.Result

@[expose] public section

set_option maxRecDepth 16384

noncomputable section

namespace Cert.KernelIdeal.Tail

open Cert.KernelIdeal Cert.KernelIdeal.Gen Idealize.ShloMosaic Idealize.ShloMosaic.TcCoe Cert.Tail

variable (m : (ℓ : Loc nD τ sig) → Buf (Elt Ideal) ℓ) (P : Fin 16384 → Fin 9216 → ℝ) (c : Dev nD)
  (hp : ∀ R c', 2048 ≤ c'.val → c'.val < 4096 → (m ((c : Thread nD τ).loc main_arg1) (ix2 R c') : EReal) = ((P R c' : ℝ) : EReal))

theorem cur_mod (t : Fin cfg0.N) (r : Fin 256) (h : (256 * min t.val 63 + r.val) % 16384 < 16384) :
    (⟨(256 * min t.val 63 + r.val) % 16384, h⟩ : Fin 16384) = cur t r :=
  Fin.ext (by show (256 * min t.val 63 + r.val) % 16384 = min t.val 63 * 256 + r.val; omega)

include hp

theorem query_real (t : Fin cfg0.N) (j : Fin 256) (h : Fin 8) (d : Fin 64) :
    (turnK (iblk m c 2 t) (cosK (iblk m c 6 t) (iblk m c 7 t) (iblk m c 15 t) (iblk m c 16 t)) (sinK (iblk m c 6 t) (iblk m c 7 t) (iblk m c 15 t) (iblk m c 16 t) (iblk m c 17 t))) j h d = ((qry P h (256 * min t.val 63 + j.val) d : ℝ) : EReal) := by
  refine (turnK_real (min t.val 63) (iblk m c 6 t) (iblk m c 7 t) (iblk m c 15 t) (iblk m c 16 t) (iblk m c 17 t) (fun L => (block_cosb m c t L).trans (at_v30 m c ⟨min t.val 63, by omega⟩ L))
    (fun L => (block_sinb m c t L).trans (at_v33 m c ⟨min t.val 63, by omega⟩ L)) (fun r L => (block_cosr m c t r L).trans (at_v25 m c r L))
    (fun r L => (block_sinr m c t r L).trans (at_v27 m c r L)) (fun L => (block_sign m c t L).trans (at_cst m c L))
    (iblk m c 2 t) (fun r k => P (cur t r) ⟨2048 + k.val, by omega⟩)
    (fun r k => (block_q m c t r k).trans ((congrFun (arg1 m c) _).trans (hp _ _ (by dsimp only; omega) (by dsimp only; omega)))) j h d).trans ?_
  rw [qry]
  simp only [cur_mod]

theorem key_real (t : Fin cfg0.N) (j : Fin 256) (h : Fin 8) (d : Fin 64) :
    (turnK (iblk m c 3 t) (cosK (iblk m c 6 t) (iblk m c 7 t) (iblk m c 15 t) (iblk m c 16 t)) (sinK (iblk m c 6 t) (iblk m c 7 t) (iblk m c 15 t) (iblk m c 16 t) (iblk m c 17 t))) j h d * Ideal.ofBits .f32 0x3E000000#32 = ((key P h (256 * min t.val 63 + j.val) d : ℝ) : EReal) := by
  have e := turnK_real (min t.val 63) (iblk m c 6 t) (iblk m c 7 t) (iblk m c 15 t) (iblk m c 16 t) (iblk m c 17 t) (fun L => (block_cosb m c t L).trans (at_v30 m c ⟨min t.val 63, by omega⟩ L))
    (fun L => (block_sinb m c t L).trans (at_v33 m c ⟨min t.val 63, by omega⟩ L)) (fun r L => (block_cosr m c t r L).trans (at_v25 m c r L))
    (fun r L => (block_sinr m c t r L).trans (at_v27 m c r L)) (fun L => (block_sign m c t L).trans (at_cst m c L))
    (iblk m c 3 t) (fun r k => P (cur t r) ⟨2560 + k.val, by omega⟩)
    (fun r k => (block_k m c t r k).trans ((congrFun (arg1 m c) _).trans (hp _ _ (by dsimp only; omega) (by dsimp only; omega)))) j h d
  refine (congrArg₂ (HMul.hMul : EReal → EReal → EReal) e lit_eighth).trans ?_
  rw [key, ← EReal.coe_mul]
  simp only [cur_mod]

theorem value_real (t : Fin cfg0.N) (j : Fin 256) (h : Fin 8) (e : Fin 128) :
    (iblk m c 4 t (ix2 j ⟨128 * h.val + e.val, by omega⟩) : EReal) = ((val P h (256 * min t.val 63 + j.val) e : ℝ) : EReal) := by
  refine (block_v m c t j ⟨128 * h.val + e.val, by omega⟩).trans ((congrFun (arg1 m c) _).trans
    ((hp _ _ (by dsimp only; omega) (by dsimp only; omega)).trans ?_))
  rw [val]
  simp only [cur_mod]

/-- The state after each block. -/
theorem state_point (n : ℕ) (hn : n < cfg0.N) (hle : n ≤ 63) (h : Fin 8) (d : Fin 64) (e : Fin 128) :
    ((outsAt0 m c n hn).2.1 (ix3 h d e) : EReal) = ((stateOf P h (256 * (n + 1)) d e : ℝ) : EReal) := by
  have step : ∀ (t : Fin cfg0.N) (st : Vec Ideal S8x64x128 .f32) (hst : ∀ h d e, (st (ix3 h d e) : EReal) = ((stateOf P h (256 * min t.val 63) d e : ℝ) : EReal))
      (h : Fin 8) (d : Fin 64) (e : Fin 128), stateK (turnK (iblk m c 3 t) (cosK (iblk m c 6 t) (iblk m c 7 t) (iblk m c 15 t) (iblk m c 16 t)) (sinK (iblk m c 6 t) (iblk m c 7 t) (iblk m c 15 t) (iblk m c 16 t) (iblk m c 17 t))) (iblk m c 4 t) (iblk m c 20 t) st h d e = ((stateOf P h (256 * (min t.val 63 + 1)) d e : ℝ) : EReal) :=
    fun t st hst h d e => stateK_real P (min t.val 63) _ _ _ st (key_real m P c hp t) (value_real m P c hp t)
      (fun j h d => (block_zeta m c t j ⟨64 * h.val + d.val, by omega⟩).trans ((at_v92 m c j ⟨64 * h.val + d.val, by omega⟩).trans
        (by rw [show (64 * h.val + d.val) / 64 = h.val by omega]))) hst h d e
  induction n generalizing h d e with
  | zero =>
    have h0 : (⟨0, hn⟩ : Fin cfg0.N).val % 65 = 0 := Nat.zero_mod _
    exact (point_stA m c ⟨0, hn⟩ h0 h d e).trans (step ⟨0, hn⟩ (fun _ => 0) (fun _ _ _ => rfl) h d e)
  | succ n ih =>
    have h0 : ¬(⟨n + 1, hn⟩ : Fin cfg0.N).val % 65 = 0 := by dsimp only; omega
    refine ((point_stB m c ⟨n + 1, hn⟩ h0 h d e).trans ((step ⟨n + 1, hn⟩ _ (fun h d e => ?_) h d e).trans ?_))
    · refine (ih (Nat.lt_of_succ_lt hn) (by omega) h d e).trans ?_
      rw [show min (⟨n + 1, hn⟩ : Fin cfg0.N).val 63 = n + 1 from Nat.min_eq_left hle]
    · rw [show min (⟨n + 1, hn⟩ : Fin cfg0.N).val 63 = n + 1 from Nat.min_eq_left hle]

/-- The gated retention after each block. -/
theorem retention_point (n : ℕ) (hn : n < cfg0.N) (hle : n ≤ 63) (r : Fin 256) (h : Fin 8) (e : Fin 128) :
    ((outsAt0 m c n hn).2.2.2 (ix2 r ⟨128 * h.val + e.val, by omega⟩) : EReal)
      = headOut (fun e => ((rowOf P h (256 * n + r.val) e : ℝ) : EReal))
        (m ((c : Thread nD τ).loc main_arg1) (ix2 (cur ⟨n, hn⟩ r) ⟨4096 + (128 * h.val + e.val), by omega⟩)) e := by
  have step : ∀ (t : Fin cfg0.N) (st : Vec Ideal S8x64x128 .f32) (hst : ∀ h d e, (st (ix3 h d e) : EReal) = ((stateOf P h (256 * min t.val 63) d e : ℝ) : EReal))
      (r : Fin 256) (h : Fin 8) (e : Fin 128),
      retK (turnK (iblk m c 2 t) (cosK (iblk m c 6 t) (iblk m c 7 t) (iblk m c 15 t) (iblk m c 16 t)) (sinK (iblk m c 6 t) (iblk m c 7 t) (iblk m c 15 t) (iblk m c 16 t) (iblk m c 17 t))) (turnK (iblk m c 3 t) (cosK (iblk m c 6 t) (iblk m c 7 t) (iblk m c 15 t) (iblk m c 16 t)) (sinK (iblk m c 6 t) (iblk m c 7 t) (iblk m c 15 t) (iblk m c 16 t) (iblk m c 17 t))) (iblk m c 4 t) (iblk m c 18 t) (iblk m c 19 t) st r h e = ((rowOf P h (256 * min t.val 63 + r.val) e : ℝ) : EReal) :=
    fun t st hst r h e => retK_real P (min t.val 63) _ _ _ _ _ st (query_real m P c hp t) (key_real m P c hp t) (value_real m P c hp t)
      (fun h r j => (block_mask m c t h r j).trans (at_v70 m c h r j)) (fun h r e => (block_xi m c t h r e).trans (at_v89 m c h r e)) hst r h e
  have gate : (iblk m c 5 ⟨n, hn⟩ (ix2 r ⟨128 * h.val + e.val, by omega⟩) : EReal)
      = m ((c : Thread nD τ).loc main_arg1) (ix2 (cur ⟨n, hn⟩ r) ⟨4096 + (128 * h.val + e.val), by omega⟩) :=
    (block_zr m c ⟨n, hn⟩ r ⟨128 * h.val + e.val, by omega⟩).trans (congrFun (arg1 m c) _)
  have hm : min (⟨n, hn⟩ : Fin cfg0.N).val 63 = n := Nat.min_eq_left hle
  cases n with
  | zero =>
    have h0 : (⟨0, hn⟩ : Fin cfg0.N).val % 65 = 0 := Nat.zero_mod _
    refine (point_yrA m c ⟨0, hn⟩ h0 r h e).trans (congrArg₂ (fun o z => headOut o z e) (funext fun e => ?_) gate)
    exact step ⟨0, hn⟩ (fun _ => 0) (fun _ _ _ => rfl) r h e
  | succ n =>
    have h0 : ¬(⟨n + 1, hn⟩ : Fin cfg0.N).val % 65 = 0 := by dsimp only; omega
    refine ((point_yrB m c ⟨n + 1, hn⟩ h0 r h e).trans (congrArg₂ (fun o z => headOut o z e) (funext fun e => ?_) gate))
    refine (step ⟨n + 1, hn⟩ _ (fun h d e => ?_) r h e).trans (by rw [hm])
    refine (state_point m P c hp n (Nat.lt_of_succ_lt hn) (by omega) h d e).trans (by rw [hm])

omit hp in
/-- The gated state space output after each block. -/
theorem gated_point (n : ℕ) (hn : n < cfg0.N) (r : Fin 256) (k : Fin 1024) :
    ((outsAt0 m c n hn).2.2.1 (ix2 r k) : EReal)
      = gated (fun k => m ((c : Thread nD τ).loc main_arg0) (ix2 (cur ⟨n, hn⟩ r) k)) (fun j k => m ((c : Thread nD τ).loc main_arg3) (ix2 j k))
        (fun k => m ((c : Thread nD τ).loc main_arg4) (ix1 k)) (m ((c : Thread nD τ).loc main_arg1) (ix2 (cur ⟨n, hn⟩ r) ⟨1024 + k.val, by omega⟩)) k := by
  have ey : (fun k => (iblk m c 0 ⟨n, hn⟩ (ix2 r k) : EReal)) = fun k => m ((c : Thread nD τ).loc main_arg0) (ix2 (cur ⟨n, hn⟩ r) k) :=
    funext fun k => (block_y m c ⟨n, hn⟩ r k).trans (congrFun (arg0 m c) _)
  have ew : (fun j k => (iblk m c 13 ⟨n, hn⟩ (ix2 j k) : EReal)) = fun (j k : Fin 1024) => m ((c : Thread nD τ).loc main_arg3) (ix2 j k) :=
    funext fun j => funext fun k => (block_wglu m c ⟨n, hn⟩ j k).trans (congrFun (arg3 m c) _)
  have eb : (fun k => (iblk m c 14 ⟨n, hn⟩ (ix2 0 k) : EReal)) = fun (k : Fin 1024) => m ((c : Thread nD τ).loc main_arg4) (ix1 k) :=
    funext fun k => (block_bglu m c ⟨n, hn⟩ k).trans (arg4 m c k)
  have ez : (iblk m c 1 ⟨n, hn⟩ (ix2 r k) : EReal) = m ((c : Thread nD τ).loc main_arg1) (ix2 (cur ⟨n, hn⟩ r) ⟨1024 + k.val, by omega⟩) :=
    (block_zs m c ⟨n, hn⟩ r k).trans (congrFun (arg1 m c) _)
  have all := congr (congr (congrArg₂ gated ey ew) eb) ez
  cases n with
  | zero =>
    have h0 : (⟨0, hn⟩ : Fin cfg0.N).val % 65 = 0 := Nat.zero_mod _
    exact (point_ysA m c ⟨0, hn⟩ h0 r k).trans (congrFun all k)
  | succ n =>
    have h0 : ¬(⟨n + 1, hn⟩ : Fin cfg0.N).val % 65 = 0 := by
      have := hn.trans_eq (show cfg0.N = 65 from N_0)
      dsimp only; omega
    exact ((point_ysB m c ⟨n + 1, hn⟩ h0 r k).trans (congrFun all k))

omit hp in
theorem both_eq (f : Fin 2048 → EReal) (a b : Fin 1024 → EReal) (ha : ∀ k, a k = f ⟨k.val, by omega⟩) (hb : ∀ k, b k = f ⟨1024 + k.val, by omega⟩) :
    both a b = f := by
  funext k
  unfold both
  split_ifs with h
  · exact ha _
  · refine (hb _).trans (congrArg f (Fin.ext ?_))
    dsimp only
    omega

/-- The result's rows after each point but the first. -/
theorem result_point (n : ℕ) (hn : n + 1 < cfg0.N) (r : Fin 256) (j : Fin 2048) :
    ((outsAt0 m c (n + 1) hn).1 (ix2 r j) : EReal)
      = resultAt P (fun R k => m ((c : Thread nD τ).loc main_arg0) (ix2 R k)) (fun R k => m ((c : Thread nD τ).loc main_arg1) (ix2 R k))
        (fun R k => m ((c : Thread nD τ).loc main_arg2) (ix2 R k)) (fun j k => m ((c : Thread nD τ).loc main_arg3) (ix2 j k))
        (fun k => m ((c : Thread nD τ).loc main_arg4) (ix1 k)) (fun j k => m ((c : Thread nD τ).loc main_arg5) (ix2 j k))
        (fun j k => m ((c : Thread nD τ).loc main_arg6) (ix2 j k)) (fun j k => m ((c : Thread nD τ).loc main_arg7) (ix2 j k))
        (fun k => m ((c : Thread nD τ).loc main_arg8) (ix1 k)) (prv ⟨n + 1, hn⟩ r) j := by
  have hN := hn.trans_eq (show cfg0.N = 65 from N_0)
  have h0 : ¬(⟨n + 1, hn⟩ : Fin cfg0.N).val % 65 = 0 := by dsimp only; omega
  have hm : n < cfg0.N := Nat.lt_of_succ_lt hn
  have er : cur ⟨n, hm⟩ r = prv ⟨n + 1, hn⟩ r := Fin.ext (by show min n 63 * 256 + r.val = (n + 1 - 1) * 256 + r.val; omega)
  refine ((point_out m c ⟨n + 1, hn⟩ h0 r j).trans ?_)
  unfold resultAt
  have e1 : (fun k => ((outsAt0 m c n hm).2.2.1 (ix2 r k) : EReal)) = fun k => gated (fun k => m ((c : Thread nD τ).loc main_arg0) (ix2 (prv ⟨n + 1, hn⟩ r) k)) (fun j k => m ((c : Thread nD τ).loc main_arg3) (ix2 j k))
        (fun k => m ((c : Thread nD τ).loc main_arg4) (ix1 k)) (m ((c : Thread nD τ).loc main_arg1) (ix2 (prv ⟨n + 1, hn⟩ r) ⟨1024 + k.val, by omega⟩)) k := by
    funext k
    rw [← er]
    exact gated_point m c n hm r k
  have e2 : (fun k => ((outsAt0 m c n hm).2.2.2 (ix2 r k) : EReal)) = fun k : Fin 1024 => headOut (fun e => ((rowOf P ⟨k.val / 128, by omega⟩ (prv ⟨n + 1, hn⟩ r).val e : ℝ) : EReal))
        (m ((c : Thread nD τ).loc main_arg1) (ix2 (prv ⟨n + 1, hn⟩ r) ⟨4096 + k.val, by omega⟩)) ⟨k.val % 128, by omega⟩ := by
    funext k
    rw [← er]
    have e := retention_point m P c hp n hm (by omega) r ⟨k.val / 128, by omega⟩ ⟨k.val % 128, by omega⟩
    have ek : ∀ q, (⟨128 * (k.val / 128) + k.val % 128, q⟩ : Fin 1024) = k := fun q => Fin.ext (Nat.div_add_mod _ _)
    have eR : (cur ⟨n, hm⟩ r).val = 256 * n + r.val := by show min n 63 * 256 + r.val = _; omega
    simp only [ek, Nat.div_add_mod] at e
    rw [eR]
    exact e
  have e3 : (fun j k => (iblk m c 21 ⟨n + 1, hn⟩ (ix2 j k) : EReal)) = fun (j : Fin 1024) (k : Fin 2048) => m ((c : Thread nD τ).loc main_arg5) (ix2 j k) :=
    funext fun j => funext fun k => (block_ws m c _ j k).trans (congrFun (arg5 m c) _)
  have e4 : (fun j k => (iblk m c 22 ⟨n + 1, hn⟩ (ix2 j k) : EReal)) = fun (j : Fin 1024) (k : Fin 2048) => m ((c : Thread nD τ).loc main_arg6) (ix2 j k) :=
    funext fun j => funext fun k => (block_wr m c _ j k).trans (congrFun (arg6 m c) _)
  have e5 : (fun j k => (iblk m c 23 ⟨n + 1, hn⟩ (ix2 j k) : EReal)) = fun (j : Fin 2048) (k : Fin 2048) => m ((c : Thread nD τ).loc main_arg7) (ix2 j k) :=
    funext fun j => funext fun k => (block_wo m c _ j k).trans (congrFun (arg7 m c) _)
  have e6 : both (fun k => iblk m c 8 ⟨n + 1, hn⟩ (ix2 r k)) (fun k => iblk m c 9 ⟨n + 1, hn⟩ (ix2 r k))
      = fun k => m ((c : Thread nD τ).loc main_arg1) (ix2 (prv ⟨n + 1, hn⟩ r) ⟨5120 + k.val, by omega⟩) :=
    both_eq _ _ _ (fun k => (block_gs0 m c _ r k).trans (congrFun (arg1 m c) _))
      (fun k => (block_gs1 m c _ r k).trans ((congrFun (arg1 m c) _).trans (by simp only [← Nat.add_assoc, Nat.reduceAdd])))
  have e7 : both (fun k => iblk m c 10 ⟨n + 1, hn⟩ (ix2 r k)) (fun k => iblk m c 11 ⟨n + 1, hn⟩ (ix2 r k))
      = fun k => m ((c : Thread nD τ).loc main_arg1) (ix2 (prv ⟨n + 1, hn⟩ r) ⟨7168 + k.val, by omega⟩) :=
    both_eq _ _ _ (fun k => (block_gr0 m c _ r k).trans (congrFun (arg1 m c) _))
      (fun k => (block_gr1 m c _ r k).trans ((congrFun (arg1 m c) _).trans (by simp only [← Nat.add_assoc, Nat.reduceAdd])))
  have e8 : (fun k => (iblk m c 12 ⟨n + 1, hn⟩ (ix2 r k) : EReal)) = fun (k : Fin 2048) => m ((c : Thread nD τ).loc main_arg2) (ix2 (prv ⟨n + 1, hn⟩ r) k) :=
    funext fun k => (block_x m c _ r k).trans (congrFun (arg2 m c) _)
  have e9 : (fun k => (iblk m c 24 ⟨n + 1, hn⟩ (ix2 0 k) : EReal)) = fun (k : Fin 2048) => m ((c : Thread nD τ).loc main_arg8) (ix1 k) :=
    funext fun k => (block_gain m c _ k).trans (arg8 m c k)
  exact congrFun (congr (congr (congr (congr (congr (congr (congr (congrArg₂ merged e1 e2) e3) e4) e5) e6) e7) e8) e9) j

end Cert.KernelIdeal.Tail

end
-- ==== Proof.TailIdeal.Array.lean ====
/-
  The array that the tail leaves, block by block.
-/
module

public import proofs.«01_k».proof.Proof.TailIdeal.Points

@[expose] public section

set_option maxRecDepth 16384

noncomputable section

namespace Cert.KernelIdeal.Tail

open Cert.KernelIdeal Cert.KernelIdeal.Gen Idealize.ShloMosaic Idealize.ShloMosaic.TcCoe Cert.Tail

variable (m : (ℓ : Loc nD τ sig) → Buf (Elt Ideal) ℓ) (P : Fin 16384 → Fin 9216 → ℝ) (c : Dev nD)

/-- The result, entry by entry. -/
def resultArray : Buf (Elt Ideal) ((c : Thread nD τ).loc main_v95) := fun i : S16384x2048.Idx =>
  resultAt P (fun R k => m ((c : Thread nD τ).loc main_arg0) (ix2 R k)) (fun R k => m ((c : Thread nD τ).loc main_arg1) (ix2 R k))
    (fun R k => m ((c : Thread nD τ).loc main_arg2) (ix2 R k)) (fun j k => m ((c : Thread nD τ).loc main_arg3) (ix2 j k))
    (fun k => m ((c : Thread nD τ).loc main_arg4) (ix1 k)) (fun j k => m ((c : Thread nD τ).loc main_arg5) (ix2 j k))
    (fun j k => m ((c : Thread nD τ).loc main_arg6) (ix2 j k)) (fun j k => m ((c : Thread nD τ).loc main_arg7) (ix2 j k))
    (fun k => m ((c : Thread nD τ).loc main_arg8) (ix1 k)) (i 0) (i 1)

/-- Where the result's block lies at each grid point. -/
theorem place : ∀ t : Fin cfg0.N, win0_25.index t = ![t.val - 1, 0] :=
  (by decide +kernel : ∀ t : Fin grid0.N, _)

/-- The first point's block is not written back. -/
theorem flushed_pos : ∀ t : Fin cfg0.N, (cfg0.win 25).flush t = true → t.val ≠ 0 :=
  (by decide +kernel : ∀ t : Fin grid0.N, _)

theorem result_after (hp : ∀ R c', 2048 ≤ c'.val → c'.val < 4096 → (m ((c : Thread nD τ).loc main_arg1) (ix2 R c') : EReal) = ((P R c' : ℝ) : EReal))
    (t : Fin cfg0.N) (h : t.val ≠ 0) (r : Fin 256) (j : Fin 2048) :
    ((outsAt0 m c t.val t.isLt).1 (ix2 r j) : EReal) = resultArray m P c (ix2 (prv t r) j) := by
  obtain ⟨n, hn⟩ := t
  cases n with
  | zero => exact absurd rfl h
  | succ n => exact result_point m P c hp n hn r j

theorem result_array (hp : ∀ R c', 2048 ≤ c'.val → c'.val < 4096 → (m ((c : Thread nD τ).loc main_arg1) (ix2 R c') : EReal) = ((P R c' : ℝ) : EReal)) :
    (dats m 0 c).arrAt 25 cfg0.N = resultArray m P c := by
  refine Pipeline.Dat.arrAt_eq_of_covers _ 25 _ (by decide +kernel) fun t hf y => ?_
  have h := flushed_pos t hf
  blk_simp
  rw [after0_25]
  idx_vars y
  refine (result_after m P c hp t h _ _).trans (congrArg (resultArray m P c) ?_)
  blk_ext! [place t]
  rfl

end Cert.KernelIdeal.Tail

end
-- ==== Proof.Tail.RefParts.lean ====
/-
  The parts of the tail's reference, each a definition of its own.
-/
module

public import proofs.«01_k».proof.Proof.Gen.ReferenceIdeal.Run
public import Idealize.ShloMosaic.PureOps.Ideal

@[expose] public section

set_option maxRecDepth 16384

noncomputable section

namespace Cert.ReferenceIdeal.Parts

open Cert.ReferenceIdeal Cert.ReferenceIdeal.Gen Idealize.ShloMosaic Idealize.ShloMosaic.TcCoe

/-- An array of the reference. -/
abbrev Arr (s : Shape) := FVec Ideal s .f32

/-- The logarithms of the decays. -/
def lgArr : Arr S8 := Host.log1p (Host.negf (Host.powf (broadcastInDim S8 ![] bcast_S_S8 (constant S_ .f32 0x40000000#32)) (subf (broadcastInDim S8 ![] bcast_S_S8 (constant S_ .f32 0xC0A00000#32)) (sitofp .f32 (iotaInDim S8 32 0)))))

/-- The angles of every row. -/
def angArr : Arr S16384x32 := mulf (broadcastInDim S16384x32 ![0, 1] bcast_S16384x1_S16384x32_0_1 (broadcastInDim S16384x1 ![0] bcast_S16384_S16384x1_0 (sitofp .f32 (iotaInDim S16384 32 0)))) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- An array's heads, every row turned by its angles. -/
def turned (x : Arr S16384x8x64) : Arr S16384x8x64 := concatenate S16384x8x64 2 [⟨S16384x8x32, (subf (mulf (extractStridedSlice S16384x8x32 ![0, 0, 0] x slices_S16384x8x64_S16384x8x32_0_0_0) (broadcastInDim S16384x8x32 ![0, 1, 2] bcast_S16384x1x32_S16384x8x32_0_1_2 (broadcastInDim S16384x1x32 ![0, 2] bcast_S16384x32_S16384x1x32_0_2 (Host.cos angArr)))) (mulf (extractStridedSlice S16384x8x32 ![0, 0, 32] x slices_S16384x8x64_S16384x8x32_0_0_32) (broadcastInDim S16384x8x32 ![0, 1, 2] bcast_S16384x1x32_S16384x8x32_0_1_2 (broadcastInDim S16384x1x32 ![0, 2] bcast_S16384x32_S16384x1x32_0_2 (Host.sin angArr)))))⟩, ⟨S16384x8x32, (addf (mulf (extractStridedSlice S16384x8x32 ![0, 0, 0] x slices_S16384x8x64_S16384x8x32_0_0_0) (broadcastInDim S16384x8x32 ![0, 1, 2] bcast_S16384x1x32_S16384x8x32_0_1_2 (broadcastInDim S16384x1x32 ![0, 2] bcast_S16384x32_S16384x1x32_0_2 (Host.sin angArr)))) (mulf (extractStridedSlice S16384x8x32 ![0, 0, 32] x slices_S16384x8x64_S16384x8x32_0_0_32) (broadcastInDim S16384x8x32 ![0, 1, 2] bcast_S16384x1x32_S16384x8x32_0_1_2 (broadcastInDim S16384x1x32 ![0, 2] bcast_S16384x32_S16384x1x32_0_2 (Host.cos angArr)))))⟩] concatenates_S16384x8x32_S16384x8x32_S16384x8x64_d2

/-- The turned queries, in chunks. -/
def queryArr (p : Arr S16384x9216) : Arr S256x64x8x64 := shapeCast _ (turned (shapeCast _ (extractStridedSlice S16384x512 ![0, 2048] p slices_S16384x9216_S16384x512_0_2048) shapeCasts_S16384x512_S16384x8x64)) shapeCasts_S16384x8x64_S256x64x8x64

/-- The turned and scaled keys, in chunks. -/
def keyArr (p : Arr S16384x9216) : Arr S256x64x8x64 := shapeCast _ (mulf (turned (shapeCast _ (extractStridedSlice S16384x512 ![0, 2560] p slices_S16384x9216_S16384x512_0_2560) shapeCasts_S16384x512_S16384x8x64)) (broadcastInDim S16384x8x64 ![] bcast_S_S16384x8x64 (constant S_ .f32 0x3E000000#32))) shapeCasts_S16384x8x64_S256x64x8x64

/-- The values, in chunks. -/
def valueArr (p : Arr S16384x9216) : Arr S256x64x8x128 := shapeCast _ (extractStridedSlice S16384x1024 ![0, 3072] p slices_S16384x9216_S16384x1024_0_3072) shapeCasts_S16384x1024_S256x64x8x128

/-- The retention from the turned queries and keys, the values and the states before the chunks. -/
def retArr (q k : Arr S256x64x8x64) (v : Arr S256x64x8x128) (prev : Arr S256x8x64x128) : Arr S16384x8x128 := shapeCast _ (addf (transpose S256x64x8x128 [0, 3, 1, 2] (Host.dotGeneral dot_S256x64x8x128_S256x8x64x64_S256x8x128x64_1_3_3_2_02_01 none v (mulf (Host.dotGeneral dot_S256x64x8x64_S256x64x8x64_S256x8x64x64_3_3_1_1_02_02 none q k) (broadcastInDim S256x8x64x64 ![0, 1, 2, 3] bcast_S1x8x64x64_S256x8x64x64_0_1_2_3 (broadcastInDim S1x8x64x64 ![1, 2, 3] bcast_S8x64x64_S1x8x64x64_1_2_3 (Host.exp (mulf (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (sitofp .f32 (iotaInDim S64 32 0)))) (broadcastInDim S64x64 ![0, 1] bcast_S1x64_S64x64_0_1 (broadcastInDim S1x64 ![1] bcast_S64_S1x64_1 (sitofp .f32 (iotaInDim S64 32 0)))))))) (broadcastInDim S8x64x64 ![0, 1, 2] bcast_S8x1x1_S8x64x64_0_1_2 (broadcastInDim S8x1x1 ![0] bcast_S8_S8x1x1_0 lgArr)))))))) transposes_S256x8x128x64_S256x64x8x128_0_3_1_2) (mulf (transpose S256x64x8x128 [0, 3, 1, 2] (Host.dotGeneral dot_S256x8x64x128_S256x64x8x64_S256x8x128x64_2_3_3_1_01_02 none prev q) transposes_S256x8x128x64_S256x64x8x128_0_3_1_2) (broadcastInDim S256x64x8x128 ![0, 1, 2, 3] bcast_S1x64x8x1_S256x64x8x128_0_1_2_3 (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (addf (sitofp .f32 (iotaInDim S64 32 0)) (broadcastInDim S64 ![] bcast_S_S64 (constant S_ .f32 0x3F800000#32))))) (broadcastInDim S8x64 ![0, 1] bcast_S8x1_S8x64_0_1 (broadcastInDim S8x1 ![0] bcast_S8_S8x1_0 lgArr)))) transposes_S8x64_S64x8_1_0))))) shapeCasts_S256x64x8x128_S16384x8x128

/-- The Gaussian error unit of the state space output. -/
def gArr (y : Arr S16384x1024) : Arr S16384x1024 := mulf y (mulf (broadcastInDim S16384x1024 ![] bcast_S_S16384x1024 (constant S_ .f32 0x3F000000#32)) (addf (broadcastInDim S16384x1024 ![] bcast_S_S16384x1024 (constant S_ .f32 0x3F800000#32)) (Host.tanh (mulf (broadcastInDim S16384x1024 ![] bcast_S_S16384x1024 (constant S_ .f32 0x3F4C422A#32)) (addf y (mulf (broadcastInDim S16384x1024 ![] bcast_S_S16384x1024 (constant S_ .f32 0x3D372713#32)) (mulf (mulf y y) y)))))))

/-- The gated state space output. -/
def ysArr (y : Arr S16384x1024) (p : Arr S16384x9216) (wg : Arr S1024x1024) (b : Arr S1024) : Arr S16384x1024 := mulf (mulf (gArr y) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (Host.dotGeneral dot_S16384x1024_S1024x1024_S16384x1024_1_0_0_1_n_n none (gArr y) wg) (broadcastInDim S16384x1024 ![0, 1] bcast_S1x1024_S16384x1024_0_1 (broadcastInDim S1x1024 ![1] bcast_S1024_S1x1024_1 b)))))))) (mulf (extractStridedSlice S16384x1024 ![0, 1024] p slices_S16384x9216_S16384x1024_0_1024) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 1024] p slices_S16384x9216_S16384x1024_0_1024))))))

/-- The gated retention. -/
def yrArr (o : Arr S16384x8x128) (p : Arr S16384x9216) : Arr S16384x1024 := mulf (shapeCast _ (mulf o (broadcastInDim S16384x8x128 ![0, 1, 2] bcast_S16384x8x1_S16384x8x128_0_1_2 (Host.rsqrt (addf (Host.divf (broadcastInDim S16384x8x1 ![0, 1] bcast_S16384x8_S16384x8x1_0_1 (Host.reduceAdd (mulf o o) (constant S_ .f32 0x00000000#32) reducesTo_S16384x8x128_S16384x8_d2 h_S_)) (broadcastInDim S16384x8x1 ![] bcast_S_S16384x8x1 (constant S_ .f32 0x43000000#32))) (broadcastInDim S16384x8x1 ![] bcast_S_S16384x8x1 (constant S_ .f32 0x358637BD#32)))))) shapeCasts_S16384x8x128_S16384x1024) (mulf (extractStridedSlice S16384x1024 ![0, 4096] p slices_S16384x9216_S16384x1024_0_4096) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 4096] p slices_S16384x9216_S16384x1024_0_4096))))))

/-- The mixed branches times the last weight. -/
def downArr (s r : Arr S16384x1024) (p : Arr S16384x9216) (ws wr : Arr S1024x2048) (wo : Arr S2048x2048) : Arr S16384x2048 := Host.dotGeneral dot_S16384x2048_S2048x2048_S16384x2048_1_0_0_1_n_n none (addf (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 5120] p slices_S16384x9216_S16384x2048_0_5120))))) (Host.dotGeneral dot_S16384x1024_S1024x2048_S16384x2048_1_0_0_1_n_n none s ws)) (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 7168] p slices_S16384x9216_S16384x2048_0_7168))))) (Host.dotGeneral dot_S16384x1024_S1024x2048_S16384x2048_1_0_0_1_n_n none r wr))) wo

/-- The result. -/
def resultArr (d x : Arr S16384x2048) (g : Arr S2048) : Arr S16384x2048 := addf x (mulf (mulf d (broadcastInDim S16384x2048 ![0, 1] bcast_S16384x1_S16384x2048_0_1 (Host.rsqrt (addf (Host.divf (broadcastInDim S16384x1 ![0] bcast_S16384_S16384x1_0 (Host.reduceAdd (mulf d d) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g)))

/-- What a chunk adds to the state. -/
def kvArr (k : Arr S256x64x8x64) (v : Arr S256x64x8x128) : Arr S256x8x64x128 := Host.dotGeneral dot_S256x64x8x64_S256x64x8x128_S256x8x64x128_1_1_3_3_02_02 none (mulf k (broadcastInDim S256x64x8x64 ![0, 1, 2, 3] bcast_S1x64x8x1_S256x64x8x64_0_1_2_3 (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (subf (broadcastInDim S64 ![] bcast_S_S64 (constant S_ .f32 0x427C0000#32)) (sitofp .f32 (iotaInDim S64 32 0))))) (broadcastInDim S8x64 ![0, 1] bcast_S8x1_S8x64_0_1 (broadcastInDim S8x1 ![0] bcast_S8_S8x1_0 lgArr)))) transposes_S8x64_S64x8_1_0)))) v

/-- How much of the state is left after a chunk. -/
def leftArr : Arr S8x1x1 := broadcastInDim S8x1x1 ![0] bcast_S8_S8x1x1_0 (Host.exp (mulf (broadcastInDim S8 ![] bcast_S_S8 (constant S_ .f32 0x42800000#32)) lgArr))

end Cert.ReferenceIdeal.Parts

end
-- ==== Proof.Tail.RefRead.lean ====
/-
  The parts of the tail's reference at an index.
-/
module

public import proofs.«01_k».proof.Proof.Tail.RefParts
public import proofs.«01_k».proof.Proof.Tail.Spec
public import proofs.«01_k».proof.Proof.Tail.Real
public import Idealize.ShloMosaic.Lib.Pointwise

@[expose] public section

set_option maxRecDepth 16384

noncomputable section

namespace Cert.ReferenceIdeal.Parts

open Cert.ReferenceIdeal Cert.ReferenceIdeal.Gen Idealize.ShloMosaic Idealize.ShloMosaic.TcCoe Cert.Tail

theorem lgArr_at (h : Fin 8) : (lgArr (ix1 h) : EReal) = ((Real.log (gamma h.val) : ℝ) : EReal) := by
  rw [← coe_log _ (by omega)]
  pointwise [lgArr]

theorem angArr_at (R : Fin 16384) (i : Fin 32) : (angArr (ix2 R i) : EReal) = (((R.val : ℝ) * inv i.val : ℝ) : EReal) := by
  rw [EReal.coe_mul, ← coe_inv _ (by omega), ← coe_nat _ (by omega)]
  pointwise [angArr]

theorem turned_at (x : Arr S16384x8x64) (R : Fin 16384) (h : Fin 8) (y : Fin 64 → ℝ) (hx : ∀ l, x (ix3 R h l) = ((y l : ℝ) : EReal)) (l : Fin 64) :
    (turned x (ix3 R h l) : EReal) = ((rot y R.val l : ℝ) : EReal) := by
  pointwise [turned]
  simp only [angArr_at, hx, Ideal.cos_coe, Ideal.sin_coe, ← EReal.coe_mul, ← EReal.coe_sub, ← EReal.coe_add]
  unfold rot
  split_ifs with c
  all_goals first
    | rfl
    | (rw [show (⟨32 + (l.val - 32), by omega⟩ : Fin 64) = l from Fin.ext (by dsimp only; omega)])
    | (exact absurd rfl ‹_›)

variable (P : Fin 16384 → Fin 9216 → ℝ)

theorem queryArr_at (p : Arr S16384x9216) (hp : ∀ R c, 2048 ≤ c.val → c.val < 4096 → p (ix2 R c) = ((P R c : ℝ) : EReal))
    (n : Fin 256) (i : Fin 64) (h : Fin 8) (l : Fin 64) : (queryArr p (ix4 n i h l) : EReal) = ((qry P h (64 * n.val + i.val) l : ℝ) : EReal) := by
  pointwise [queryArr]
  rw [turned_at (y := fun l => P ⟨64 * n.val + i.val, by omega⟩ ⟨2048 + (64 * h.val + l.val), by omega⟩)]
  · simp only [qry, Nat.mod_eq_of_lt (show 64 * n.val + i.val < 16384 by omega), mul_comm n.val 64]
  · intro l
    pointwise []
    rw [hp _ _ (by dsimp only; omega) (by dsimp only; omega)]
    congr 3 <;> omega

theorem keyArr_at (p : Arr S16384x9216) (hp : ∀ R c, 2048 ≤ c.val → c.val < 4096 → p (ix2 R c) = ((P R c : ℝ) : EReal))
    (n : Fin 256) (i : Fin 64) (h : Fin 8) (l : Fin 64) : (keyArr p (ix4 n i h l) : EReal) = ((key P h (64 * n.val + i.val) l : ℝ) : EReal) := by
  pointwise [keyArr]
  rw [turned_at (y := fun l => P ⟨64 * n.val + i.val, by omega⟩ ⟨2560 + (64 * h.val + l.val), by omega⟩), lit_eighth, ← EReal.coe_mul]
  · simp only [key, Nat.mod_eq_of_lt (show 64 * n.val + i.val < 16384 by omega), mul_comm n.val 64]
  · intro l
    pointwise []
    rw [hp _ _ (by dsimp only; omega) (by dsimp only; omega)]
    congr 3 <;> omega

theorem valueArr_at (p : Arr S16384x9216) (hp : ∀ R c, 2048 ≤ c.val → c.val < 4096 → p (ix2 R c) = ((P R c : ℝ) : EReal))
    (n : Fin 256) (i : Fin 64) (h : Fin 8) (e : Fin 128) : (valueArr p (ix4 n i h e) : EReal) = ((val P h (64 * n.val + i.val) e : ℝ) : EReal) := by
  pointwise [valueArr]
  rw [hp _ _ (by dsimp only; omega) (by dsimp only; omega)]
  simp only [val, Nat.mod_eq_of_lt (show 64 * n.val + i.val < 16384 by omega), mul_comm n.val 64, mul_comm h.val 128]

theorem retArr_at (q k : Arr S256x64x8x64) (v : Arr S256x64x8x128) (prev : Arr S256x8x64x128)
    (hq : ∀ n i h l, (q (ix4 n i h l) : EReal) = ((qry P h (64 * n.val + i.val) l : ℝ) : EReal))
    (hk : ∀ n i h l, (k (ix4 n i h l) : EReal) = ((key P h (64 * n.val + i.val) l : ℝ) : EReal))
    (hv : ∀ n i h l, (v (ix4 n i h l) : EReal) = ((val P h (64 * n.val + i.val) l : ℝ) : EReal))
    (hprev : ∀ n h d e, (prev (ix4 n h d e) : EReal) = ((stateOf P h (64 * n.val) d e : ℝ) : EReal))
    (R : Fin 16384) (h : Fin 8) (e : Fin 128) :
    (retArr q k v prev (ix3 R h e) : EReal) = ((rowOf P h R.val e : ℝ) : EReal) := by
  pointwise [retArr]
  simp only [hq, hk, hv, hprev, lgArr_at]
  have w : ∀ x : Fin 64, Ideal.exp (FloatOps.absf (F := Ideal) (φ := .f32) ((FloatOps.sitofp (F := Ideal) .f32 (BitVec.ofNat 32 (R.val % 64)) : EReal)
      - (FloatOps.sitofp (F := Ideal) .f32 (BitVec.ofNat 32 x.val) : EReal)) * ((Real.log (gamma h.val) : ℝ) : EReal))
      = ((gamma h.val ^ gap (R.val % 64) x.val : ℝ) : EReal) := by
    intro x
    rw [coe_nat _ (by omega), coe_nat _ (by omega), ← EReal.coe_sub, abs_gap]
    exact exp_log _ _ _ rfl
  have u : Ideal.exp (((FloatOps.sitofp (F := Ideal) .f32 (BitVec.ofNat 32 (R.val % 64)) : EReal) + 1) * ((Real.log (gamma h.val) : ℝ) : EReal))
      = ((gamma h.val ^ (R.val % 64 + 1) : ℝ) : EReal) := by
    rw [coe_nat _ (by omega), ← EReal.coe_one, ← EReal.coe_add]
    exact exp_log _ _ _ (by push_cast; rfl)
  simp only [w, u, ← EReal.coe_mul, ← coe_sum, ← EReal.coe_add, rowOf, row, stateOf, sum_range]
  congr 2
  · exact Finset.sum_congr rfl fun j _ => mul_comm _ _
  · congr 1
    exact Finset.sum_congr rfl fun d _ => mul_comm _ _

theorem kvArr_at (k : Arr S256x64x8x64) (v : Arr S256x64x8x128)
    (hk : ∀ n i h l, (k (ix4 n i h l) : EReal) = ((key P h (64 * n.val + i.val) l : ℝ) : EReal))
    (hv : ∀ n i h l, (v (ix4 n i h l) : EReal) = ((val P h (64 * n.val + i.val) l : ℝ) : EReal))
    (n : Fin 256) (h : Fin 8) (d : Fin 64) (e : Fin 128) :
    (kvArr k v (ix4 n h d e) : EReal)
      = ((∑ j ∈ Finset.range 64, key P h (64 * n.val + j) d * gamma h.val ^ (64 - 1 - j) * val P h (64 * n.val + j) e : ℝ) : EReal) := by
  pointwise [kvArr]
  have w : ∀ x : Fin 64, Ideal.exp ((Ideal.ofBits .f32 0x427C0000#32
      - (FloatOps.sitofp (F := Ideal) .f32 (BitVec.ofNat 32 x.val) : EReal)) * ((Real.log (gamma h.val) : ℝ) : EReal))
      = ((gamma h.val ^ (64 - 1 - x.val) : ℝ) : EReal) := by
    intro x
    rw [coe_nat _ (by omega), lit_63, ← EReal.coe_sub]
    exact exp_log _ _ _ (by rw [Nat.cast_sub (by omega)]; push_cast; norm_num)
  simp only [hk, hv, lgArr_at, w, ← EReal.coe_mul, ← coe_sum, sum_range]

theorem leftArr_at (h : Fin 8) : (leftArr (ix3 h 0 0) : EReal) = ((gamma h.val ^ 64 : ℝ) : EReal) := by
  pointwise [leftArr]
  rw [lgArr_at, lit_64]
  exact exp_log _ _ _ (by push_cast; rfl)

theorem gArr_at (y : Arr S16384x1024) (R : Fin 16384) (c : Fin 1024) : gArr y (ix2 R c) = ge (y (ix2 R c)) := by
  pointwise [gArr]
  rfl

theorem ysArr_at (y : Arr S16384x1024) (p : Arr S16384x9216) (wg : Arr S1024x1024) (b : Arr S1024) (R : Fin 16384) (c : Fin 1024) :
    ysArr y p wg b (ix2 R c) = gated (fun c => y (ix2 R c)) (fun j c => wg (ix2 j c)) (fun c => b (ix1 c)) (p (ix2 R ⟨1024 + c.val, by omega⟩)) c := by
  pointwise [ysArr]
  simp only [gArr_at]
  rfl

theorem yrArr_at (o : Arr S16384x8x128) (p : Arr S16384x9216) (R : Fin 16384) (c : Fin 1024) :
    yrArr o p (ix2 R c) = headOut (fun e => o (ix3 R ⟨c.val / 128, by omega⟩ e)) (p (ix2 R ⟨4096 + c.val, by omega⟩)) ⟨c.val % 128, by omega⟩ := by
  pointwise [yrArr]
  rfl

theorem downArr_at (s r : Arr S16384x1024) (p : Arr S16384x9216) (ws wr : Arr S1024x2048) (wo : Arr S2048x2048) (R : Fin 16384) (j : Fin 2048) :
    downArr s r p ws wr wo (ix2 R j) = ∑ k, mixed (fun c => s (ix2 R c)) (fun c => r (ix2 R c)) (fun c k => ws (ix2 c k)) (fun c k => wr (ix2 c k))
      (fun k => p (ix2 R ⟨5120 + k.val, by omega⟩)) (fun k => p (ix2 R ⟨7168 + k.val, by omega⟩)) k * wo (ix2 k j) := by
  pointwise [downArr]
  rfl

theorem resultArr_at (d x : Arr S16384x2048) (g : Arr S2048) (R : Fin 16384) (j : Fin 2048) :
    resultArr d x g (ix2 R j) = x (ix2 R j) + normed (fun j => d (ix2 R j)) (fun j => g (ix1 j)) j := by
  pointwise [resultArr]
  rfl

end Cert.ReferenceIdeal.Parts

end
-- ==== Proof.Tail.RefLoop.lean ====
/-
  The states before the chunks, as the reference's loop leaves them.
-/
module

public import proofs.«01_k».proof.Proof.Tail.RefRead

@[expose] public section

set_option maxRecDepth 16384

noncomputable section

namespace Cert.ReferenceIdeal.Parts

open Cert.ReferenceIdeal Cert.ReferenceIdeal.Gen Cert.ReferenceIdeal.Value Idealize.ShloMosaic Idealize.ShloMosaic.TcCoe Idealize.ShloMosaic.StableHlo Cert.Tail

variable (m : (ℓ : Loc nD τ sig) → Buf (Elt Ideal) ℓ)

/-- The projected rows. -/
abbrev proj (c : Dev nD) : Arr S16384x9216 := extf .f32 (φ := .bf16) (m ((c.tc : Thread nD τ).loc main_arg1)) bitsLt_bf16_f32

/-- The contents after `n` trips of the loop. -/
def trips (c : Dev nD) (n : ℕ) := (STEP (F := Ideal))^[n] (entryContents preI m c)

theorem trips_succ (c : Dev nD) (n : ℕ) : trips m c (n + 1) = STEP (trips m c n) := Function.iterate_succ_apply' _ _ _

set_option maxHeartbeats 4000000 in
theorem entry_kv (c : Dev nD) : entryContents preI m c (Proc.devRef .tc main_v74_0) = kvArr (keyArr (proj m c)) (valueArr (proj m c)) := by
  simp only [entryContents, preI, afterL_cons, afterL_nil]
  after_reads_simp
  rfl

set_option maxHeartbeats 4000000 in
theorem entry_left (c : Dev nD) : entryContents preI m c (Proc.devRef .tc main_v74_1) = leftArr := by
  simp only [entryContents, preI, afterL_cons, afterL_nil]
  after_reads_simp
  rfl

set_option maxHeartbeats 4000000 in
theorem entry_state (c : Dev nD) : entryContents preI m c (Proc.devRef .tc main_v74_3) = (fun _ => (0 : EReal)) := by
  simp only [entryContents, preI, afterL_cons, afterL_nil]
  after_reads_simp
  funext i
  show Ideal.ofBits .f32 0x00000000#32 = _
  simp [Ideal.ofBits, Ideal.ieee]

theorem trips_kv (c : Dev nD) (n : ℕ) : trips m c n (Proc.devRef .tc main_v74_0) = kvArr (keyArr (proj m c)) (valueArr (proj m c)) := by
  induction n with
  | zero => exact entry_kv m c
  | succ n ih => rw [trips_succ, STEP_main_v74_0]; exact ih

theorem trips_left (c : Dev nD) (n : ℕ) : trips m c n (Proc.devRef .tc main_v74_1) = leftArr := by
  induction n with
  | zero => exact entry_left m c
  | succ n ih => rw [trips_succ, STEP_main_v74_1]; exact ih

theorem trips_count (c : Dev nD) (n : ℕ) : trips m c n (Proc.devRef .tc main_v74_2) = fun _ => BitVec.ofNat 32 n := by
  induction n with
  | zero => exact ctr_entry m c
  | succ n ih =>
    rw [trips_succ, STEP_main_v74_2]
    unfold step_main_v74_2
    rw [ih]
    funext i
    show BitVec.ofNat 32 n + 1#32 = _
    rw [BitVec.ofNat_add]

theorem word_small (n : ℕ) (h : n < 256) : (BitVec.ofNat 32 n).toInt = n := by
  rw [BitVec.toInt_ofNat']
  simp only [Int.bmod]
  omega

theorem slice_at (X : Arr S256x8x64x128) (n : ℕ) (hn : n < 256) (s : Fin 4 → Int) (hs : s = ![(n : Int), 0, 0, 0]) (h : Fin 8) (d : Fin 64) (e : Fin 128) :
    shapeCast S8x64x128 (Host.dynamicSlice S1x8x64x128 X s sliceFits_S256x8x64x128_S1x8x64x128) shapeCasts_S1x8x64x128_S8x64x128 (ix3 h d e)
      = X (ix4 ⟨n, hn⟩ h d e) := by
  subst hs
  pointwise []
  have c0 : ∀ q, Host.clampedStart S256x8x64x128 S1x8x64x128 q ![(n : Int), 0, 0, 0] 0 = n := fun q =>
    Host.clampedStart_of_le q _ 0 n rfl (show n + 1 ≤ 256 by omega)
  have c1 : ∀ q, Host.clampedStart S256x8x64x128 S1x8x64x128 q ![(n : Int), 0, 0, 0] 1 = 0 := fun q =>
    Host.clampedStart_of_le q _ 1 0 rfl (show 0 + 8 ≤ 8 by omega)
  have c2 : ∀ q, Host.clampedStart S256x8x64x128 S1x8x64x128 q ![(n : Int), 0, 0, 0] 2 = 0 := fun q =>
    Host.clampedStart_of_le q _ 2 0 rfl (show 0 + 64 ≤ 64 by omega)
  have c3 : ∀ q, Host.clampedStart S256x8x64x128 S1x8x64x128 q ![(n : Int), 0, 0, 0] 3 = 0 := fun q =>
    Host.clampedStart_of_le q _ 3 0 rfl (show 0 + 128 ≤ 128 by omega)
  simp only [c0, c1, c2, c3, Nat.zero_add]

theorem update_at (X : Arr S256x8x64x128) (u : Arr S8x64x128) (n : ℕ) (hn : n < 256) (s : Fin 4 → Int) (hs : s = ![(n : Int), 0, 0, 0])
    (j : Fin 256) (h : Fin 8) (d : Fin 64) (e : Fin 128) :
    Host.dynamicUpdateSlice X (broadcastInDim S1x8x64x128 ![1, 2, 3] bcast_S8x64x128_S1x8x64x128_1_2_3 u) s updateFits_S256x8x64x128_S1x8x64x128 (ix4 j h d e)
      = if j.val = n then u (ix3 h d e) else X (ix4 j h d e) := by
  subst hs
  pointwise []
  have c0 : ∀ q, Host.clampedStart S256x8x64x128 S1x8x64x128 q ![(n : Int), 0, 0, 0] 0 = n := fun q =>
    Host.clampedStart_of_le q _ 0 n rfl (show n + 1 ≤ 256 by omega)
  have c1 : ∀ q, Host.clampedStart S256x8x64x128 S1x8x64x128 q ![(n : Int), 0, 0, 0] 1 = 0 := fun q =>
    Host.clampedStart_of_le q _ 1 0 rfl (show 0 + 8 ≤ 8 by omega)
  have c2 : ∀ q, Host.clampedStart S256x8x64x128 S1x8x64x128 q ![(n : Int), 0, 0, 0] 2 = 0 := fun q =>
    Host.clampedStart_of_le q _ 2 0 rfl (show 0 + 64 ≤ 64 by omega)
  have c3 : ∀ q, Host.clampedStart S256x8x64x128 S1x8x64x128 q ![(n : Int), 0, 0, 0] 3 = 0 := fun q =>
    Host.clampedStart_of_le q _ 3 0 rfl (show 0 + 128 ≤ 128 by omega)
  simp only [c0, c1, c2, c3, Nat.sub_zero, Nat.zero_le, and_true]
  by_cases q : j.val = n
  · rw [if_pos q, dif_pos (by omega)]
  · rw [if_neg q, dif_neg (by omega)]

theorem start_eq (n : ℕ) (hn : n < 256) (V : IVec S_ 32) (hV : V = fun _ => BitVec.ofNat 32 n) :
    (fun k => (((![V, constantI S_ 32 0#32, constantI S_ 32 0#32, constantI S_ 32 0#32] : Fin 4 → (⟨S_, .i32⟩ : BufTy).Contents (Elt Ideal))) k
      (Shape.Idx.first h_S_)).toInt) = ![(n : Int), 0, 0, 0] := by
  subst hV
  funext k
  match k with
  | ⟨0, _⟩ => exact word_small n hn
  | ⟨1, _⟩ => rfl
  | ⟨2, _⟩ => rfl
  | ⟨3, _⟩ => rfl

variable (P : Fin 16384 → Fin 9216 → ℝ)

theorem trips_state (c : Dev nD) (hp : ∀ R c', 2048 ≤ c'.val → c'.val < 4096 → proj m c (ix2 R c') = ((P R c' : ℝ) : EReal))
    (n : ℕ) (hn : n ≤ 256) (h : Fin 8) (d : Fin 64) (e : Fin 128) :
    (trips m c n (Proc.devRef .tc main_v74_3) (ix3 h d e) : EReal) = ((stateOf P h (64 * n) d e : ℝ) : EReal) := by
  induction n with
  | zero => rw [show trips m c 0 (Proc.devRef .tc main_v74_3) = _ from entry_state m c]; rfl
  | succ n ih =>
    have ih := ih (by omega)
    rw [trips_succ, STEP_main_v74_3]
    unfold step_main_v74_3
    refine (congrArg (fun b : EReal => (HMul.hMul : EReal → EReal → EReal) (trips m c n (Proc.devRef .tc main_v74_3) (ix3 h d e))
      (broadcastInDim S8x64x128 ![0, 1, 2] bcast_S8x1x1_S8x64x128_0_1_2 (trips m c n (Proc.devRef .tc main_v74_1)) (ix3 h d e)) + b)
      (slice_at (trips m c n (Proc.devRef .tc main_v74_0)) n (by omega) _ (start_eq n (by omega) _ (trips_count m c n)) h d e)).trans ?_
    dsimp only
    have el : (broadcastInDim S8x64x128 ![0, 1, 2] bcast_S8x1x1_S8x64x128_0_1_2 (trips m c n (Proc.devRef .tc main_v74_1)) (ix3 h d e) : EReal)
        = leftArr (ix3 h 0 0) := by
      rw [trips_left m c n]
      pointwise []
    have ek : (trips m c n (Proc.devRef .tc main_v74_0) (ix4 ⟨n, by omega⟩ h d e) : EReal) = _ :=
      (congrFun (trips_kv m c n) _).trans (kvArr_at P _ _ (keyArr_at P _ hp) (valueArr_at P _ hp) ⟨n, by omega⟩ h d e)
    rw [el, ek, ih, leftArr_at, ← EReal.coe_mul, ← EReal.coe_add, stateOf, stateOf, show 64 * (n + 1) = 64 * n + 64 by ring, state_add]

theorem trips_prev (c : Dev nD) (hp : ∀ R c', 2048 ≤ c'.val → c'.val < 4096 → proj m c (ix2 R c') = ((P R c' : ℝ) : EReal))
    (n : ℕ) (hn : n ≤ 256) (j : Fin 256) (hj : j.val < n) (h : Fin 8) (d : Fin 64) (e : Fin 128) :
    (trips m c n (Proc.devRef .tc main_v74_4) (ix4 j h d e) : EReal) = ((stateOf P h (64 * j.val) d e : ℝ) : EReal) := by
  induction n with
  | zero => omega
  | succ n ih =>
    rw [trips_succ, STEP_main_v74_4]
    unfold step_main_v74_4
    refine (update_at (trips m c n (Proc.devRef .tc main_v74_4)) (trips m c n (Proc.devRef .tc main_v74_3)) n (by omega) _
      (start_eq n (by omega) _ (trips_count m c n)) j h d e).trans ?_
    split_ifs with q
    · rw [q]; exact trips_state m P c hp n (by omega) h d e
    · exact ih (by omega) (by omega)

set_option maxHeartbeats 4000000 in
theorem out_eq (c : Dev nD) : out_main_v274 (trips m c 256)
    = resultArr (downArr (ysArr (extf .f32 (φ := .bf16) (trips m c 256 (Proc.devRef .tc main_arg0)) bitsLt_bf16_f32) (extf .f32 (φ := .bf16) (trips m c 256 (Proc.devRef .tc main_arg1)) bitsLt_bf16_f32)
          (extf .f32 (φ := .bf16) (trips m c 256 (Proc.devRef .tc main_arg3)) bitsLt_bf16_f32) (trips m c 256 (Proc.devRef .tc main_arg4)))
        (yrArr (retArr (queryArr (extf .f32 (φ := .bf16) (trips m c 256 (Proc.devRef .tc main_arg1)) bitsLt_bf16_f32)) (keyArr (extf .f32 (φ := .bf16) (trips m c 256 (Proc.devRef .tc main_arg1)) bitsLt_bf16_f32))
          (valueArr (extf .f32 (φ := .bf16) (trips m c 256 (Proc.devRef .tc main_arg1)) bitsLt_bf16_f32)) (trips m c 256 (Proc.devRef .tc main_v74_4))) (extf .f32 (φ := .bf16) (trips m c 256 (Proc.devRef .tc main_arg1)) bitsLt_bf16_f32))
        (extf .f32 (φ := .bf16) (trips m c 256 (Proc.devRef .tc main_arg1)) bitsLt_bf16_f32)
        (extf .f32 (φ := .bf16) (trips m c 256 (Proc.devRef .tc main_arg5)) bitsLt_bf16_f32) (extf .f32 (φ := .bf16) (trips m c 256 (Proc.devRef .tc main_arg6)) bitsLt_bf16_f32)
        (extf .f32 (φ := .bf16) (trips m c 256 (Proc.devRef .tc main_arg7)) bitsLt_bf16_f32))
      (trips m c 256 (Proc.devRef .tc main_arg2)) (trips m c 256 (Proc.devRef .tc main_arg8)) := by
  generalize trips m c 256 = V0
  rfl

end Cert.ReferenceIdeal.Parts

end
-- ==== Proof.Tail.RefResult.lean ====
/-
  The reference's result, entry by entry.
-/
module

public import proofs.«01_k».proof.Proof.Tail.RefLoop
public import proofs.«01_k».proof.Proof.Tail.Result

@[expose] public section

set_option maxRecDepth 16384

noncomputable section

namespace Cert.ReferenceIdeal.Parts

open Cert.ReferenceIdeal Cert.ReferenceIdeal.Gen Cert.ReferenceIdeal.Value Idealize.ShloMosaic Idealize.ShloMosaic.TcCoe Idealize.ShloMosaic.StableHlo Cert.Tail

variable (m : (ℓ : Loc nD τ sig) → Buf (Elt Ideal) ℓ) (P : Fin 16384 → Fin 9216 → ℝ)

theorem result_at (c : Dev nD) (hp : ∀ R c', 2048 ≤ c'.val → c'.val < 4096 → (m ((c.tc : Thread nD τ).loc main_arg1) (ix2 R c') : EReal) = ((P R c' : ℝ) : EReal))
    (R : Fin 16384) (j : Fin 2048) :
    (out_main_v274 ((STEP (F := Ideal))^[256] (entryContents preI m c)) (ix2 R j) : EReal)
      = resultAt P (fun R k => m ((c.tc : Thread nD τ).loc main_arg0) (ix2 R k)) (fun R k => m ((c.tc : Thread nD τ).loc main_arg1) (ix2 R k))
        (fun R k => m ((c.tc : Thread nD τ).loc main_arg2) (ix2 R k)) (fun j k => m ((c.tc : Thread nD τ).loc main_arg3) (ix2 j k))
        (fun k => m ((c.tc : Thread nD τ).loc main_arg4) (ix1 k)) (fun j k => m ((c.tc : Thread nD τ).loc main_arg5) (ix2 j k))
        (fun j k => m ((c.tc : Thread nD τ).loc main_arg6) (ix2 j k)) (fun j k => m ((c.tc : Thread nD τ).loc main_arg7) (ix2 j k))
        (fun k => m ((c.tc : Thread nD τ).loc main_arg8) (ix1 k)) R j := by
  have e0 : trips m c 256 (Proc.devRef .tc main_arg0) = _ := iter_main_arg0 m c 256
  have e1 : trips m c 256 (Proc.devRef .tc main_arg1) = _ := iter_main_arg1 m c 256
  have e2 : trips m c 256 (Proc.devRef .tc main_arg2) = _ := iter_main_arg2 m c 256
  have e3 : trips m c 256 (Proc.devRef .tc main_arg3) = _ := iter_main_arg3 m c 256
  have e4 : trips m c 256 (Proc.devRef .tc main_arg4) = _ := iter_main_arg4 m c 256
  have e5 : trips m c 256 (Proc.devRef .tc main_arg5) = _ := iter_main_arg5 m c 256
  have e6 : trips m c 256 (Proc.devRef .tc main_arg6) = _ := iter_main_arg6 m c 256
  have e7 : trips m c 256 (Proc.devRef .tc main_arg7) = _ := iter_main_arg7 m c 256
  have e8 : trips m c 256 (Proc.devRef .tc main_arg8) = _ := iter_main_arg8 m c 256
  have hp' : ∀ R c', 2048 ≤ c'.val → c'.val < 4096 → proj m c (ix2 R c') = ((P R c' : ℝ) : EReal) := hp
  have hret : ∀ R h e, (retArr (queryArr (proj m c)) (keyArr (proj m c)) (valueArr (proj m c)) (trips m c 256 (Proc.devRef .tc main_v74_4)) (ix3 R h e) : EReal)
      = ((rowOf P h R.val e : ℝ) : EReal) :=
    retArr_at P _ _ _ _ (queryArr_at P _ hp') (keyArr_at P _ hp') (valueArr_at P _ hp')
      (fun n h d e => trips_prev m P c hp' 256 le_rfl n n.isLt h d e)
  have o := out_eq m c
  rw [e0, e1, e2, e3, e4, e5, e6, e7, e8] at o
  refine (congrFun o (ix2 R j)).trans ?_
  refine (resultArr_at _ _ _ R j).trans ?_
  unfold resultAt merged
  refine congrArg₂ (HAdd.hAdd : EReal → EReal → EReal) rfl (congrArg₂ (fun a b => normed a b j) (funext fun j => ?_) rfl)
  refine (downArr_at _ _ _ _ _ _ R j).trans ?_
  refine Finset.sum_congr rfl fun k _ => congrArg₂ (HMul.hMul : EReal → EReal → EReal) ?_ rfl
  have es : (fun c' => ysArr (extf .f32 (φ := .bf16) (m ((c.tc : Thread nD τ).loc main_arg0)) bitsLt_bf16_f32) (proj m c)
      (extf .f32 (φ := .bf16) (m ((c.tc : Thread nD τ).loc main_arg3)) bitsLt_bf16_f32) (m ((c.tc : Thread nD τ).loc main_arg4)) (ix2 R c')) = _ :=
    funext fun c' => ysArr_at _ _ _ _ R c'
  have er : (fun c' => yrArr (retArr (queryArr (proj m c)) (keyArr (proj m c)) (valueArr (proj m c)) (trips m c 256 (Proc.devRef .tc main_v74_4))) (proj m c) (ix2 R c'))
      = fun c' : Fin 1024 => headOut (fun e => ((rowOf P ⟨c'.val / 128, by omega⟩ R.val e : ℝ) : EReal)) (proj m c (ix2 R ⟨4096 + c'.val, by omega⟩)) ⟨c'.val % 128, by omega⟩ :=
    funext fun c' => (yrArr_at _ _ R c').trans (by simp only [hret])
  exact congrArg₂ (fun s r => mixed s r (fun j k => m ((c.tc : Thread nD τ).loc main_arg5) (ix2 j k)) (fun j k => m ((c.tc : Thread nD τ).loc main_arg6) (ix2 j k))
    (fun k => m ((c.tc : Thread nD τ).loc main_arg1) (ix2 R ⟨5120 + k.val, by omega⟩)) (fun k => m ((c.tc : Thread nD τ).loc main_arg1) (ix2 R ⟨7168 + k.val, by omega⟩)) k) es er

end Cert.ReferenceIdeal.Parts

end
-- ==== Proof.TailValue.lean ====
/-
  The tail and its reference leave equal arrays over the extended reals.
-/
module

public import proofs.«01_k».proof.Defs
public import proofs.«01_k».proof.Proof.TailIdeal.Array
public import proofs.«01_k».proof.Proof.Tail.RefResult
public import proofs.«01_k».proof.Proof.Gen.Pre_finite_qkv

@[expose] public section

set_option maxRecDepth 16384

noncomputable section

open Idealize.ShloMosaic Idealize.ShloMosaic.TcCoe Idealize.SL.Sem

namespace Cert.Proof

theorem infinity : Ideal.ofBits .f32 0x7F800000#32 = ⊤ := by
  simp [Ideal.ofBits, Ideal.ieee]

/-- An entry whose magnitude is below infinity is a real number. -/
theorem real_of_lt (x : EReal) (h : Ideal.cmp .olt (max x (-x)) (Ideal.ofBits .f32 0x7F800000#32) = 1#1) :
    x = ((x.toReal : ℝ) : EReal) := by
  rw [infinity] at h
  have lt : max x (-x) < ⊤ := by
    by_contra hn
    simp [Ideal.cmp, hn] at h
  refine (EReal.coe_toReal (fun e => ?_) (fun e => ?_)).symm
  · rw [e] at lt
    simp at lt
  · rw [e] at lt
    simp at lt

/-- What the precondition says of the queries, keys and values. -/
theorem real_of_finite (m : (ℓ : Loc Cert.KernelIdeal.nD Cert.KernelIdeal.τ Cert.KernelIdeal.sig) → Buf (Elt Ideal) ℓ)
    (h : Cert.Pre_KernelIdeal_finite_qkv m) (c : Dev Cert.KernelIdeal.nD) (R : Fin 16384) (k : Fin 9216) (h1 : 2048 ≤ k.val) (h2 : k.val < 4096) :
    (m ((c : Thread Cert.KernelIdeal.nD Cert.KernelIdeal.τ).loc Cert.KernelIdeal.main_arg1) (ix2 R k) : EReal)
      = (((m ((c : Thread Cert.KernelIdeal.nD Cert.KernelIdeal.τ).loc Cert.KernelIdeal.main_arg1) (ix2 R k) : EReal).toReal : ℝ) : EReal) := by
  refine real_of_lt _ (Eq.trans ?_ (congrFun (h c) (ix2 R ⟨k.val - 2048, by omega⟩)))
  have e : m ((c : Thread Cert.KernelIdeal.nD Cert.KernelIdeal.τ).loc Cert.KernelIdeal.main_arg1) (ix2 R k)
      = extractStridedSlice Cert.Pre_finite_qkv.S16384x2048 ![0, 2048] (m ((c : Thread Cert.KernelIdeal.nD Cert.KernelIdeal.τ).loc Cert.KernelIdeal.main_arg1))
        Cert.Pre_finite_qkv.Gen.slices_S16384x9216_S16384x2048_0_2048 (ix2 R ⟨k.val - 2048, by omega⟩) := by
    unfold extractStridedSlice
    refine congrArg _ (funext fun a => ?_)
    match a with
    | ⟨0, _⟩ => exact Fin.ext (Nat.zero_add _).symm
    | ⟨1, _⟩ => exact Fin.ext (Nat.add_sub_cancel' h1).symm
  exact congrArg (fun x : EReal => Ideal.cmp .olt (max x (-x)) (Ideal.ofBits .f32 0x7F800000#32)) e

/-- Over the extended reals the tail equals its reference. -/
theorem tail_algebraic : Cert.algebraic_KernelIdeal_ReferenceIdeal_pre_finite_qkv := by
  pair_intro
  · run_from Cert.KernelIdeal.Gen.run_array m g
  · run_from Cert.ReferenceIdeal.Value.run m' g'
    obtain ⟨e0, e1, e2, e3, e4, e5, e6, e7, e8⟩ := hagree c
    have hk := real_of_finite m hpre c
    have hr : ∀ (R : Fin 16384) (k : Fin 9216), 2048 ≤ k.val → k.val < 4096 →
        (m' ((c : Thread Cert.ReferenceIdeal.nD Cert.ReferenceIdeal.τ).loc Cert.ReferenceIdeal.main_arg1) (ix2 R k) : EReal)
          = (((m ((c : Thread Cert.KernelIdeal.nD Cert.KernelIdeal.τ).loc Cert.KernelIdeal.main_arg1) (ix2 R k) : EReal).toReal : ℝ) : EReal) :=
      fun R k h1 h2 => (congrFun e1 (ix2 R k)).trans (hk R k h1 h2)
    rw [Cert.KernelIdeal.Tail.result_array m (fun R k => (m ((c : Thread Cert.KernelIdeal.nD Cert.KernelIdeal.τ).loc Cert.KernelIdeal.main_arg1) (ix2 R k) : EReal).toReal) c hk]
    funext i
    idx_vars i
    refine (Cert.ReferenceIdeal.Parts.result_at m' _ c hr _ _).trans ?_
    rw [e0, e1, e2, e3, e4, e5, e6, e7, e8]
    rfl

end Cert.Proof

end
-- ==== Proof.InprojBlock.lean ====
/-
  One grid point of the input projection, entry by entry over the extended reals: the first point of a row block
  normalises its 1024 rows and keeps them, every point multiplies the kept rows by its 2304 columns of the weight, and
  every point casts its rows of the four later weights.
-/
module

public import proofs.«01_k».proof.Proof.Gen.InprojIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.InprojIdeal.Block

open Cert.InprojIdeal Cert.InprojIdeal.Gen Idealize.ShloMosaic Idealize.ShloMosaic.TcCoe

/-- Entry `k` of a row `x` divided by its root mean square and multiplied by the gain `g`. -/
def normRow (x g : Fin 2048 → EReal) (k : Fin 2048) : EReal :=
  x k * Ideal.rsqrt (Ideal.div (∑ j, x j * x j) (Ideal.ofBits .f32 0x45000000#32) + Ideal.ofBits .f32 0x358637BD#32) * g k

variable (m : (ℓ : Loc nD τ sig) → Buf (Elt Ideal) ℓ)

/-- The first point of a row block keeps its normalised rows. -/
theorem kept_A (c : Dev nD) (t : Fin cfg0.N) (h0 : t.val % 4 = 0) (h1 : ¬1 ≤ t.val % 4) (r : Fin 1024) (k : Fin 2048) :
    (outsAt0 m c t.val t.isLt).2.2.2.2.2 (ix2 r k)
      = normRow (fun k => iblk m c 0 t (ix2 r k)) (fun k => iblk m c 1 t (ix2 0 k)) k := by
  rw [outsAt0_A m c t h0 h1]
  dsimp only
  frame_open
  frame_out
  canon_tiles x e using View.cover_of_tiledBy _ ![128, 256] (by sl_kernel_rfl) _
  all_goals
    idx_vars x
    obtain rfl : k = x1 := Fin.ext e1
    have er : (⟨_, e0 ▸ r.isLt⟩ : Fin 1024) = r := Fin.ext e0.symm
    open_payloads
    pointwise
    simp only [er, normRow]

/-- The other points of a row block carry the kept rows. -/
theorem kept_B (c : Dev nD) (t : Fin cfg0.N) (h0 : ¬t.val % 4 = 0) (h1 : 1 ≤ t.val % 4) :
    (outsAt0 m c t.val t.isLt).2.2.2.2.2
      = (outsAt0 m c (t.val - 1) (Nat.lt_of_le_of_lt (Nat.sub_le _ _) t.isLt)).2.2.2.2.2 := by
  rw [outsAt0_B m c t h0 h1]
  frame_open
  rfl

/-- The first point of a row block multiplies the normalised rows by its columns of the weight. -/
theorem out_A (c : Dev nD) (t : Fin cfg0.N) (h0 : t.val % 4 = 0) (h1 : ¬1 ≤ t.val % 4) (r : Fin 1024) (k : Fin 2304) :
    (outsAt0 m c t.val t.isLt).1 (ix2 r k)
      = ∑ j : Fin 2048, normRow (fun k => iblk m c 0 t (ix2 r k)) (fun k => iblk m c 1 t (ix2 0 k)) j * iblk m c 2 t (ix2 j k) := by
  rw [outsAt0_A m c t h0 h1]
  dsimp only
  frame_open
  frame_out
  canon_tiles x e using View.cover_of_tiledBy _ ![128, 256] (by sl_kernel_rfl) _
  all_goals
    idx_vars x
    have er : (⟨_, e0 ▸ r.isLt⟩ : Fin 1024) = r := Fin.ext e0.symm
    have ek : (⟨_, e1 ▸ k.isLt⟩ : Fin 2304) = k := Fin.ext e1.symm
    open_payloads
    pointwise
    simp only [er, ek, normRow]

/-- The other points multiply the kept rows by theirs. -/
theorem out_B (c : Dev nD) (t : Fin cfg0.N) (h0 : ¬t.val % 4 = 0) (h1 : 1 ≤ t.val % 4) (r : Fin 1024) (k : Fin 2304) :
    (outsAt0 m c t.val t.isLt).1 (ix2 r k)
      = ∑ j : Fin 2048, (outsAt0 m c (t.val - 1) (Nat.lt_of_le_of_lt (Nat.sub_le _ _) t.isLt)).2.2.2.2.2 (ix2 r j)
          * iblk m c 2 t (ix2 j k) := by
  rw [outsAt0_B m c t h0 h1]
  dsimp only
  frame_open
  frame_out
  simp only [read_unread_whole]
  canon_tiles x e using View.cover_of_tiledBy _ ![128, 256] (by sl_kernel_rfl) _
  all_goals
    idx_vars x
    have er : (⟨_, e0 ▸ r.isLt⟩ : Fin 1024) = r := Fin.ext e0.symm
    have ek : (⟨_, e1 ▸ k.isLt⟩ : Fin 2304) = k := Fin.ext e1.symm
    try simp only [Fin.eta] at er ek
    open_payloads
    pointwise
    simp only [er, ek]

/-- Every point casts its rows of the later weights, which over the extended reals leaves them as they are. -/
theorem casts (c : Dev nD) (t : Fin cfg0.N) :
    (outsAt0 m c t.val t.isLt).2.1 = iblk m c 3 t ∧ (outsAt0 m c t.val t.isLt).2.2.1 = iblk m c 4 t
      ∧ (outsAt0 m c t.val t.isLt).2.2.2.1 = iblk m c 5 t ∧ (outsAt0 m c t.val t.isLt).2.2.2.2.1 = iblk m c 6 t := by
  by_cases h0 : t.val % 4 = 0
  · rw [outsAt0_A m c t h0 (by omega)]
    dsimp only
    refine ⟨?_, ?_, ?_, ?_⟩ <;> · frame_open; frame_out; open_payloads; funext x; idx_vars x; pointwise
  · rw [outsAt0_B m c t h0 (by omega)]
    dsimp only
    refine ⟨?_, ?_, ?_, ?_⟩ <;> · frame_open; frame_out; open_payloads; funext x; idx_vars x; pointwise

end Cert.InprojIdeal.Block

end
-- ==== Proof.InprojArray.lean ====
/-
  The arrays the input projection leaves, over the extended reals: the projection is the normalised rows times the
  weight, and the four later weights are copied.
-/
module

public import proofs.«01_k».proof.Proof.InprojBlock
public import Idealize.ShloMosaic.Lib.Claim

@[expose] public section

set_option maxRecDepth 16384

noncomputable section

namespace Cert.InprojIdeal.Block

open Cert.InprojIdeal Cert.InprojIdeal.Gen Cert.InprojIdeal.Value Idealize.ShloMosaic Idealize.ShloMosaic.TcCoe

variable (m : (ℓ : Loc nD τ sig) → Buf (Elt Ideal) ℓ)

/-- Where each window's block lies at each grid point: the rows follow the point's row block, the columns of the weight
    its column block, and the later weights the point itself. -/
theorem places : ∀ t : Fin cfg0.N, win0_0.index t = ![t.val / 4, 0] ∧ win0_1.index t = ![0, 0]
    ∧ win0_2.index t = ![0, t.val % 4] ∧ win0_3.index t = ![t.val, 0] ∧ win0_4.index t = ![t.val, 0]
    ∧ win0_5.index t = ![t.val, 0] ∧ win0_6.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, _)

theorem row_lt (t : Fin cfg0.N) (r : Fin 1024) : 1024 * (t.val / 4) + r.val < 16384 := by
  have h := t.isLt.trans_eq (show cfg0.N = 64 from N_0)
  omega

theorem column_lt (t : Fin cfg0.N) (k : Fin 2304) : 2304 * (t.val % 4) + k.val < 9216 := by omega

/-- The rows of the activations a point reads. -/
theorem block_rows (c : Dev nD) (t : Fin cfg0.N) (r : Fin 1024) (k : Fin 2048) :
    iblk m c 0 t (ix2 r k) = m ((c : Thread nD τ).loc main_arg0) (ix2 ⟨1024 * (t.val / 4) + r.val, row_lt t r⟩ k) := by
  blk_ext! [iblk, V, places t]

/-- The gain every point reads. -/
theorem block_gain (c : Dev nD) (t : Fin cfg0.N) (k : Fin 2048) :
    iblk m c 1 t (ix2 0 k) = m ((c : Thread nD τ).loc main_arg1) (ix1 k) := by
  blk_ext! [iblk, V, places t]

/-- The columns of the weight a point reads. -/
theorem block_weight (c : Dev nD) (t : Fin cfg0.N) (j : Fin 2048) (k : Fin 2304) :
    iblk m c 2 t (ix2 j k) = m ((c : Thread nD τ).loc main_arg2) (ix2 j ⟨2304 * (t.val % 4) + k.val, column_lt t k⟩) := by
  blk_ext! [iblk, V, places t]

/-- After any point the kept rows are those of its row block, normalised. -/
theorem kept (c : Dev nD) (n : ℕ) (hn : n < cfg0.N) (r : Fin 1024) (k : Fin 2048) :
    (outsAt0 m c n hn).2.2.2.2.2 (ix2 r k)
      = normRow (fun k => m ((c : Thread nD τ).loc main_arg0) (ix2 ⟨1024 * (n / 4) + r.val, row_lt ⟨n, hn⟩ r⟩ k))
          (fun k => m ((c : Thread nD τ).loc main_arg1) (ix1 k)) k := by
  induction n with
  | zero =>
    rw [kept_A m c ⟨0, hn⟩ (Nat.zero_mod _) (by simp)]
    simp only [block_rows, block_gain]
  | succ n ih =>
    by_cases h : (n + 1) % 4 = 0
    · rw [kept_A m c ⟨n + 1, hn⟩ h (by dsimp only; omega)]
      simp only [block_rows, block_gain]
    · have e := congrFun (kept_B m c ⟨n + 1, hn⟩ h (by dsimp only; omega)) (ix2 r k)
      have q : (n + 1) / 4 = n / 4 := by omega
      simp only [q]
      exact e.trans (ih (Nat.lt_of_succ_lt hn))

/-- What every point leaves of the projection. -/
theorem out_point (c : Dev nD) (t : Fin cfg0.N) (r : Fin 1024) (k : Fin 2304) :
    (outsAt0 m c t.val t.isLt).1 (ix2 r k)
      = ∑ j : Fin 2048, normRow (fun k => m ((c : Thread nD τ).loc main_arg0) (ix2 ⟨1024 * (t.val / 4) + r.val, row_lt t r⟩ k))
          (fun k => m ((c : Thread nD τ).loc main_arg1) (ix1 k)) j
          * m ((c : Thread nD τ).loc main_arg2) (ix2 j ⟨2304 * (t.val % 4) + k.val, column_lt t k⟩) := by
  by_cases h : t.val % 4 = 0
  · rw [out_A m c t h (by omega)]
    simp only [block_rows, block_gain, block_weight]
  · rw [out_B m c t h (by omega)]
    have q : (t.val - 1) / 4 = t.val / 4 := by omega
    refine Finset.sum_congr rfl fun j _ => ?_
    rw [kept, block_weight]
    simp only [q]

/-- The projection, entry by entry. -/
theorem projection (c : Dev nD) (r : Fin 16384) (k : Fin 9216) :
    G7 m c (ix2 r k)
      = ∑ j : Fin 2048, normRow (fun k => m ((c : Thread nD τ).loc main_arg0) (ix2 r k))
          (fun k => m ((c : Thread nD τ).loc main_arg1) (ix1 k)) j
          * m ((c : Thread nD τ).loc main_arg2) (ix2 j k) := by
  have hp : 4 * (r.val / 1024 - 0) + 1 * (k.val / 2304 - 0) < cfg0.N := by rw [show cfg0.N = 64 from N_0]; omega
  have e := out_point m c ⟨_, hp⟩ ⟨r.val % 1024, Nat.mod_lt _ (by decide)⟩ ⟨k.val % 2304, Nat.mod_lt _ (by decide)⟩
  rw [outsAt0_sweep] at e
  have er : (⟨1024 * ((4 * (r.val / 1024 - 0) + 1 * (k.val / 2304 - 0)) / 4) + r.val % 1024, row_lt ⟨_, hp⟩ ⟨r.val % 1024, Nat.mod_lt _ (by decide)⟩⟩ : Fin 16384) = r :=
    Fin.ext (by dsimp only; omega)
  have ek : (⟨2304 * ((4 * (r.val / 1024 - 0) + 1 * (k.val / 2304 - 0)) % 4) + k.val % 2304, column_lt ⟨_, hp⟩ ⟨k.val % 2304, Nat.mod_lt _ (by decide)⟩⟩ : Fin 9216) = k :=
    Fin.ext (by dsimp only; omega)
  rw [er, ek] at e
  rw [← e]
  unfold G7
  rw [dif_pos (show pt7Of (ix2 r k) < cfg0.N from hp)]
  refine congrArg _ (funext fun a => ?_)
  match a with
  | ⟨0, _⟩ => rfl
  | ⟨1, _⟩ => rfl

/-- The four later weights come out as they went in. -/
theorem weights (c : Dev nD) :
    G8 m c = m ((c : Thread nD τ).loc main_arg3) ∧ G9 m c = m ((c : Thread nD τ).loc main_arg4)
      ∧ G10 m c = m ((c : Thread nD τ).loc main_arg5) ∧ G11 m c = m ((c : Thread nD τ).loc main_arg6) := by
  refine ⟨(final8 m c).symm.trans ?_, (final9 m c).symm.trans ?_, (final10 m c).symm.trans ?_, (final11 m c).symm.trans ?_⟩
  · refine Pipeline.Dat.arrAt_eq_of_covers _ 8 _ (by decide +kernel) fun t hf y => ?_
    blk_simp
    rw [after0_8, (casts m c t).1]
    blk_ext! [iblk, V, places t]
  · refine Pipeline.Dat.arrAt_eq_of_covers _ 9 _ (by decide +kernel) fun t hf y => ?_
    blk_simp
    rw [after0_9, (casts m c t).2.1]
    blk_ext! [iblk, V, places t]
  · refine Pipeline.Dat.arrAt_eq_of_covers _ 10 _ (by decide +kernel) fun t hf y => ?_
    blk_simp
    rw [after0_10, (casts m c t).2.2.1]
    blk_ext! [iblk, V, places t]
  · refine Pipeline.Dat.arrAt_eq_of_covers _ 11 _ (by decide +kernel) fun t hf y => ?_
    blk_simp
    rw [after0_11, (casts m c t).2.2.2]
    blk_ext! [iblk, V, places t]

end Cert.InprojIdeal.Block

end
-- ==== Proof.InprojValue.lean ====
/-
  The input projection and its reference leave equal arrays over the extended reals.
-/
module

public import proofs.«01_k».proof.Defs
public import proofs.«01_k».proof.Proof.InprojArray
public import proofs.«01_k».proof.Proof.Gen.InprojReferenceIdeal.Run
public import proofs.«01_k».proof.Proof.Gen.InprojReferenceIdeal.Read

@[expose] public section

set_option maxRecDepth 16384

noncomputable section

open Idealize.ShloMosaic Idealize.ShloMosaic.TcCoe Idealize.SL.Sem

namespace Cert.InprojReferenceIdeal.Block

open Cert.InprojReferenceIdeal Cert.InprojReferenceIdeal.Read Cert.InprojIdeal.Block

/-- The reference's activations after its normalisation, entry by entry. -/
theorem normalised (x : (⟨S16384x2048, .f32⟩ : BufTy).Contents (Elt Ideal)) (g : (⟨S2048, .f32⟩ : BufTy).Contents (Elt Ideal))
    (r : Fin 16384) (k : Fin 2048) :
    val_main_v12 x g (ix2 r k) = normRow (fun k => x (ix2 r k)) (fun k => g (ix1 k)) k := by
  simp only [val_main_v12_apply, val_main_v9_apply, val_main_v8_apply, val_main_v7_apply, val_main_v6_apply,
    val_main_v5_apply, val_main_v4_apply, val_main_v3_apply, val_main_v2_apply, val_main_v1_apply, val_main_v0_apply,
    val_main_v10_apply, val_main_v11_apply, val_main_cst_apply, val_main_cst_0_apply, val_main_cst_1_apply]
  have ex : ∀ j, idx_main_v1 (idx_main_v2 (idx_main_v8 (ix2 r k))) j = ix2 r j := fun j => by
    funext a
    match a with
    | ⟨0, _⟩ => rfl
    | ⟨1, _⟩ => rfl
  have eg : idx_main_v10 (idx_main_v11 (ix2 r k)) = ix1 k := by
    funext a
    match a with
    | ⟨0, _⟩ => rfl
  have e0 : FloatOps.ofBits (F := Ideal) FTy.f32 0#32 = 0 := by simp [Ideal.ofBits_def, Ideal.ofBits, Ideal.ieee]
  simp only [ex, eg, e0]
  rw [zero_add]
  rfl

/-- The reference's projection, entry by entry. -/
theorem projected (x : (⟨S16384x2048, .f32⟩ : BufTy).Contents (Elt Ideal)) (g : (⟨S2048, .f32⟩ : BufTy).Contents (Elt Ideal))
    (w : (⟨S2048x9216, .f32⟩ : BufTy).Contents (Elt Ideal)) (r : Fin 16384) (k : Fin 9216) :
    val_main_v14 x g w (ix2 r k)
      = ∑ j : Fin 2048, normRow (fun k => x (ix2 r k)) (fun k => g (ix1 k)) j * w (ix2 j k) := by
  rw [val_main_v14_apply, val_main_v13_apply]
  refine Finset.sum_congr rfl fun j _ => ?_
  have el : lidx_main_v13 (ix2 r k) j = ix2 r j := by
    funext a
    match a with
    | ⟨0, _⟩ => rfl
    | ⟨1, _⟩ => rfl
  have er : ridx_main_v13 (ix2 r k) j = ix2 j k := by
    funext a
    match a with
    | ⟨0, _⟩ => rfl
    | ⟨1, _⟩ => rfl
  rw [el, er, normalised]

end Cert.InprojReferenceIdeal.Block

namespace Cert.Proof

/-- Over the extended reals the input projection equals its reference. -/
theorem inproj_algebraic : Cert.algebraic_InprojIdeal_InprojReferenceIdeal := by
  pair_intro
  · run_from Cert.InprojIdeal.Value.run m g
  · run_from Cert.InprojReferenceIdeal.Value.run m' g'
    · rw [Cert.InprojReferenceIdeal.Read.val_main_v14_eq]
      funext i
      idx_vars i
      exact (Cert.InprojReferenceIdeal.Block.projected _ _ _ _ _).trans (Cert.InprojIdeal.Block.projection m c _ _).symm
    · exact (Cert.InprojIdeal.Block.weights m c).1.symm
    · exact (Cert.InprojIdeal.Block.weights m c).2.1.symm
    · exact (Cert.InprojIdeal.Block.weights m c).2.2.1.symm
    · exact (Cert.InprojIdeal.Block.weights m c).2.2.2.symm

end Cert.Proof

end
-- ==== Proof.lean ====
module

public import proofs.«01_k».proof.Defs
public import proofs.«01_k».proof.Proof.TailBits.Frame
public import proofs.«01_k».proof.Proof.TailIdeal.Frame
public import proofs.«01_k».proof.Proof.Gen.ReferenceIdeal.Run
public import proofs.«01_k».proof.Proof.TailValue
public import proofs.«01_k».proof.Proof.Gen.Inproj.Frame
public import proofs.«01_k».proof.Proof.Gen.InprojIdeal.Frame
public import proofs.«01_k».proof.Proof.Gen.InprojReferenceIdeal.Run
public import proofs.«01_k».proof.Proof.InprojValue

@[expose] public section

noncomputable section

namespace Cert.Proof

open Idealize.ShloMosaic Idealize.ShloMosaic.TcCoe Idealize.SL.Sem

/-- The reference of the tail runs and leaves its arguments as they were. -/
theorem tail_reference_frame : Cert.quiescent_ReferenceIdeal (hReferenceIdeal := Cert.ReferenceIdeal.Gen.facts) :=
  fun m ρ _ => (θ_run _ _ _).mono (fun r h => ⟨fun c => (h c).2, sem_eq_zero_of_no_sems (by decide) r.2⟩) (Cert.ReferenceIdeal.Value.run m ρ)

/-- The reference of the input projection runs and leaves its arguments as they were. -/
theorem inproj_reference_frame : Cert.quiescent_InprojReferenceIdeal (hInprojReferenceIdeal := Cert.InprojReferenceIdeal.Gen.facts) :=
  fun m ρ _ => (θ_run _ _ _).mono (fun r h => ⟨fun c => (h c).2.2.2.2.2, sem_eq_zero_of_no_sems (by decide) r.2⟩) (Cert.InprojReferenceIdeal.Value.run m ρ)

/-- Each named constant denotes the exact decay across a block. -/
theorem tail_preserves : Cert.preserves_Kernel_KernelIdeal :=
  ⟨IdealRules.named_const.statement Cert.KernelIdeal.κ "decay0" .f32 0x399ACCA1#32 _ rfl,
    IdealRules.named_const.statement Cert.KernelIdeal.κ "decay1" .f32 0x3C9160A5#32 _ rfl,
    IdealRules.named_const.statement Cert.KernelIdeal.κ "decay2" .f32 0x3E097FCE#32 _ rfl,
    IdealRules.named_const.statement Cert.KernelIdeal.κ "decay3" .f32 0x3EBBFC5D#32 _ rfl,
    IdealRules.named_const.statement Cert.KernelIdeal.κ "decay4" .f32 0x3F1B322A#32 _ rfl,
    IdealRules.named_const.statement Cert.KernelIdeal.κ "decay5" .f32 0x3F475941#32 _ rfl,
    IdealRules.named_const.statement Cert.KernelIdeal.κ "decay6" .f32 0x3F61E98D#32 _ rfl,
    IdealRules.named_const.statement Cert.KernelIdeal.κ "decay7" .f32 0x3F707CE8#32 _ rfl⟩

theorem claim : Cert.Claim :=
  ⟨Cert.Kernel.Gen.facts, Cert.KernelIdeal.Gen.facts, Cert.ReferenceIdeal.Gen.facts, Cert.Inproj.Gen.facts, Cert.InprojIdeal.Gen.facts,
    Cert.InprojReferenceIdeal.Gen.facts, Cert.Pre_finite_qkv.Gen.facts,
    fun m ρ _ => Cert.Kernel.Gen.frame m ρ, fun m ρ _ => Cert.KernelIdeal.Gen.frame m ρ, fun m ρ _ => Cert.KernelIdeal.Gen.frame m ρ,
    tail_reference_frame, fun m ρ _ => tail_reference_frame m ρ trivial,
    fun m ρ _ => Cert.Inproj.Gen.frame m ρ, fun m ρ _ => Cert.InprojIdeal.Gen.frame m ρ, inproj_reference_frame,
    tail_preserves, tail_algebraic, trivial, inproj_algebraic⟩

end Cert.Proof

end
